-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v355) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x31x1024 : Shape := ⟨3, ![1, 31, 1024]⟩
abbrev S1x1024x1024 : Shape := ⟨3, ![1, 1024, 1024]⟩
abbrev S1x3x1024 : Shape := ⟨3, ![1, 3, 1024]⟩
abbrev S1024 : Shape := ⟨1, ![1024]⟩
abbrev S1024x9216 : Shape := ⟨2, ![1024, 9216]⟩
abbrev S31x1024 : Shape := ⟨2, ![31, 1024]⟩
abbrev S31x1x1024 : Shape := ⟨3, ![31, 1, 1024]⟩
abbrev S31x8x1024 : Shape := ⟨3, ![31, 8, 1024]⟩
abbrev S8x1024 : Shape := ⟨2, ![8, 1024]⟩
abbrev S1024x1024 : Shape := ⟨2, ![1024, 1024]⟩
abbrev S3x1024 : Shape := ⟨2, ![3, 1024]⟩
abbrev S3x1x1024 : Shape := ⟨3, ![3, 1, 1024]⟩
abbrev S3x8x1024 : Shape := ⟨3, ![3, 8, 1024]⟩
abbrev S1x256x1024 : Shape := ⟨3, ![1, 256, 1024]⟩
abbrev S256x1024 : Shape := ⟨2, ![256, 1024]⟩
abbrev S288x1024 : Shape := ⟨2, ![288, 1024]⟩
abbrev S264x1024 : Shape := ⟨2, ![264, 1024]⟩
abbrev S256x256 : Shape := ⟨2, ![256, 256]⟩
abbrev S32x1024 : Shape := ⟨2, ![32, 1024]⟩
abbrev S16 : Shape := ⟨1, ![16]⟩
abbrev S16x1 : Shape := ⟨2, ![16, 1]⟩
abbrev S256 : Shape := ⟨1, ![256]⟩
abbrev S256x1 : Shape := ⟨2, ![256, 1]⟩
abbrev S1024x256 : Shape := ⟨2, ![1024, 256]⟩
abbrev S8x128 : Shape := ⟨2, ![8, 128]⟩
abbrev S1x8x128 : Shape := ⟨3, ![1, 8, 128]⟩
abbrev S8 : Shape := ⟨1, ![8]⟩
abbrev S8x1 : Shape := ⟨2, ![8, 1]⟩
abbrev S1x256 : Shape := ⟨2, ![1, 256]⟩
abbrev S1x256x256 : Shape := ⟨3, ![1, 256, 256]⟩
abbrev S1x8x1024 : Shape := ⟨3, ![1, 8, 1024]⟩

abbrev nBuf : Space → Nat
  | .hbm => 41
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S1x1024, .f32⟩
  | .hbm, ⟨3, _⟩ => ⟨S1x1024x9216, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x3x1024, .f32⟩
  | .hbm, ⟨11, _⟩ => ⟨S1x1024x1024, .f32⟩
  | .hbm, ⟨12, _⟩ => ⟨S1x1024x1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1024x9216, .f32⟩
  | .hbm, ⟨17, _⟩ => ⟨S1024x9216, .bf16⟩
  | .hbm, ⟨18, _⟩ => ⟨S31x1024, .f32⟩
  | .hbm, ⟨19, _⟩ => ⟨S31x1x1024, .f32⟩
  | .hbm, ⟨20, _⟩ => ⟨S31x8x1024, .f32⟩
  | .hbm, ⟨21, _⟩ => ⟨S1024, .f32⟩
  | .hbm, ⟨22, _⟩ => ⟨S1x1024, .f32⟩
  | .hbm, ⟨23, _⟩ => ⟨S8x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S1024, .f32⟩
  | .hbm, ⟨31, _⟩ => ⟨S1x1024, .f32⟩
  | .hbm, ⟨32, _⟩ => ⟨S3x1024, .f32⟩
  | .hbm, ⟨33, _⟩ => ⟨S3x1x1024, .f32⟩
  | .hbm, ⟨34, _⟩ => ⟨S3x8x1024, .f32⟩
  | .hbm, ⟨35, _⟩ => ⟨S1024x1024, .f32⟩
  | .hbm, ⟨36, _⟩ => ⟨S1024x1024, .bf16⟩
  | .hbm, ⟨37, _⟩ => ⟨S1024x1024, .f32⟩
  | .hbm, ⟨38, _⟩ => ⟨S1024x1024, .bf16⟩
  | .hbm, ⟨39, _⟩ => ⟨S1x1024, .f32⟩
  | .hbm, ⟨40, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S16x1024, .f32⟩
  | .local _ .vmem, ⟨3, _⟩ => ⟨S1x1024, .f32⟩
  | .local _ .vmem, ⟨4, _⟩ => ⟨S1024x9216, .bf16⟩
  | .local _ .vmem, ⟨5, _⟩ => ⟨S31x8x1024, .f32⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S3x8x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S256x1024, .bf16⟩
  | .local _ .vmem, ⟨18, _⟩ => ⟨S288x1024, .f32⟩
  | .local _ .vmem, ⟨19, _⟩ => ⟨S256x1024, .f32⟩
  | .local _ .vmem, ⟨20, _⟩ => ⟨S264x1024, .f32⟩
  | .local _ .vmem, ⟨21, _⟩ => ⟨S256x256, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S32x1024, .f32⟩
  | .local _ .vmem, ⟨26, _⟩ => ⟨S8x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_97 : BitVec 32 := 0#32
  let c32_i32 : BitVec 32 := 32#32
  let v177 : BitVec 32 := Scalar.addi c0_i32_97 c32_i32
  let c1_i32_98 : BitVec 32 := 1#32
  ⟨c0_i32_97, v177, c1_i32_98⟩
def k0_off1 (k0_t1 : Fin k0_t1_loop.trips) (c0_i32_1321 : BitVec 32) : Fin 2 → Nat :=
  let c8_i32 : BitVec 32 := 8#32
  let c4_i32_1320 : BitVec 32 := 4#32
  let c0_i32_97 : BitVec 32 := 0#32
  let c1_i32_98 : BitVec 32 := 1#32
  let arg27 : BitVec 32 := Scf.iv c0_i32_97 c1_i32_98 k0_t1
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c0_1322 : Index := 0#32
  ![v1688.toNat, 0]
def k0_off2 (k0_t1 : Fin k0_t1_loop.trips) : Fin 2 → Nat :=
  let c0_i32_97 : BitVec 32 := 0#32
  let c1_i32_98 : BitVec 32 := 1#32
  let arg27 : BitVec 32 := Scf.iv c0_i32_97 c1_i32_98 k0_t1
  let c8_i32_1433 : BitVec 32 := 8#32
  let v1845 : BitVec 32 := Scalar.muli arg27 c8_i32_1433
  let v1846 : Index := Scalar.indexCast v1845
  let c0_1434 : Index := 0#32
  ![v1846.toNat, 0]
@[reducible] def k0_t2_loop : Scf.Loop 32 :=
  let c0_i32_202 : BitVec 32 := 0#32
  let c32_i32_203 : BitVec 32 := 32#32
  let v306 : BitVec 32 := Scalar.addi c0_i32_202 c32_i32_203
  let c1_i32_204 : BitVec 32 := 1#32
  ⟨c0_i32_202, v306, c1_i32_204⟩
def k0_off3 (k0_t2 : Fin k0_t2_loop.trips) (c0_i32_1321 : BitVec 32) : Fin 2 → Nat :=
  let c8_i32 : BitVec 32 := 8#32
  let c4_i32_1320 : BitVec 32 := 4#32
  let c0_i32_202 : BitVec 32 := 0#32
  let c1_i32_204 : BitVec 32 := 1#32
  let arg27 : BitVec 32 := Scf.iv c0_i32_202 c1_i32_204 k0_t2
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c128_1322 : Index := 128#32
  ![v1688.toNat, 128]
def k0_off4 (k0_t2 : Fin k0_t2_loop.trips) : Fin 2 → Nat :=
  let c0_i32_202 : BitVec 32 := 0#32
  let c1_i32_204 : BitVec 32 := 1#32
  let arg27 : BitVec 32 := Scf.iv c0_i32_202 c1_i32_204 k0_t2
  let c8_i32_1433 : BitVec 32 := 8#32
  let v1845 : BitVec 32 := Scalar.muli arg27 c8_i32_1433
  let v1846 : Index := Scalar.indexCast v1845
  let c128_1434 : Index := 128#32
  ![v1846.toNat, 128]
@[reducible] def k0_t3_loop : Scf.Loop 32 :=
  let c0_i32_322 : BitVec 32 := 0#32
  let c32_i32_323 : BitVec 32 := 32#32
  let v454 : BitVec 32 := Scalar.addi c0_i32_322 c32_i32_323
  let c1_i32_324 : BitVec 32 := 1#32
  ⟨c0_i32_322, v454, c1_i32_324⟩
def k0_off5 (k0_t3 : Fin k0_t3_loop.trips) (c0_i32_1321 : BitVec 32) : Fin 2 → Nat :=
  let c8_i32 : BitVec 32 := 8#32
  let c4_i32_1320 : BitVec 32 := 4#32
  let c0_i32_322 : BitVec 32 := 0#32
  let c1_i32_324 : BitVec 32 := 1#32
  let arg27 : BitVec 32 := Scf.iv c0_i32_322 c1_i32_324 k0_t3
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c256_1322 : Index := 256#32
  ![v1688.toNat, 256]
def k0_off6 (k0_t3 : Fin k0_t3_loop.trips) : Fin 2 → Nat :=
  let c0_i32_322 : BitVec 32 := 0#32
  let c1_i32_324 : BitVec 32 := 1#32
  let arg27 : BitVec 32 := Scf.iv c0_i32_322 c1_i32_324 k0_t3
  let c8_i32_1433 : BitVec 32 := 8#32
  let v1845 : BitVec 32 := Scalar.muli arg27 c8_i32_1433
  let v1846 : Index := Scalar.indexCast v1845
  let c256_1434 : Index := 256#32
  ![v1846.toNat, 256]
@[reducible] def k0_t4_loop : Scf.Loop 32 :=
  let c0_i32_428 : BitVec 32 := 0#32
  let c32_i32_429 : BitVec 32 := 32#32
  let v583 : BitVec 32 := Scalar.addi c0_i32_428 c32_i32_429
  let c1_i32_430 : BitVec 32 := 1#32
  ⟨c0_i32_428, v583, c1_i32_430⟩
def k0_off7 (k0_t4 : Fin k0_t4_loop.trips) (c0_i32_1321 : BitVec 32) : Fin 2 → Nat :=
  let c8_i32 : BitVec 32 := 8#32
  let c4_i32_1320 : BitVec 32 := 4#32
  let c0_i32_428 : BitVec 32 := 0#32
  let c1_i32_430 : BitVec 32 := 1#32
  let arg27 : BitVec 32 := Scf.iv c0_i32_428 c1_i32_430 k0_t4
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c384_1322 : Index := 384#32
  ![v1688.toNat, 384]
def k0_off8 (k0_t4 : Fin k0_t4_loop.trips) : Fin 2 → Nat :=
  let c0_i32_428 : BitVec 32 := 0#32
  let c1_i32_430 : BitVec 32 := 1#32
  let arg27 : BitVec 32 := Scf.iv c0_i32_428 c1_i32_430 k0_t4
  let c8_i32_1433 : BitVec 32 := 8#32
  let v1845 : BitVec 32 := Scalar.muli arg27 c8_i32_1433
  let v1846 : Index := Scalar.indexCast v1845
  let c384_1434 : Index := 384#32
  ![v1846.toNat, 384]
@[reducible] def k0_t5_loop : Scf.Loop 32 :=
  let c0_i32_548 : BitVec 32 := 0#32
  let c32_i32_549 : BitVec 32 := 32#32
  let v731 : BitVec 32 := Scalar.addi c0_i32_548 c32_i32_549
  let c1_i32_550 : BitVec 32 := 1#32
  ⟨c0_i32_548, v731, c1_i32_550⟩
def k0_off9 (k0_t5 : Fin k0_t5_loop.trips) (c0_i32_1321 : BitVec 32) : Fin 2 → Nat :=
  let c8_i32 : BitVec 32 := 8#32
  let c4_i32_1320 : BitVec 32 := 4#32
  let c0_i32_548 : BitVec 32 := 0#32
  let c1_i32_550 : BitVec 32 := 1#32
  let arg27 : BitVec 32 := Scf.iv c0_i32_548 c1_i32_550 k0_t5
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c512_1322 : Index := 512#32
  ![v1688.toNat, 512]
def k0_off10 (k0_t5 : Fin k0_t5_loop.trips) : Fin 2 → Nat :=
  let c0_i32_548 : BitVec 32 := 0#32
  let c1_i32_550 : BitVec 32 := 1#32
  let arg27 : BitVec 32 := Scf.iv c0_i32_548 c1_i32_550 k0_t5
  let c8_i32_1433 : BitVec 32 := 8#32
  let v1845 : BitVec 32 := Scalar.muli arg27 c8_i32_1433
  let v1846 : Index := Scalar.indexCast v1845
  let c512_1434 : Index := 512#32
  ![v1846.toNat, 512]
@[reducible] def k0_t6_loop : Scf.Loop 32 :=
  let c0_i32_654 : BitVec 32 := 0#32
  let c32_i32_655 : BitVec 32 := 32#32
  let v860 : BitVec 32 := Scalar.addi c0_i32_654 c32_i32_655
  let c1_i32_656 : BitVec 32 := 1#32
  ⟨c0_i32_654, v860, c1_i32_656⟩
def k0_off11 (k0_t6 : Fin k0_t6_loop.trips) (c0_i32_1321 : BitVec 32) : Fin 2 → Nat :=
  let c8_i32 : BitVec 32 := 8#32
  let c4_i32_1320 : BitVec 32 := 4#32
  let c0_i32_654 : BitVec 32 := 0#32
  let c1_i32_656 : BitVec 32 := 1#32
  let arg27 : BitVec 32 := Scf.iv c0_i32_654 c1_i32_656 k0_t6
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c640_1322 : Index := 640#32
  ![v1688.toNat, 640]
def k0_off12 (k0_t6 : Fin k0_t6_loop.trips) : Fin 2 → Nat :=
  let c0_i32_654 : BitVec 32 := 0#32
  let c1_i32_656 : BitVec 32 := 1#32
  let arg27 : BitVec 32 := Scf.iv c0_i32_654 c1_i32_656 k0_t6
  let c8_i32_1433 : BitVec 32 := 8#32
  let v1845 : BitVec 32 := Scalar.muli arg27 c8_i32_1433
  let v1846 : Index := Scalar.indexCast v1845
  let c640_1434 : Index := 640#32
  ![v1846.toNat, 640]
@[reducible] def k0_t7_loop : Scf.Loop 32 :=
  let c0_i32_774 : BitVec 32 := 0#32
  let c32_i32_775 : BitVec 32 := 32#32
  let v1008 : BitVec 32 := Scalar.addi c0_i32_774 c32_i32_775
  let c1_i32_776 : BitVec 32 := 1#32
  ⟨c0_i32_774, v1008, c1_i32_776⟩
def k0_off13 (k0_t7 : Fin k0_t7_loop.trips) (c0_i32_1321 : BitVec 32) : Fin 2 → Nat :=
  let c8_i32 : BitVec 32 := 8#32
  let c4_i32_1320 : BitVec 32 := 4#32
  let c0_i32_774 : BitVec 32 := 0#32
  let c1_i32_776 : BitVec 32 := 1#32
  let arg27 : BitVec 32 := Scf.iv c0_i32_774 c1_i32_776 k0_t7
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c768_1322 : Index := 768#32
  ![v1688.toNat, 768]
def k0_off14 (k0_t7 : Fin k0_t7_loop.trips) : Fin 2 → Nat :=
  let c0_i32_774 : BitVec 32 := 0#32
  let c1_i32_776 : BitVec 32 := 1#32
  let arg27 : BitVec 32 := Scf.iv c0_i32_774 c1_i32_776 k0_t7
  let c8_i32_1433 : BitVec 32 := 8#32
  let v1845 : BitVec 32 := Scalar.muli arg27 c8_i32_1433
  let v1846 : Index := Scalar.indexCast v1845
  let c768_1434 : Index := 768#32
  ![v1846.toNat, 768]
@[reducible] def k0_t8_loop : Scf.Loop 32 :=
  let c0_i32_880 : BitVec 32 := 0#32
  let c32_i32_881 : BitVec 32 := 32#32
  let v1137 : BitVec 32 := Scalar.addi c0_i32_880 c32_i32_881
  let c1_i32_882 : BitVec 32 := 1#32
  ⟨c0_i32_880, v1137, c1_i32_882⟩
def k0_off15 (k0_t8 : Fin k0_t8_loop.trips) (c0_i32_1321 : BitVec 32) : Fin 2 → Nat :=
  let c8_i32 : BitVec 32 := 8#32
  let c4_i32_1320 : BitVec 32 := 4#32
  let c0_i32_880 : BitVec 32 := 0#32
  let c1_i32_882 : BitVec 32 := 1#32
  let arg27 : BitVec 32 := Scf.iv c0_i32_880 c1_i32_882 k0_t8
  let v1685 : BitVec 32 := Scalar.addi c4_i32_1320 arg27
  let v1686 : BitVec 32 := Scalar.subi v1685 c0_i32_1321
  let v1687 : BitVec 32 := Scalar.muli c8_i32 v1686
  let v1688 : Index := Scalar.indexCast v1687
  let c896_1322 : Index := 896#32
  ![v1688.toNat, 896]
def k0_off16 (k0_t8 : Fin k0_t8_loop.trips) : Fin 2 → Nat :=
  let c0_i32_880 : BitVec 32 := 0#32
  let c1_i32_882 : BitVec 32 := 1#32
  let arg27 : BitVec 32 := Scf.iv c0_i32_880 c1_i32_882 k0_t8
  let c8_i32_1433 : BitVec 32 := 8#32
  let v1845 : BitVec 32 := Scalar.muli arg27 c8_i32_1433
  let v1846 : Index := Scalar.indexCast v1845
  let c896_1434 : Index := 896#32
  ![v1846.toNat, 896]
@[reducible] def k0_t9_loop : Scf.Loop 32 :=
  let c0_i32_884 : BitVec 32 := 0#32
  let c32_i32_885 : BitVec 32 := 32#32
  let v1139 : BitVec 32 := Scalar.addi c0_i32_884 c32_i32_885
  let c1_i32_886 : BitVec 32 := 1#32
  ⟨c0_i32_884, v1139, c1_i32_886⟩
def k0_off17 (k0_t9 : Fin k0_t9_loop.trips) : Fin 2 → Nat :=
  let c0_i32_1321 : BitVec 32 := 0#32
  let c0_i32_884 : BitVec 32 := 0#32
  let c1_i32_886 : BitVec 32 := 1#32
  let arg27 : BitVec 32 := Scf.iv c0_i32_884 c1_i32_886 k0_t9
  let c1_i32_1320 : BitVec 32 := 1#32
  let v1685 : BitVec 32 := Scalar.muli arg27 c1_i32_1320
  let v1686 : BitVec 32 := Scalar.addi c0_i32_1321 v1685
  let c8_i32 : BitVec 32 := 8#32
  let v1687 : BitVec 32 := Scalar.muli v1686 c8_i32
  let v1688 : Index := Scalar.indexCast v1687
  let c0_1322 : Index := 0#32
  ![v1688.toNat, 0]
@[reducible] def k0_t10_loop : Scf.Loop 32 :=
  let c0_i32_954 : BitVec 32 := 0#32
  let c32_i32_955 : BitVec 32 := 32#32
  let v1238 : BitVec 32 := Scalar.addi c0_i32_954 c32_i32_955
  let c1_i32_956 : BitVec 32 := 1#32
  ⟨c0_i32_954, v1238, c1_i32_956⟩
def k0_off18 (k0_t10 : Fin k0_t10_loop.trips) : Fin 2 → Nat :=
  let c8_i32 : BitVec 32 := 8#32
  let c1_i32_1320 : BitVec 32 := 1#32
  let c0_i32_954 : BitVec 32 := 0#32
  let c1_i32_956 : BitVec 32 := 1#32
  let arg27 : BitVec 32 := Scf.iv c0_i32_954 c1_i32_956 k0_t10
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c0_1322 : Index := 0#32
  ![v1688.toNat, 0]
def k0_off19 (k0_t10 : Fin k0_t10_loop.trips) : Fin 2 → Nat :=
  let c0_i32_954 : BitVec 32 := 0#32
  let c1_i32_956 : BitVec 32 := 1#32
  let arg27 : BitVec 32 := Scf.iv c0_i32_954 c1_i32_956 k0_t10
  let c8_i32_1334 : BitVec 32 := 8#32
  let v1705 : BitVec 32 := Scalar.muli arg27 c8_i32_1334
  let v1706 : Index := Scalar.indexCast v1705
  let c0_1335 : Index := 0#32
  ![v1706.toNat, 0]
@[reducible] def k0_t11_loop : Scf.Loop 32 :=
  let c0_i32_970 : BitVec 32 := 0#32
  let c32_i32_971 : BitVec 32 := 32#32
  let v1254 : BitVec 32 := Scalar.addi c0_i32_970 c32_i32_971
  let c1_i32_972 : BitVec 32 := 1#32
  ⟨c0_i32_970, v1254, c1_i32_972⟩
def k0_off20 (k0_t11 : Fin k0_t11_loop.trips) : Fin 2 → Nat :=
  let c8_i32 : BitVec 32 := 8#32
  let c1_i32_1320 : BitVec 32 := 1#32
  let c0_i32_970 : BitVec 32 := 0#32
  let c1_i32_972 : BitVec 32 := 1#32
  let arg27 : BitVec 32 := Scf.iv c0_i32_970 c1_i32_972 k0_t11
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c128_1322 : Index := 128#32
  ![v1688.toNat, 128]
def k0_off21 (k0_t11 : Fin k0_t11_loop.trips) : Fin 2 → Nat :=
  let c0_i32_970 : BitVec 32 := 0#32
  let c1_i32_972 : BitVec 32 := 1#32
  let arg27 : BitVec 32 := Scf.iv c0_i32_970 c1_i32_972 k0_t11
  let c8_i32_1334 : BitVec 32 := 8#32
  let v1705 : BitVec 32 := Scalar.muli arg27 c8_i32_1334
  let v1706 : Index := Scalar.indexCast v1705
  let c128_1335 : Index := 128#32
  ![v1706.toNat, 128]
@[reducible] def k0_t12_loop : Scf.Loop 32 :=
  let c0_i32_1011 : BitVec 32 := 0#32
  let c32_i32_1012 : BitVec 32 := 32#32
  let v1305 : BitVec 32 := Scalar.addi c0_i32_1011 c32_i32_1012
  let c1_i32_1013 : BitVec 32 := 1#32
  ⟨c0_i32_1011, v1305, c1_i32_1013⟩
def k0_off22 (k0_t12 : Fin k0_t12_loop.trips) : Fin 2 → Nat :=
  let c8_i32 : BitVec 32 := 8#32
  let c1_i32_1320 : BitVec 32 := 1#32
  let c0_i32_1011 : BitVec 32 := 0#32
  let c1_i32_1013 : BitVec 32 := 1#32
  let arg27 : BitVec 32 := Scf.iv c0_i32_1011 c1_i32_1013 k0_t12
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c256_1322 : Index := 256#32
  ![v1688.toNat, 256]
def k0_off23 (k0_t12 : Fin k0_t12_loop.trips) : Fin 2 → Nat :=
  let c0_i32_1011 : BitVec 32 := 0#32
  let c1_i32_1013 : BitVec 32 := 1#32
  let arg27 : BitVec 32 := Scf.iv c0_i32_1011 c1_i32_1013 k0_t12
  let c8_i32_1334 : BitVec 32 := 8#32
  let v1705 : BitVec 32 := Scalar.muli arg27 c8_i32_1334
  let v1706 : Index := Scalar.indexCast v1705
  let c0_1335 : Index := 0#32
  ![v1706.toNat, 0]
@[reducible] def k0_t13_loop : Scf.Loop 32 :=
  let c0_i32_1027 : BitVec 32 := 0#32
  let c32_i32_1028 : BitVec 32 := 32#32
  let v1321 : BitVec 32 := Scalar.addi c0_i32_1027 c32_i32_1028
  let c1_i32_1029 : BitVec 32 := 1#32
  ⟨c0_i32_1027, v1321, c1_i32_1029⟩
def k0_off24 (k0_t13 : Fin k0_t13_loop.trips) : Fin 2 → Nat :=
  let c8_i32 : BitVec 32 := 8#32
  let c1_i32_1320 : BitVec 32 := 1#32
  let c0_i32_1027 : BitVec 32 := 0#32
  let c1_i32_1029 : BitVec 32 := 1#32
  let arg27 : BitVec 32 := Scf.iv c0_i32_1027 c1_i32_1029 k0_t13
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c384_1322 : Index := 384#32
  ![v1688.toNat, 384]
def k0_off25 (k0_t13 : Fin k0_t13_loop.trips) : Fin 2 → Nat :=
  let c0_i32_1027 : BitVec 32 := 0#32
  let c1_i32_1029 : BitVec 32 := 1#32
  let arg27 : BitVec 32 := Scf.iv c0_i32_1027 c1_i32_1029 k0_t13
  let c8_i32_1334 : BitVec 32 := 8#32
  let v1705 : BitVec 32 := Scalar.muli arg27 c8_i32_1334
  let v1706 : Index := Scalar.indexCast v1705
  let c128_1335 : Index := 128#32
  ![v1706.toNat, 128]
@[reducible] def k0_t14_loop : Scf.Loop 32 :=
  let c0_i32_1068 : BitVec 32 := 0#32
  let c32_i32_1069 : BitVec 32 := 32#32
  let v1372 : BitVec 32 := Scalar.addi c0_i32_1068 c32_i32_1069
  let c1_i32_1070 : BitVec 32 := 1#32
  ⟨c0_i32_1068, v1372, c1_i32_1070⟩
def k0_off26 (k0_t14 : Fin k0_t14_loop.trips) : Fin 2 → Nat :=
  let c8_i32 : BitVec 32 := 8#32
  let c1_i32_1320 : BitVec 32 := 1#32
  let c0_i32_1068 : BitVec 32 := 0#32
  let c1_i32_1070 : BitVec 32 := 1#32
  let arg27 : BitVec 32 := Scf.iv c0_i32_1068 c1_i32_1070 k0_t14
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c512_1322 : Index := 512#32
  ![v1688.toNat, 512]
def k0_off27 (k0_t14 : Fin k0_t14_loop.trips) : Fin 2 → Nat :=
  let c0_i32_1068 : BitVec 32 := 0#32
  let c1_i32_1070 : BitVec 32 := 1#32
  let arg27 : BitVec 32 := Scf.iv c0_i32_1068 c1_i32_1070 k0_t14
  let c8_i32_1334 : BitVec 32 := 8#32
  let v1705 : BitVec 32 := Scalar.muli arg27 c8_i32_1334
  let v1706 : Index := Scalar.indexCast v1705
  let c0_1335 : Index := 0#32
  ![v1706.toNat, 0]
@[reducible] def k0_t15_loop : Scf.Loop 32 :=
  let c0_i32_1084 : BitVec 32 := 0#32
  let c32_i32_1085 : BitVec 32 := 32#32
  let v1388 : BitVec 32 := Scalar.addi c0_i32_1084 c32_i32_1085
  let c1_i32_1086 : BitVec 32 := 1#32
  ⟨c0_i32_1084, v1388, c1_i32_1086⟩
def k0_off28 (k0_t15 : Fin k0_t15_loop.trips) : Fin 2 → Nat :=
  let c8_i32 : BitVec 32 := 8#32
  let c1_i32_1320 : BitVec 32 := 1#32
  let c0_i32_1084 : BitVec 32 := 0#32
  let c1_i32_1086 : BitVec 32 := 1#32
  let arg27 : BitVec 32 := Scf.iv c0_i32_1084 c1_i32_1086 k0_t15
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c640_1322 : Index := 640#32
  ![v1688.toNat, 640]
def k0_off29 (k0_t15 : Fin k0_t15_loop.trips) : Fin 2 → Nat :=
  let c0_i32_1084 : BitVec 32 := 0#32
  let c1_i32_1086 : BitVec 32 := 1#32
  let arg27 : BitVec 32 := Scf.iv c0_i32_1084 c1_i32_1086 k0_t15
  let c8_i32_1334 : BitVec 32 := 8#32
  let v1705 : BitVec 32 := Scalar.muli arg27 c8_i32_1334
  let v1706 : Index := Scalar.indexCast v1705
  let c128_1335 : Index := 128#32
  ![v1706.toNat, 128]
@[reducible] def k0_t16_loop : Scf.Loop 32 :=
  let c0_i32_1125 : BitVec 32 := 0#32
  let c32_i32_1126 : BitVec 32 := 32#32
  let v1439 : BitVec 32 := Scalar.addi c0_i32_1125 c32_i32_1126
  let c1_i32_1127 : BitVec 32 := 1#32
  ⟨c0_i32_1125, v1439, c1_i32_1127⟩
def k0_off30 (k0_t16 : Fin k0_t16_loop.trips) : Fin 2 → Nat :=
  let c8_i32 : BitVec 32 := 8#32
  let c1_i32_1320 : BitVec 32 := 1#32
  let c0_i32_1125 : BitVec 32 := 0#32
  let c1_i32_1127 : BitVec 32 := 1#32
  let arg27 : BitVec 32 := Scf.iv c0_i32_1125 c1_i32_1127 k0_t16
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c768_1322 : Index := 768#32
  ![v1688.toNat, 768]
def k0_off31 (k0_t16 : Fin k0_t16_loop.trips) : Fin 2 → Nat :=
  let c0_i32_1125 : BitVec 32 := 0#32
  let c1_i32_1127 : BitVec 32 := 1#32
  let arg27 : BitVec 32 := Scf.iv c0_i32_1125 c1_i32_1127 k0_t16
  let c8_i32_1334 : BitVec 32 := 8#32
  let v1705 : BitVec 32 := Scalar.muli arg27 c8_i32_1334
  let v1706 : Index := Scalar.indexCast v1705
  let c0_1335 : Index := 0#32
  ![v1706.toNat, 0]
@[reducible] def k0_t17_loop : Scf.Loop 32 :=
  let c0_i32_1141 : BitVec 32 := 0#32
  let c32_i32_1142 : BitVec 32 := 32#32
  let v1455 : BitVec 32 := Scalar.addi c0_i32_1141 c32_i32_1142
  let c1_i32_1143 : BitVec 32 := 1#32
  ⟨c0_i32_1141, v1455, c1_i32_1143⟩
def k0_off32 (k0_t17 : Fin k0_t17_loop.trips) : Fin 2 → Nat :=
  let c8_i32 : BitVec 32 := 8#32
  let c1_i32_1320 : BitVec 32 := 1#32
  let c0_i32_1141 : BitVec 32 := 0#32
  let c1_i32_1143 : BitVec 32 := 1#32
  let arg27 : BitVec 32 := Scf.iv c0_i32_1141 c1_i32_1143 k0_t17
  let v1685 : BitVec 32 := Scalar.addi c1_i32_1320 arg27
  let c0_i32_1321 : BitVec 32 := 0#32
  let v1686 : BitVec 32 := Scalar.subi v1685 c0_i32_1321
  let v1687 : BitVec 32 := Scalar.muli c8_i32 v1686
  let v1688 : Index := Scalar.indexCast v1687
  let c896_1322 : Index := 896#32
  ![v1688.toNat, 896]
def k0_off33 (k0_t17 : Fin k0_t17_loop.trips) : Fin 2 → Nat :=
  let c0_i32_1141 : BitVec 32 := 0#32
  let c1_i32_1143 : BitVec 32 := 1#32
  let arg27 : BitVec 32 := Scf.iv c0_i32_1141 c1_i32_1143 k0_t17
  let c8_i32_1334 : BitVec 32 := 8#32
  let v1705 : BitVec 32 := Scalar.muli arg27 c8_i32_1334
  let v1706 : Index := Scalar.indexCast v1705
  let c128_1335 : Index := 128#32
  ![v1706.toNat, 128]
@[reducible] def k0_t18_loop : Scf.Loop 32 :=
  let c0_i32_1316 : BitVec 32 := 0#32
  let c32_i32_1317 : BitVec 32 := 32#32
  let v1684 : BitVec 32 := Scalar.addi c0_i32_1316 c32_i32_1317
  let c1_i32_1318 : BitVec 32 := 1#32
  ⟨c0_i32_1316, v1684, c1_i32_1318⟩
def k0_off34 (k0_t18 : Fin k0_t18_loop.trips) : Fin 3 → Nat :=
  let c0_1322 : Index := 0#32
  let c0_i32_1321 : BitVec 32 := 0#32
  let c0_i32_1316 : BitVec 32 := 0#32
  let c1_i32_1318 : BitVec 32 := 1#32
  let arg27 : BitVec 32 := Scf.iv c0_i32_1316 c1_i32_1318 k0_t18
  let c1_i32_1320 : BitVec 32 := 1#32
  let v1685 : BitVec 32 := Scalar.muli arg27 c1_i32_1320
  let v1686 : BitVec 32 := Scalar.addi c0_i32_1321 v1685
  let c8_i32 : BitVec 32 := 8#32
  let v1687 : BitVec 32 := Scalar.muli v1686 c8_i32
  let v1688 : Index := Scalar.indexCast v1687
  let c0_1323 : Index := 0#32
  ![0, v1688.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x9216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x4096x1024 : Shape := ⟨3, ![4, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x31x1024 : Shape := ⟨3, ![1, 31, 1024]⟩
abbrev S1x1024x1024 : Shape := ⟨3, ![1, 1024, 1024]⟩
abbrev S1x3x1024 : Shape := ⟨3, ![1, 3, 1024]⟩
abbrev S1024 : Shape := ⟨1, ![1024]⟩
abbrev S1x16x1024 : Shape := ⟨3, ![1, 16, 1024]⟩
abbrev S4x16x1024 : Shape := ⟨3, ![4, 16, 1024]⟩
abbrev S4x4112x1024 : Shape := ⟨3, ![4, 4112, 1024]⟩
abbrev S_ : Shape := ⟨0, ![]⟩
abbrev S4x4112 : Shape := ⟨2, ![4, 4112]⟩
abbrev S4x4112x1 : Shape := ⟨3, ![4, 4112, 1]⟩
abbrev S1x1x1024 : Shape := ⟨3, ![1, 1, 1024]⟩
abbrev S1024x9216 : Shape := ⟨2, ![1024, 9216]⟩
abbrev S4x4112x9216 : Shape := ⟨3, ![4, 4112, 9216]⟩
abbrev S31x1024 : Shape := ⟨2, ![31, 1024]⟩
abbrev S4x4142x1024 : Shape := ⟨3, ![4, 4142, 1024]⟩
abbrev S1024x1024 : Shape := ⟨2, ![1024, 1024]⟩
abbrev S3x1024 : Shape := ⟨2, ![3, 1024]⟩
abbrev S4x4114x1024 : Shape := ⟨3, ![4, 4114, 1024]⟩

abbrev nBuf : Space → Nat
  | .hbm => 417
  | .vmem => 0
  | .smem => 0
  | _ => 0

abbrev hbmTy0_0 (i : Nat) : BufTy := match i % 128 with
  | 0 => ⟨S4x4096x1024, .f32⟩
  | 1 => ⟨S16x1024, .f32⟩
  | 2 => ⟨S1x1024, .f32⟩
  | 3 => ⟨S1x1024x9216, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x3x1024, .f32⟩
  | 11 => ⟨S1x1024x1024, .f32⟩
  | 12 => ⟨S1x1024x1024, .f32⟩
  | 13 => ⟨S1024, .f32⟩
  | 14 => ⟨S1x16x1024, .f32⟩
  | 15 => ⟨S4x16x1024, .f32⟩
  | 16 => ⟨S4x4112x1024, .f32⟩
  | 17 => ⟨S1024, .f32⟩
  | 18 => ⟨S4x4112x1024, .f32⟩
  | 19 => ⟨S_, .f32⟩
  | 20 => ⟨S4x4112, .f32⟩
  | 21 => ⟨S4x4112x1, .f32⟩
  | 22 => ⟨S_, .f32⟩
  | 23 => ⟨S4x4112x1, .f32⟩
  | 24 => ⟨S4x4112x1, .f32⟩
  | 25 => ⟨S_, .f32⟩
  | 26 => ⟨S4x4112x1, .f32⟩
  | 27 => ⟨S4x4112x1, .f32⟩
  | 28 => ⟨S4x4112x1, .f32⟩
  | 29 => ⟨S4x4112x1024, .f32⟩
  | 30 => ⟨S4x4112x1024, .f32⟩
  | 31 => ⟨S1x1x1024, .f32⟩
  | 32 => ⟨S4x4112x1024, .f32⟩
  | 33 => ⟨S4x4112x1024, .f32⟩
  | 34 => ⟨S1024x9216, .f32⟩
  | 35 => ⟨S4x4112x9216, .f32⟩
  | 36 => ⟨S4x4112x1024, .f32⟩
  | 37 => ⟨S4x4112x1024, .f32⟩
  | 38 => ⟨S4x4112x1024, .f32⟩
  | 39 => ⟨S4x4112x1024, .f32⟩
  | 40 => ⟨S4x4112x1024, .f32⟩
  | 41 => ⟨S4x4112x1024, .f32⟩
  | 42 => ⟨S4x4112x1024, .f32⟩
  | 43 => ⟨S4x4112x1024, .f32⟩
  | 44 => ⟨S4x4112x1024, .f32⟩
  | 45 => ⟨S4x4112x1024, .f32⟩
  | 46 => ⟨S4x4112x1024, .f32⟩
  | 47 => ⟨S_, .f32⟩
  | 48 => ⟨S4x4112x1024, .f32⟩
  | 49 => ⟨S4x4112x1024, .f32⟩
  | 50 => ⟨S_, .f32⟩
  | 51 => ⟨S4x4112x1024, .f32⟩
  | 52 => ⟨S4x4112x1024, .f32⟩
  | 53 => ⟨S4x4112x1024, .f32⟩
  | 54 => ⟨S31x1024, .f32⟩
  | 55 => ⟨S_, .i32⟩
  | 56 => ⟨S_, .f32⟩
  | 57 => ⟨S4x4142x1024, .f32⟩
  | 58 => ⟨S4x4112x1024, .f32⟩
  | 59 => ⟨S1x1024, .f32⟩
  | 60 => ⟨S1024, .f32⟩
  | 61 => ⟨S1x1x1024, .f32⟩
  | 62 => ⟨S4x4112x1024, .f32⟩
  | 63 => ⟨S4x4112x1024, .f32⟩
  | 64 => ⟨S_, .f32⟩
  | 65 => ⟨S4x4112x1024, .f32⟩
  | 66 => ⟨S4x4112x1024, .f32⟩
  | 67 => ⟨S4x4112x1024, .f32⟩
  | 68 => ⟨S1x1024, .f32⟩
  | 69 => ⟨S1024, .f32⟩
  | 70 => ⟨S1x1x1024, .f32⟩
  | 71 => ⟨S4x4112x1024, .f32⟩
  | 72 => ⟨S4x4112x1024, .f32⟩
  | 73 => ⟨S4x4112x1024, .f32⟩
  | 74 => ⟨S4x4112x1024, .f32⟩
  | 75 => ⟨S1x1024, .f32⟩
  | 76 => ⟨S1024, .f32⟩
  | 77 => ⟨S1x1x1024, .f32⟩
  | 78 => ⟨S4x4112x1024, .f32⟩
  | 79 => ⟨S4x4112x1024, .f32⟩
  | 80 => ⟨S4x4112x1024, .f32⟩
  | 81 => ⟨S4x4112x1024, .f32⟩
  | 82 => ⟨S1x1024, .f32⟩
  | 83 => ⟨S1024, .f32⟩
  | 84 => ⟨S1x1x1024, .f32⟩
  | 85 => ⟨S4x4112x1024, .f32⟩
  | 86 => ⟨S4x4112x1024, .f32⟩
  | 87 => ⟨S4x4112x1024, .f32⟩
  | 88 => ⟨S4x4112x1024, .f32⟩
  | 89 => ⟨S1x1024, .f32⟩
  | 90 => ⟨S1024, .f32⟩
  | 91 => ⟨S1x1x1024, .f32⟩
  | 92 => ⟨S4x4112x1024, .f32⟩
  | 93 => ⟨S4x4112x1024, .f32⟩
  | 94 => ⟨S4x4112x1024, .f32⟩
  | 95 => ⟨S4x4112x1024, .f32⟩
  | 96 => ⟨S1x1024, .f32⟩
  | 97 => ⟨S1024, .f32⟩
  | 98 => ⟨S1x1x1024, .f32⟩
  | 99 => ⟨S4x4112x1024, .f32⟩
  | 100 => ⟨S4x4112x1024, .f32⟩
  | 101 => ⟨S4x4112x1024, .f32⟩
  | 102 => ⟨S4x4112x1024, .f32⟩
  | 103 => ⟨S1x1024, .f32⟩
  | 104 => ⟨S1024, .f32⟩
  | 105 => ⟨S1x1x1024, .f32⟩
  | 106 => ⟨S4x4112x1024, .f32⟩
  | 107 => ⟨S4x4112x1024, .f32⟩
  | 108 => ⟨S4x4112x1024, .f32⟩
  | 109 => ⟨S4x4112x1024, .f32⟩
  | 110 => ⟨S1x1024, .f32⟩
  | 111 => ⟨S1024, .f32⟩
  | 112 => ⟨S1x1x1024, .f32⟩
  | 113 => ⟨S4x4112x1024, .f32⟩
  | 114 => ⟨S4x4112x1024, .f32⟩
  | 115 => ⟨S4x4112x1024, .f32⟩
  | 116 => ⟨S4x4112x1024, .f32⟩
  | 117 => ⟨S1x1024, .f32⟩
  | 118 => ⟨S1024, .f32⟩
  | 119 => ⟨S1x1x1024, .f32⟩
  | 120 => ⟨S4x4112x1024, .f32⟩
  | 121 => ⟨S4x4112x1024, .f32⟩
  | 122 => ⟨S4x4112x1024, .f32⟩
  | 123 => ⟨S4x4112x1024, .f32⟩
  | 124 => ⟨S1x1024, .f32⟩
  | 125 => ⟨S1024, .f32⟩
  | 126 => ⟨S1x1x1024, .f32⟩
  | 127 => ⟨S4x4112x1024, .f32⟩
  | _ => ⟨S4x4096x1024, .f32⟩

abbrev hbmTy0_1 (i : Nat) : BufTy := match i % 128 with
  | 0 => ⟨S4x4112x1024, .f32⟩
  | 1 => ⟨S4x4112x1024, .f32⟩
  | 2 => ⟨S4x4112x1024, .f32⟩
  | 3 => ⟨S1x1024, .f32⟩
  | 4 => ⟨S1024, .f32⟩
  | 5 => ⟨S1x1x1024, .f32⟩
  | 6 => ⟨S4x4112x1024, .f32⟩
  | 7 => ⟨S4x4112x1024, .f32⟩
  | 8 => ⟨S4x4112x1024, .f32⟩
  | 9 => ⟨S4x4112x1024, .f32⟩
  | 10 => ⟨S1x1024, .f32⟩
  | 11 => ⟨S1024, .f32⟩
  | 12 => ⟨S1x1x1024, .f32⟩
  | 13 => ⟨S4x4112x1024, .f32⟩
  | 14 => ⟨S4x4112x1024, .f32⟩
  | 15 => ⟨S4x4112x1024, .f32⟩
  | 16 => ⟨S4x4112x1024, .f32⟩
  | 17 => ⟨S1x1024, .f32⟩
  | 18 => ⟨S1024, .f32⟩
  | 19 => ⟨S1x1x1024, .f32⟩
  | 20 => ⟨S4x4112x1024, .f32⟩
  | 21 => ⟨S4x4112x1024, .f32⟩
  | 22 => ⟨S4x4112x1024, .f32⟩
  | 23 => ⟨S4x4112x1024, .f32⟩
  | 24 => ⟨S1x1024, .f32⟩
  | 25 => ⟨S1024, .f32⟩
  | 26 => ⟨S1x1x1024, .f32⟩
  | 27 => ⟨S4x4112x1024, .f32⟩
  | 28 => ⟨S4x4112x1024, .f32⟩
  | 29 => ⟨S4x4112x1024, .f32⟩
  | 30 => ⟨S4x4112x1024, .f32⟩
  | 31 => ⟨S1x1024, .f32⟩
  | 32 => ⟨S1024, .f32⟩
  | 33 => ⟨S1x1x1024, .f32⟩
  | 34 => ⟨S4x4112x1024, .f32⟩
  | 35 => ⟨S4x4112x1024, .f32⟩
  | 36 => ⟨S4x4112x1024, .f32⟩
  | 37 => ⟨S4x4112x1024, .f32⟩
  | 38 => ⟨S1x1024, .f32⟩
  | 39 => ⟨S1024, .f32⟩
  | 40 => ⟨S1x1x1024, .f32⟩
  | 41 => ⟨S4x4112x1024, .f32⟩
  | 42 => ⟨S4x4112x1024, .f32⟩
  | 43 => ⟨S4x4112x1024, .f32⟩
  | 44 => ⟨S4x4112x1024, .f32⟩
  | 45 => ⟨S1x1024, .f32⟩
  | 46 => ⟨S1024, .f32⟩
  | 47 => ⟨S1x1x1024, .f32⟩
  | 48 => ⟨S4x4112x1024, .f32⟩
  | 49 => ⟨S4x4112x1024, .f32⟩
  | 50 => ⟨S4x4112x1024, .f32⟩
  | 51 => ⟨S4x4112x1024, .f32⟩
  | 52 => ⟨S1x1024, .f32⟩
  | 53 => ⟨S1024, .f32⟩
  | 54 => ⟨S1x1x1024, .f32⟩
  | 55 => ⟨S4x4112x1024, .f32⟩
  | 56 => ⟨S4x4112x1024, .f32⟩
  | 57 => ⟨S4x4112x1024, .f32⟩
  | 58 => ⟨S4x4112x1024, .f32⟩
  | 59 => ⟨S1x1024, .f32⟩
  | 60 => ⟨S1024, .f32⟩
  | 61 => ⟨S1x1x1024, .f32⟩
  | 62 => ⟨S4x4112x1024, .f32⟩
  | 63 => ⟨S4x4112x1024, .f32⟩
  | 64 => ⟨S4x4112x1024, .f32⟩
  | 65 => ⟨S4x4112x1024, .f32⟩
  | 66 => ⟨S1x1024, .f32⟩
  | 67 => ⟨S1024, .f32⟩
  | 68 => ⟨S1x1x1024, .f32⟩
  | 69 => ⟨S4x4112x1024, .f32⟩
  | 70 => ⟨S4x4112x1024, .f32⟩
  | 71 => ⟨S4x4112x1024, .f32⟩
  | 72 => ⟨S4x4112x1024, .f32⟩
  | 73 => ⟨S1x1024, .f32⟩
  | 74 => ⟨S1024, .f32⟩
  | 75 => ⟨S1x1x1024, .f32⟩
  | 76 => ⟨S4x4112x1024, .f32⟩
  | 77 => ⟨S4x4112x1024, .f32⟩
  | 78 => ⟨S4x4112x1024, .f32⟩
  | 79 => ⟨S4x4112x1024, .f32⟩
  | 80 => ⟨S1x1024, .f32⟩
  | 81 => ⟨S1024, .f32⟩
  | 82 => ⟨S1x1x1024, .f32⟩
  | 83 => ⟨S4x4112x1024, .f32⟩
  | 84 => ⟨S4x4112x1024, .f32⟩
  | 85 => ⟨S4x4112x1024, .f32⟩
  | 86 => ⟨S4x4112x1024, .f32⟩
  | 87 => ⟨S1x1024, .f32⟩
  | 88 => ⟨S1024, .f32⟩
  | 89 => ⟨S1x1x1024, .f32⟩
  | 90 => ⟨S4x4112x1024, .f32⟩
  | 91 => ⟨S4x4112x1024, .f32⟩
  | 92 => ⟨S4x4112x1024, .f32⟩
  | 93 => ⟨S4x4112x1024, .f32⟩
  | 94 => ⟨S1x1024, .f32⟩
  | 95 => ⟨S1024, .f32⟩
  | 96 => ⟨S1x1x1024, .f32⟩
  | 97 => ⟨S4x4112x1024, .f32⟩
  | 98 => ⟨S4x4112x1024, .f32⟩
  | 99 => ⟨S4x4112x1024, .f32⟩
  | 100 => ⟨S4x4112x1024, .f32⟩
  | 101 => ⟨S1x1024, .f32⟩
  | 102 => ⟨S1024, .f32⟩
  | 103 => ⟨S1x1x1024, .f32⟩
  | 104 => ⟨S4x4112x1024, .f32⟩
  | 105 => ⟨S4x4112x1024, .f32⟩
  | 106 => ⟨S4x4112x1024, .f32⟩
  | 107 => ⟨S4x4112x1024, .f32⟩
  | 108 => ⟨S1x1024, .f32⟩
  | 109 => ⟨S1024, .f32⟩
  | 110 => ⟨S1x1x1024, .f32⟩
  | 111 => ⟨S4x4112x1024, .f32⟩
  | 112 => ⟨S4x4112x1024, .f32⟩
  | 113 => ⟨S4x4112x1024, .f32⟩
  | 114 => ⟨S4x4112x1024, .f32⟩
  | 115 => ⟨S1x1024, .f32⟩
  | 116 => ⟨S1024, .f32⟩
  | 117 => ⟨S1x1x1024, .f32⟩
  | 118 => ⟨S4x4112x1024, .f32⟩
  | 119 => ⟨S4x4112x1024, .f32⟩
  | 120 => ⟨S4x4112x1024, .f32⟩
  | 121 => ⟨S4x4112x1024, .f32⟩
  | 122 => ⟨S1x1024, .f32⟩
  | 123 => ⟨S1024, .f32⟩
  | 124 => ⟨S1x1x1024, .f32⟩
  | 125 => ⟨S4x4112x1024, .f32⟩
  | 126 => ⟨S4x4112x1024, .f32⟩
  | 127 => ⟨S4x4112x1024, .f32⟩
  | _ => ⟨S4x4096x1024, .f32⟩

abbrev hbmTy0_2 (i : Nat) : BufTy := match i % 128 with
  | 0 => ⟨S4x4112x1024, .f32⟩
  | 1 => ⟨S1x1024, .f32⟩
  | 2 => ⟨S1024, .f32⟩
  | 3 => ⟨S1x1x1024, .f32⟩
  | 4 => ⟨S4x4112x1024, .f32⟩
  | 5 => ⟨S4x4112x1024, .f32⟩
  | 6 => ⟨S4x4112x1024, .f32⟩
  | 7 => ⟨S4x4112x1024, .f32⟩
  | 8 => ⟨S1x1024, .f32⟩
  | 9 => ⟨S1024, .f32⟩
  | 10 => ⟨S1x1x1024, .f32⟩
  | 11 => ⟨S4x4112x1024, .f32⟩
  | 12 => ⟨S4x4112x1024, .f32⟩
  | 13 => ⟨S4x4112x1024, .f32⟩
  | 14 => ⟨S4x4112x1024, .f32⟩
  | 15 => ⟨S1x1024, .f32⟩
  | 16 => ⟨S1024, .f32⟩
  | 17 => ⟨S1x1x1024, .f32⟩
  | 18 => ⟨S4x4112x1024, .f32⟩
  | 19 => ⟨S4x4112x1024, .f32⟩
  | 20 => ⟨S4x4112x1024, .f32⟩
  | 21 => ⟨S1024, .f32⟩
  | 22 => ⟨S1x1x1024, .f32⟩
  | 23 => ⟨S4x4112x1024, .f32⟩
  | 24 => ⟨S4x4112x1024, .f32⟩
  | 25 => ⟨S1024, .f32⟩
  | 26 => ⟨S1024, .f32⟩
  | 27 => ⟨S_, .f32⟩
  | 28 => ⟨S4x4112, .f32⟩
  | 29 => ⟨S4x4112x1, .f32⟩
  | 30 => ⟨S_, .f32⟩
  | 31 => ⟨S4x4112x1, .f32⟩
  | 32 => ⟨S4x4112x1, .f32⟩
  | 33 => ⟨S4x4112x1024, .f32⟩
  | 34 => ⟨S4x4112x1024, .f32⟩
  | 35 => ⟨S4x4112x1024, .f32⟩
  | 36 => ⟨S_, .f32⟩
  | 37 => ⟨S4x4112, .f32⟩
  | 38 => ⟨S4x4112x1, .f32⟩
  | 39 => ⟨S_, .f32⟩
  | 40 => ⟨S4x4112x1, .f32⟩
  | 41 => ⟨S4x4112x1, .f32⟩
  | 42 => ⟨S4x4112x1024, .f32⟩
  | 43 => ⟨S4x4112x1024, .f32⟩
  | 44 => ⟨S_, .f32⟩
  | 45 => ⟨S4x4112x1, .f32⟩
  | 46 => ⟨S4x4112x1, .f32⟩
  | 47 => ⟨S4x4112x1, .f32⟩
  | 48 => ⟨S4x4112x1024, .f32⟩
  | 49 => ⟨S4x4112x1024, .f32⟩
  | 50 => ⟨S1x1x1024, .f32⟩
  | 51 => ⟨S4x4112x1024, .f32⟩
  | 52 => ⟨S4x4112x1024, .f32⟩
  | 53 => ⟨S1x1x1024, .f32⟩
  | 54 => ⟨S4x4112x1024, .f32⟩
  | 55 => ⟨S4x4112x1024, .f32⟩
  | 56 => ⟨S4x4112x1024, .f32⟩
  | 57 => ⟨S4x4112x1024, .f32⟩
  | 58 => ⟨S_, .f32⟩
  | 59 => ⟨S4x4112x1024, .f32⟩
  | 60 => ⟨S4x4112x1024, .f32⟩
  | 61 => ⟨S_, .f32⟩
  | 62 => ⟨S4x4112x1024, .f32⟩
  | 63 => ⟨S4x4112x1024, .f32⟩
  | 64 => ⟨S4x4112x1024, .f32⟩
  | 65 => ⟨S4x4112x1024, .f32⟩
  | 66 => ⟨S4x4112x1024, .f32⟩
  | 67 => ⟨S_, .f32⟩
  | 68 => ⟨S4x4112x1024, .f32⟩
  | 69 => ⟨S4x4112x1024, .f32⟩
  | 70 => ⟨S_, .f32⟩
  | 71 => ⟨S4x4112x1024, .f32⟩
  | 72 => ⟨S4x4112x1024, .f32⟩
  | 73 => ⟨S4x4112x1024, .f32⟩
  | 74 => ⟨S4x4112x1024, .f32⟩
  | 75 => ⟨S1024x1024, .f32⟩
  | 76 => ⟨S4x4112x1024, .f32⟩
  | 77 => ⟨S1024, .f32⟩
  | 78 => ⟨S1x1x1024, .f32⟩
  | 79 => ⟨S4x4112x1024, .f32⟩
  | 80 => ⟨S4x4112x1024, .f32⟩
  | 81 => ⟨S4x4112x1024, .f32⟩
  | 82 => ⟨S3x1024, .f32⟩
  | 83 => ⟨S_, .i32⟩
  | 84 => ⟨S_, .f32⟩
  | 85 => ⟨S4x4114x1024, .f32⟩
  | 86 => ⟨S4x4112x1024, .f32⟩
  | 87 => ⟨S1x1024, .f32⟩
  | 88 => ⟨S1024, .f32⟩
  | 89 => ⟨S1x1x1024, .f32⟩
  | 90 => ⟨S4x4112x1024, .f32⟩
  | 91 => ⟨S4x4112x1024, .f32⟩
  | 92 => ⟨S_, .f32⟩
  | 93 => ⟨S4x4112x1024, .f32⟩
  | 94 => ⟨S4x4112x1024, .f32⟩
  | 95 => ⟨S4x4112x1024, .f32⟩
  | 96 => ⟨S1x1024, .f32⟩
  | 97 => ⟨S1024, .f32⟩
  | 98 => ⟨S1x1x1024, .f32⟩
  | 99 => ⟨S4x4112x1024, .f32⟩
  | 100 => ⟨S4x4112x1024, .f32⟩
  | 101 => ⟨S4x4112x1024, .f32⟩
  | 102 => ⟨S4x4112x1024, .f32⟩
  | 103 => ⟨S1x1024, .f32⟩
  | 104 => ⟨S1024, .f32⟩
  | 105 => ⟨S1x1x1024, .f32⟩
  | 106 => ⟨S4x4112x1024, .f32⟩
  | 107 => ⟨S4x4112x1024, .f32⟩
  | 108 => ⟨S4x4112x1024, .f32⟩
  | 109 => ⟨S4x4112x1024, .f32⟩
  | 110 => ⟨S4x4112x1024, .f32⟩
  | 111 => ⟨S4x4112x1024, .f32⟩
  | 112 => ⟨S_, .f32⟩
  | 113 => ⟨S4x4112x1024, .f32⟩
  | 114 => ⟨S4x4112x1024, .f32⟩
  | 115 => ⟨S_, .f32⟩
  | 116 => ⟨S4x4112x1024, .f32⟩
  | 117 => ⟨S4x4112x1024, .f32⟩
  | 118 => ⟨S4x4112x1024, .f32⟩
  | 119 => ⟨S4x4112x1024, .f32⟩
  | 120 => ⟨S1024x1024, .f32⟩
  | 121 => ⟨S4x4112x1024, .f32⟩
  | 122 => ⟨S4x4112x1024, .f32⟩
  | 123 => ⟨S4x4112x1024, .f32⟩
  | 124 => ⟨S_, .f32⟩
  | 125 => ⟨S4x4112x1024, .f32⟩
  | 126 => ⟨S4x4112x1024, .f32⟩
  | 127 => ⟨S_, .f32⟩
  | _ => ⟨S4x4096x1024, .f32⟩

abbrev hbmTy0_3 (i : Nat) : BufTy := match i % 128 with
  | 0 => ⟨S4x4112x1024, .f32⟩
  | 1 => ⟨S4x4112x1024, .f32⟩
  | 2 => ⟨S4x4112x1024, .f32⟩
  | 3 => ⟨S4x4112x1024, .f32⟩
  | 4 => ⟨S4x4112x1024, .f32⟩
  | 5 => ⟨S_, .f32⟩
  | 6 => ⟨S4x4112x1024, .f32⟩
  | 7 => ⟨S4x4112x1024, .f32⟩
  | 8 => ⟨S_, .f32⟩
  | 9 => ⟨S4x4112x1024, .f32⟩
  | 10 => ⟨S4x4112x1024, .f32⟩
  | 11 => ⟨S4x4112x1024, .f32⟩
  | 12 => ⟨S4x4112x1024, .f32⟩
  | 13 => ⟨S1024x1024, .f32⟩
  | 14 => ⟨S4x4112x1024, .f32⟩
  | 15 => ⟨S4x4112x1024, .f32⟩
  | 16 => ⟨S4x4112x1024, .f32⟩
  | 17 => ⟨S_, .f32⟩
  | 18 => ⟨S4x4112, .f32⟩
  | 19 => ⟨S4x4112x1, .f32⟩
  | 20 => ⟨S_, .f32⟩
  | 21 => ⟨S4x4112x1, .f32⟩
  | 22 => ⟨S4x4112x1, .f32⟩
  | 23 => ⟨S_, .f32⟩
  | 24 => ⟨S4x4112x1, .f32⟩
  | 25 => ⟨S4x4112x1, .f32⟩
  | 26 => ⟨S4x4112x1, .f32⟩
  | 27 => ⟨S4x4112x1024, .f32⟩
  | 28 => ⟨S4x4112x1024, .f32⟩
  | 29 => ⟨S1x1x1024, .f32⟩
  | 30 => ⟨S4x4112x1024, .f32⟩
  | 31 => ⟨S4x4112x1024, .f32⟩
  | 32 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_cst_5 : Ref sig .tc := ⟨.hbm, 283, rfl⟩
abbrev main_v261 : Ref sig .tc := ⟨.hbm, 284, rfl⟩
abbrev main_v262 : Ref sig .tc := ⟨.hbm, 285, rfl⟩
abbrev main_cst_6 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_cst_7 : Ref sig .tc := ⟨.hbm, 292, rfl⟩
abbrev main_v268 : Ref sig .tc := ⟨.hbm, 293, rfl⟩
abbrev main_v269 : Ref sig .tc := ⟨.hbm, 294, rfl⟩
abbrev main_cst_8 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_cst_9 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_call1_v0 : Ref sig .tc := ⟨.hbm, 312, rfl⟩
abbrev main_call1_v1 : Ref sig .tc := ⟨.hbm, 313, rfl⟩
abbrev main_call1_cst : Ref sig .tc := ⟨.hbm, 314, rfl⟩
abbrev main_call1_v2 : Ref sig .tc := ⟨.hbm, 315, rfl⟩
abbrev main_call1_v3 : Ref sig .tc := ⟨.hbm, 316, rfl⟩
abbrev main_call1_cst_0 : Ref sig .tc := ⟨.hbm, 317, rfl⟩
abbrev main_call1_v4 : Ref sig .tc := ⟨.hbm, 318, rfl⟩
abbrev main_call1_v5 : Ref sig .tc := ⟨.hbm, 319, rfl⟩
abbrev main_v285 : Ref sig .tc := ⟨.hbm, 320, rfl⟩
abbrev main_call2_v0 : Ref sig .tc := ⟨.hbm, 321, rfl⟩
abbrev main_call2_v1 : Ref sig .tc := ⟨.hbm, 322, rfl⟩
abbrev main_call2_cst : Ref sig .tc := ⟨.hbm, 323, rfl⟩
abbrev main_call2_v2 : Ref sig .tc := ⟨.hbm, 324, rfl⟩
abbrev main_call2_v3 : Ref sig .tc := ⟨.hbm, 325, rfl⟩
abbrev main_call2_cst_0 : Ref sig .tc := ⟨.hbm, 326, rfl⟩
abbrev main_call2_v4 : Ref sig .tc := ⟨.hbm, 327, rfl⟩
abbrev main_call2_v5 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_c_10 : Ref sig .tc := ⟨.hbm, 339, rfl⟩
abbrev main_call3_v0 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_cst_11 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_call4_v0 : Ref sig .tc := ⟨.hbm, 366, rfl⟩
abbrev main_call4_v1 : Ref sig .tc := ⟨.hbm, 367, rfl⟩
abbrev main_call4_cst : Ref sig .tc := ⟨.hbm, 368, rfl⟩
abbrev main_call4_v2 : Ref sig .tc := ⟨.hbm, 369, rfl⟩
abbrev main_call4_v3 : Ref sig .tc := ⟨.hbm, 370, rfl⟩
abbrev main_call4_cst_0 : Ref sig .tc := ⟨.hbm, 371, rfl⟩
abbrev main_call4_v4 : Ref sig .tc := ⟨.hbm, 372, rfl⟩
abbrev main_call4_v5 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_cst_12 : Ref sig .tc := ⟨.hbm, 380, rfl⟩
abbrev main_v326 : Ref sig .tc := ⟨.hbm, 381, rfl⟩
abbrev main_v327 : Ref sig .tc := ⟨.hbm, 382, rfl⟩
abbrev main_cst_13 : Ref sig .tc := ⟨.hbm, 383, rfl⟩
abbrev main_v328 : Ref sig .tc := ⟨.hbm, 384, rfl⟩
abbrev main_v329 : Ref sig .tc := ⟨.hbm, 385, rfl⟩
abbrev main_v330 : Ref sig .tc := ⟨.hbm, 386, rfl⟩
abbrev main_v331 : Ref sig .tc := ⟨.hbm, 387, rfl⟩
abbrev main_v332 : Ref sig .tc := ⟨.hbm, 388, rfl⟩
abbrev main_cst_14 : Ref sig .tc := ⟨.hbm, 389, rfl⟩
abbrev main_v333 : Ref sig .tc := ⟨.hbm, 390, rfl⟩
abbrev main_v334 : Ref sig .tc := ⟨.hbm, 391, rfl⟩
abbrev main_cst_15 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_v342 : Ref sig .tc := ⟨.hbm, 400, rfl⟩
abbrev main_cst_16 : Ref sig .tc := ⟨.hbm, 401, rfl⟩
abbrev main_v343 : Ref sig .tc := ⟨.hbm, 402, rfl⟩
abbrev main_v344 : Ref sig .tc := ⟨.hbm, 403, rfl⟩
abbrev main_cst_17 : Ref sig .tc := ⟨.hbm, 404, rfl⟩
abbrev main_v345 : Ref sig .tc := ⟨.hbm, 405, rfl⟩
abbrev main_v346 : Ref sig .tc := ⟨.hbm, 406, rfl⟩
abbrev main_cst_18 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_v352 : Ref sig .tc := ⟨.hbm, 413, rfl⟩
abbrev main_v353 : Ref sig .tc := ⟨.hbm, 414, rfl⟩
abbrev main_v354 : Ref sig .tc := ⟨.hbm, 415, rfl⟩
abbrev main_v355 : Ref sig .tc := ⟨.hbm, 416, rfl⟩

abbrev nD : Nat := 1
abbrev τ : Topo := Topo.v7x

variable {F : FTy → Type} [FloatOps F]
-- ==== Proof.KI.State.lean ====
/- What the body's runs are stated over: the conditions of its three branches in closed form over the grid's points, and the 25 buffers
   it works on held each at named contents. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

/-- The body's 25 buffers (15 windows, 10 scratch buffers), each held whole at the contents given. -/
abbrev Held (c : Dev nD) (arg2 : Memref sig .tc .vmem S1x256x1024 .f32) (arg3 : Memref sig .tc .vmem S16x1024 .f32) (arg4 : Memref sig .tc .vmem S1x1024 .f32) (arg5 : Memref sig .tc .vmem S1024x9216 .bf16) (arg6 : Memref sig .tc .vmem S31x8x1024 .f32) (arg7 : Memref sig .tc .vmem S8x1024 .f32) (arg8 : Memref sig .tc .vmem S1x1024 .f32) (arg9 : Memref sig .tc .vmem S1x1024 .f32) (arg10 : Memref sig .tc .vmem S1024x1024 .bf16) (arg11 : Memref sig .tc .vmem S1x1024 .f32) (arg12 : Memref sig .tc .vmem S3x8x1024 .f32) (arg13 : Memref sig .tc .vmem S1024x1024 .bf16) (arg14 : Memref sig .tc .vmem S1024x1024 .bf16) (arg15 : Memref sig .tc .vmem S1x1024 .f32) (arg16 : Memref sig .tc .vmem S1x256x1024 .f32) (arg17 : Memref sig .tc .vmem S256x1024 .bf16) (arg18 : Memref sig .tc .vmem S288x1024 .f32) (arg19 : Memref sig .tc .vmem S256x1024 .f32) (arg20 : Memref sig .tc .vmem S264x1024 .f32) (arg21 : Memref sig .tc .vmem S256x256 .f32) (arg22 : Memref sig .tc .vmem S256x1024 .bf16) (arg23 : Memref sig .tc .vmem S256x1024 .bf16) (arg24 : Memref sig .tc .vmem S256x1024 .bf16) (arg25 : Memref sig .tc .vmem S32x1024 .f32) (arg26 : Memref sig .tc .vmem S8x1024 .f32)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) : sProp 𝕄 :=
  iprop((arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15)
    ∗ (arg16.view.loc (c : Thread nD τ) ↦[arg16.view.set]{fullShare} f16)
    ∗ (arg17.view.loc (c : Thread nD τ) ↦[arg17.view.set]{fullShare} f17)
    ∗ (arg18.view.loc (c : Thread nD τ) ↦[arg18.view.set]{fullShare} f18)
    ∗ (arg19.view.loc (c : Thread nD τ) ↦[arg19.view.set]{fullShare} f19)
    ∗ (arg20.view.loc (c : Thread nD τ) ↦[arg20.view.set]{fullShare} f20)
    ∗ (arg21.view.loc (c : Thread nD τ) ↦[arg21.view.set]{fullShare} f21)
    ∗ (arg22.view.loc (c : Thread nD τ) ↦[arg22.view.set]{fullShare} f22)
    ∗ (arg23.view.loc (c : Thread nD τ) ↦[arg23.view.set]{fullShare} f23)
    ∗ (arg24.view.loc (c : Thread nD τ) ↦[arg24.view.set]{fullShare} f24)
    ∗ (arg25.view.loc (c : Thread nD τ) ↦[arg25.view.set]{fullShare} f25)
    ∗ (arg26.view.loc (c : Thread nD τ) ↦[arg26.view.set]{fullShare} f26))

/-! ## The conditions of the body's three branches -/

/-- First point of the grid. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- First tile of a batch row. -/
abbrev cond1 (i : grid0.Coords) : Prop := (Scalar.cmpi .ne (Scalar.extui (Scalar.cmpi .eq (BitVec.ofNat 32 (i 1).val) 0#32)) 0#32) = 1#1
/-- A later tile of a batch row. -/
abbrev cond2 (i : grid0.Coords) : Prop := (Scalar.cmpi .ne (Scalar.extui (Scalar.cmpi .sgt (BitVec.ofNat 32 (i 1).val) 0#32)) 0#32) = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ 1 ≤ t.val % 16 :=
  (by decide +kernel : ∀ t : Fin grid0.N, cond2 (grid0.coords t) ↔ 1 ≤ t.val % 16)

end Cert.KernelIdeal.Hand

end
-- ==== Proof.KI.Head.lean ====
/- The body's first part, in each of its three cases: its two results and the pieces its buffers end with are found by the run. -/
module

public import proofs.«01_k».proof.Proof.KI.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

set_option maxHeartbeats 20000000 in
/-- The first part at a later tile of a batch row. -/
noncomputable def headB (c : Dev nD) (i : grid0.Coords) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
    (hc0 : ¬cond0 i) (hc1 : ¬cond1 i) (hc2 : cond2 i)
    (x2 : Vec F S1x256x1024 .f32) (x3 : Vec F S16x1024 .f32) (x4 : Vec F S1x1024 .f32) (x5 : Vec F S1024x9216 .bf16) (x6 : Vec F S31x8x1024 .f32) (x7 : Vec F S8x1024 .f32) (x8 : Vec F S1x1024 .f32) (x9 : Vec F S1x1024 .f32) (x10 : Vec F S1024x1024 .bf16) (x11 : Vec F S1x1024 .f32) (x12 : Vec F S3x8x1024 .f32) (x13 : Vec F S1024x1024 .bf16) (x14 : Vec F S1024x1024 .bf16) (x15 : Vec F S1x1024 .f32) (x16 : Vec F S1x256x1024 .f32) (x17 : Vec F S256x1024 .bf16) (x18 : Vec F S288x1024 .f32) (x19 : Vec F S256x1024 .f32) (x20 : Vec F S264x1024 .f32) (x21 : Vec F S256x256 .f32) (x22 : Vec F S256x1024 .bf16) (x23 : Vec F S256x1024 .bf16) (x24 : Vec F S256x1024 .bf16) (x25 : Vec F S32x1024 .f32) (x26 : Vec F S8x1024 .f32) :
    Σ' (r₀ : (Σ' (v31 : Vec F S256x1024 .bf16), Vec F S1024x256 .bf16)), Σ' (L17 : List (View.Piece (Elt F) S256x1024 .bf16)), Σ' (L18 : List (View.Piece (Elt F) S288x1024 .f32)), { L20 : List (View.Piece (Elt F) S264x1024 .f32) //
      ∀ E : Set ℕ, Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26) ⊢ wp frame (wpE (defs₀ (F := F)) Variants.none c none) E (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun r => iprop(⌜r = r₀⌝ ∗ Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (arg17.view.writes (Elt F) (harg17.unread x17) L17) (arg18.view.writes (Elt F) (harg18.unread x18) L18) (harg19.unread x19) (arg20.view.writes (Elt F) (harg20.unread x20) L20) (harg21.unread x21) (harg22.unread x22) (harg23.unread x23) (harg24.unread x24) (harg25.unread x25) (harg26.unread x26))) } := by
  refine ⟨?_, ?_, ?_, ?_, fun E => ?run⟩
  case run =>
    simp only [k0_part35_eq_skeleton]; unfold k0_part35_skel
    simp only [k0_part1_eq_skeleton]
    iintro ⟨H2, H3, H4, H5, H6, H7, H8, H9, H10, H11, H12, H13, H14, H15, H16, H17, H18, H19, H20, H21, H22, H23, H24, H25, H26⟩
    sl_exec (disch := first | sl_exact hc0 | sl_exact hc1 | sl_exact hc2)
    sl_step
    isplitr
    · ipureintro; rfl
    sl_close

set_option maxHeartbeats 20000000 in
/-- The first part at the first tile of a later batch row. -/
noncomputable def headC (c : Dev nD) (i : grid0.Coords) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
    (hc0 : ¬cond0 i) (hc1 : cond1 i) (hc2 : ¬cond2 i)
    (x2 : Vec F S1x256x1024 .f32) (x3 : Vec F S16x1024 .f32) (x4 : Vec F S1x1024 .f32) (x5 : Vec F S1024x9216 .bf16) (x6 : Vec F S31x8x1024 .f32) (x7 : Vec F S8x1024 .f32) (x8 : Vec F S1x1024 .f32) (x9 : Vec F S1x1024 .f32) (x10 : Vec F S1024x1024 .bf16) (x11 : Vec F S1x1024 .f32) (x12 : Vec F S3x8x1024 .f32) (x13 : Vec F S1024x1024 .bf16) (x14 : Vec F S1024x1024 .bf16) (x15 : Vec F S1x1024 .f32) (x16 : Vec F S1x256x1024 .f32) (x17 : Vec F S256x1024 .bf16) (x18 : Vec F S288x1024 .f32) (x19 : Vec F S256x1024 .f32) (x20 : Vec F S264x1024 .f32) (x21 : Vec F S256x256 .f32) (x22 : Vec F S256x1024 .bf16) (x23 : Vec F S256x1024 .bf16) (x24 : Vec F S256x1024 .bf16) (x25 : Vec F S32x1024 .f32) (x26 : Vec F S8x1024 .f32) :
    Σ' (r₀ : (Σ' (v31 : Vec F S256x1024 .bf16), Vec F S1024x256 .bf16)), Σ' (L17 : List (View.Piece (Elt F) S256x1024 .bf16)), Σ' (L18 : List (View.Piece (Elt F) S288x1024 .f32)), { L20 : List (View.Piece (Elt F) S264x1024 .f32) //
      ∀ E : Set ℕ, Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26) ⊢ wp frame (wpE (defs₀ (F := F)) Variants.none c none) E (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun r => iprop(⌜r = r₀⌝ ∗ Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (arg17.view.writes (Elt F) (harg17.unread x17) L17) (arg18.view.writes (Elt F) (harg18.unread x18) L18) (harg19.unread x19) (arg20.view.writes (Elt F) (harg20.unread x20) L20) (harg21.unread x21) (harg22.unread x22) (harg23.unread x23) (harg24.unread x24) (harg25.unread x25) (harg26.unread x26))) } := by
  refine ⟨?_, ?_, ?_, ?_, fun E => ?run⟩
  case run =>
    simp only [k0_part35_eq_skeleton]; unfold k0_part35_skel
    simp only [k0_part1_eq_skeleton]
    iintro ⟨H2, H3, H4, H5, H6, H7, H8, H9, H10, H11, H12, H13, H14, H15, H16, H17, H18, H19, H20, H21, H22, H23, H24, H25, H26⟩
    sl_exec (disch := first | sl_exact hc0 | sl_exact hc1 | sl_exact hc2)
    sl_step
    isplitr
    · ipureintro; rfl
    sl_close

set_option maxHeartbeats 20000000 in
/-- The first part at the grid's first point. -/
noncomputable def headA (c : Dev nD) (i : grid0.Coords) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
    (hc0 : cond0 i) (hc1 : cond1 i) (hc2 : ¬cond2 i)
    (x2 : Vec F S1x256x1024 .f32) (x3 : Vec F S16x1024 .f32) (x4 : Vec F S1x1024 .f32) (x5 : Vec F S1024x9216 .bf16) (x6 : Vec F S31x8x1024 .f32) (x7 : Vec F S8x1024 .f32) (x8 : Vec F S1x1024 .f32) (x9 : Vec F S1x1024 .f32) (x10 : Vec F S1024x1024 .bf16) (x11 : Vec F S1x1024 .f32) (x12 : Vec F S3x8x1024 .f32) (x13 : Vec F S1024x1024 .bf16) (x14 : Vec F S1024x1024 .bf16) (x15 : Vec F S1x1024 .f32) (x16 : Vec F S1x256x1024 .f32) (x17 : Vec F S256x1024 .bf16) (x18 : Vec F S288x1024 .f32) (x19 : Vec F S256x1024 .f32) (x20 : Vec F S264x1024 .f32) (x21 : Vec F S256x256 .f32) (x22 : Vec F S256x1024 .bf16) (x23 : Vec F S256x1024 .bf16) (x24 : Vec F S256x1024 .bf16) (x25 : Vec F S32x1024 .f32) (x26 : Vec F S8x1024 .f32) :
    Σ' (r₀ : (Σ' (v31 : Vec F S256x1024 .bf16), Vec F S1024x256 .bf16)), Σ' (L17 : List (View.Piece (Elt F) S256x1024 .bf16)), Σ' (L18 : List (View.Piece (Elt F) S288x1024 .f32)), Σ' (L20 : List (View.Piece (Elt F) S264x1024 .f32)), Σ' (L25 : List (View.Piece (Elt F) S32x1024 .f32)), { L26 : List (View.Piece (Elt F) S8x1024 .f32) //
      ∀ E : Set ℕ, Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26) ⊢ wp frame (wpE (defs₀ (F := F)) Variants.none c none) E (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun r => iprop(⌜r = r₀⌝ ∗ Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (arg17.view.writes (Elt F) (harg17.unread x17) L17) (arg18.view.writes (Elt F) (harg18.unread x18) L18) (harg19.unread x19) (arg20.view.writes (Elt F) (harg20.unread x20) L20) (harg21.unread x21) (harg22.unread x22) (harg23.unread x23) (harg24.unread x24) (arg25.view.writes (Elt F) (harg25.unread x25) L25) (arg26.view.writes (Elt F) (harg26.unread x26) L26))) } := by
  refine ⟨?_, ?_, ?_, ?_, ?_, ?_, fun E => ?run⟩
  case run =>
    simp only [k0_part35_eq_skeleton]; unfold k0_part35_skel
    simp only [k0_part1_eq_skeleton]
    iintro ⟨H2, H3, H4, H5, H6, H7, H8, H9, H10, H11, H12, H13, H14, H15, H16, H17, H18, H19, H20, H21, H22, H23, H24, H25, H26⟩
    sl_exec (disch := first | sl_exact hc0 | sl_exact hc1 | sl_exact hc2)
    sl_step
    isplitr
    · ipureintro; rfl
    sl_close

end Cert.KernelIdeal.Hand

end
-- ==== Proof.KI.Rest.lean ====
/- The body after its first part, whose two results are named -/
module

public import proofs.«01_k».proof.Proof.KI.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

set_option maxHeartbeats 20000000 in
/-- The body after its first part, whose two results are named: the pieces each buffer ends with are found by the run. -/
noncomputable def runRest (c : Dev nD) (i : grid0.Coords) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)

    (x2 : Vec F S1x256x1024 .f32) (x3 : Vec F S16x1024 .f32) (x4 : Vec F S1x1024 .f32) (x5 : Vec F S1024x9216 .bf16) (x6 : Vec F S31x8x1024 .f32) (x7 : Vec F S8x1024 .f32) (x8 : Vec F S1x1024 .f32) (x9 : Vec F S1x1024 .f32) (x10 : Vec F S1024x1024 .bf16) (x11 : Vec F S1x1024 .f32) (x12 : Vec F S3x8x1024 .f32) (x13 : Vec F S1024x1024 .bf16) (x14 : Vec F S1024x1024 .bf16) (x15 : Vec F S1x1024 .f32) (x16 : Vec F S1x256x1024 .f32) (x17 : Vec F S256x1024 .bf16) (x18 : Vec F S288x1024 .f32) (x19 : Vec F S256x1024 .f32) (x20 : Vec F S264x1024 .f32) (x21 : Vec F S256x256 .f32) (x22 : Vec F S256x1024 .bf16) (x23 : Vec F S256x1024 .bf16) (x24 : Vec F S256x1024 .bf16) (x25 : Vec F S32x1024 .f32) (x26 : Vec F S8x1024 .f32) (v31 : Vec F S256x1024 .bf16) (v32 : Vec F S1024x256 .bf16) :
    Σ' (L16 : List (View.Piece (Elt F) S1x256x1024 .f32)), Σ' (L18 : List (View.Piece (Elt F) S288x1024 .f32)), Σ' (L19 : List (View.Piece (Elt F) S256x1024 .f32)), Σ' (L20 : List (View.Piece (Elt F) S264x1024 .f32)), Σ' (L21 : List (View.Piece (Elt F) S256x256 .f32)), Σ' (L22 : List (View.Piece (Elt F) S256x1024 .bf16)), Σ' (L23 : List (View.Piece (Elt F) S256x1024 .bf16)), { L24 : List (View.Piece (Elt F) S256x1024 .bf16) //
      ∀ (R : sProp 𝕄) (E : Set ℕ), (R ⊢ wp frame (wpE (defs₀ (F := F)) Variants.none c none) E (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun r => iprop(⌜r = ⟨v31, v32⟩⌝ ∗ Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26)))) →
        (R ⊢ wp frame (wpE (defs₀ (F := F)) Variants.none c none) E (cc0_gated_conv_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => Held c arg2 arg3 arg4 arg5 arg6 arg7 arg8 arg9 arg10 arg11 arg12 arg13 arg14 arg15 arg16 arg17 arg18 arg19 arg20 arg21 arg22 arg23 arg24 arg25 arg26
          (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (arg16.view.writes (Elt F) arg16.view.junk L16) (harg17.unread x17) (arg18.view.writes (Elt F) (harg18.unread x18) L18) (arg19.view.writes (Elt F) (harg19.unread x19) L19) (arg20.view.writes (Elt F) (harg20.unread x20) L20) (arg21.view.writes (Elt F) (harg21.unread x21) L21) (arg22.view.writes (Elt F) arg22.view.junk L22) (arg23.view.writes (Elt F) arg23.view.junk L23) (arg24.view.writes (Elt F) arg24.view.junk L24) (harg25.unread x25) (harg26.unread x26))) } := by
  refine ⟨?_, ?_, ?_, ?_, ?_, ?_, ?_, ?_, fun R E h35 => ?run⟩
  case run =>
    simp only [cc0_gated_conv_block_eq_skeleton]; unfold cc0_gated_conv_block_skel
    simp only [k0_part86_eq_skeleton]; unfold k0_part86_skel
    simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    rw [wp_bind, wp_bind]
    refine h35.trans (wp_mono _ _ _ fun r => ?_)
    iintro ⟨%hr, H2, H3, H4, H5, H6, H7, H8, H9, H10, H11, H12, H13, H14, H15, H16, H17, H18, H19, H20, H21, H22, H23, H24, H25, H26⟩
    subst hr
    sl_exec
    sl_step
    sl_close

end Cert.KernelIdeal.Hand

end
-- ==== Proof.KI.Body.lean ====
/- The body at any point of the grid leaves its inputs as they are: the first part's run in the point's case, then the rest. -/
module

public import proofs.«01_k».proof.Proof.KI.Head
public import proofs.«01_k».proof.Proof.KI.Rest

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

set_option maxHeartbeats 2000000 in
/-- From whatever the first part leaves in the scratch buffers, the body ends, its inputs as they were. -/
theorem rest_ex (c : Dev nD) (i : grid0.Coords) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
    (x2 : Vec F S1x256x1024 .f32) (x3 : Vec F S16x1024 .f32) (x4 : Vec F S1x1024 .f32) (x5 : Vec F S1024x9216 .bf16) (x6 : Vec F S31x8x1024 .f32) (x7 : Vec F S8x1024 .f32) (x8 : Vec F S1x1024 .f32) (x9 : Vec F S1x1024 .f32) (x10 : Vec F S1024x1024 .bf16) (x11 : Vec F S1x1024 .f32) (x12 : Vec F S3x8x1024 .f32) (x13 : Vec F S1024x1024 .bf16) (x14 : Vec F S1024x1024 .bf16) (x15 : Vec F S1x1024 .f32) (x16 : Vec F S1x256x1024 .f32) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (r₀ : (Σ' (v31 : Vec F S256x1024 .bf16), Vec F S1024x256 .bf16)) (P : sProp 𝕄)
    (h : P ⊢ wp frame (wpE (defs₀ (F := F)) Variants.none c none) Set.univ (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun r => iprop(⌜r = r₀⌝ ∗ Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) f17 f18 f19 f20 f21 f22 f23 f24 f25 f26))) :
    P ⊢ wp frame (wpE (defs₀ (F := F)) Variants.none c none) Set.univ (cc0_gated_conv_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun _ => iprop(∃ (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty) (g26 : BufTy.Contents (Elt F) arg26.view.ty), Held c arg2 arg3 arg4 arg5 arg6 arg7 arg8 arg9 arg10 arg11 arg12 arg13 arg14 arg15 arg16 arg17 arg18 arg19 arg20 arg21 arg22 arg23 arg24 arg25 arg26
        (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) g16 g17 g18 g19 g20 g21 g22 g23 g24 g25 g26)) := by
  obtain ⟨x17, rfl⟩ : ∃ x, f17 = harg17.unread x := ⟨_, (harg17.unread_read f17).symm⟩
  obtain ⟨x18, rfl⟩ : ∃ x, f18 = harg18.unread x := ⟨_, (harg18.unread_read f18).symm⟩
  obtain ⟨x19, rfl⟩ : ∃ x, f19 = harg19.unread x := ⟨_, (harg19.unread_read f19).symm⟩
  obtain ⟨x20, rfl⟩ : ∃ x, f20 = harg20.unread x := ⟨_, (harg20.unread_read f20).symm⟩
  obtain ⟨x21, rfl⟩ : ∃ x, f21 = harg21.unread x := ⟨_, (harg21.unread_read f21).symm⟩
  obtain ⟨x22, rfl⟩ : ∃ x, f22 = harg22.unread x := ⟨_, (harg22.unread_read f22).symm⟩
  obtain ⟨x23, rfl⟩ : ∃ x, f23 = harg23.unread x := ⟨_, (harg23.unread_read f23).symm⟩
  obtain ⟨x24, rfl⟩ : ∃ x, f24 = harg24.unread x := ⟨_, (harg24.unread_read f24).symm⟩
  obtain ⟨x25, rfl⟩ : ∃ x, f25 = harg25.unread x := ⟨_, (harg25.unread_read f25).symm⟩
  obtain ⟨x26, rfl⟩ : ∃ x, f26 = harg26.unread x := ⟨_, (harg26.unread_read f26).symm⟩
  obtain ⟨v31, v32⟩ := r₀
  refine ((runRest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.2.2.2.2.2.2.2 P Set.univ h).trans (wp_mono _ _ _ fun _ => ?_)
  iintro H
  iexists _; iexists _; iexists _; iexists _; iexists _; iexists _; iexists _; iexists _; iexists _; iexists _; iexists _; iexact H

set_option maxHeartbeats 2000000 in
/-- The body at any point of the grid. -/
theorem body_ex (c : Dev nD) (t : Fin cfg0.N) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
    (x2 : Vec F S1x256x1024 .f32) (x3 : Vec F S16x1024 .f32) (x4 : Vec F S1x1024 .f32) (x5 : Vec F S1024x9216 .bf16) (x6 : Vec F S31x8x1024 .f32) (x7 : Vec F S8x1024 .f32) (x8 : Vec F S1x1024 .f32) (x9 : Vec F S1x1024 .f32) (x10 : Vec F S1024x1024 .bf16) (x11 : Vec F S1x1024 .f32) (x12 : Vec F S3x8x1024 .f32) (x13 : Vec F S1024x1024 .bf16) (x14 : Vec F S1024x1024 .bf16) (x15 : Vec F S1x1024 .f32) (x16 : Vec F S1x256x1024 .f32) (x17 : Vec F S256x1024 .bf16) (x18 : Vec F S288x1024 .f32) (x19 : Vec F S256x1024 .f32) (x20 : Vec F S264x1024 .f32) (x21 : Vec F S256x256 .f32) (x22 : Vec F S256x1024 .bf16) (x23 : Vec F S256x1024 .bf16) (x24 : Vec F S256x1024 .bf16) (x25 : Vec F S32x1024 .f32) (x26 : Vec F S8x1024 .f32) :
    Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26)
    ⊢ wp frame (wpE (defs₀ (F := F)) Variants.none c none) Set.univ (cc0_gated_conv_block (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun _ => iprop(∃ (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty) (g26 : BufTy.Contents (Elt F) arg26.view.ty), Held c arg2 arg3 arg4 arg5 arg6 arg7 arg8 arg9 arg10 arg11 arg12 arg13 arg14 arg15 arg16 arg17 arg18 arg19 arg20 arg21 arg22 arg23 arg24 arg25 arg26
        (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) g16 g17 g18 g19 g20 g21 g22 g23 g24 g25 g26)) := by
  have hN : t.val < 64 := lt_of_lt_of_eq t.isLt (show cfg0.N = 64 from N_0)
  by_cases h1 : t.val % 16 = 0
  · have hc1 : cond1 (grid0.coords t) := (hcond1 t).mpr h1
    have hc2 : ¬cond2 (grid0.coords t) := fun h => by have := (hcond2 t).mp h; omega
    by_cases h0 : t.val = 0
    · have hc0 : cond0 (grid0.coords t) := (hcond0 t).mpr h0
      exact rest_ex c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 _ _ _ _ _ _ _ _ _ _ _ _
        ((headA c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2.2.2 Set.univ)
    · have hc0 : ¬cond0 (grid0.coords t) := fun h => h0 ((hcond0 t).mp h)
      exact rest_ex c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 _ _ _ _ _ _ _ _ _ _ _ _
        ((headC c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2 Set.univ)
  · have hc1 : ¬cond1 (grid0.coords t) := fun h => h1 ((hcond1 t).mp h)
    have hc2 : cond2 (grid0.coords t) := (hcond2 t).mpr (by omega)
    have hc0 : ¬cond0 (grid0.coords t) := fun h => by have := (hcond0 t).mp h; omega
    exact rest_ex c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 _ _ _ _ _ _ _ _ _ _ _ _
      ((headB c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2 Set.univ)

end Cert.KernelIdeal.Hand

end
-- ==== Proof.KI.Frame.lean ====
/- The frame: the pipeline's proof data, its body obligation, the run and the argument arrays unchanged. The output window's contents
   are not stated here. -/
module

public import proofs.«01_k».proof.Proof.KI.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-! ## The staging buffers and the scratch buffers as memrefs -/

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x9216 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S31x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x8x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x1024 .f32 := win0_14.stage (cfg0.slots t 14)
abbrev hs0_14 (t : Fin cfg0.N) : (ms0_14 t).IsWhole := hstage0_14 ((cfg0.slots t 14).cast nbuf0_14)
abbrev scM0_0 : Memref sig .tc .vmem S256x1024 .bf16 := Memref.whole cc0_scratch0
abbrev scH0_0 : scM0_0.IsWhole := Memref.isWhole_whole _
abbrev scM0_1 : Memref sig .tc .vmem S288x1024 .f32 := Memref.whole cc0_scratch1
abbrev scH0_1 : scM0_1.IsWhole := Memref.isWhole_whole _
abbrev scM0_2 : Memref sig .tc .vmem S256x1024 .f32 := Memref.whole cc0_scratch2
abbrev scH0_2 : scM0_2.IsWhole := Memref.isWhole_whole _
abbrev scM0_3 : Memref sig .tc .vmem S264x1024 .f32 := Memref.whole cc0_scratch3
abbrev scH0_3 : scM0_3.IsWhole := Memref.isWhole_whole _
abbrev scM0_4 : Memref sig .tc .vmem S256x256 .f32 := Memref.whole cc0_scratch4
abbrev scH0_4 : scM0_4.IsWhole := Memref.isWhole_whole _
abbrev scM0_5 : Memref sig .tc .vmem S256x1024 .bf16 := Memref.whole cc0_scratch5
abbrev scH0_5 : scM0_5.IsWhole := Memref.isWhole_whole _
abbrev scM0_6 : Memref sig .tc .vmem S256x1024 .bf16 := Memref.whole cc0_scratch6
abbrev scH0_6 : scM0_6.IsWhole := Memref.isWhole_whole _
abbrev scM0_7 : Memref sig .tc .vmem S256x1024 .bf16 := Memref.whole cc0_scratch7
abbrev scH0_7 : scM0_7.IsWhole := Memref.isWhole_whole _
abbrev scM0_8 : Memref sig .tc .vmem S32x1024 .f32 := Memref.whole cc0_scratch8
abbrev scH0_8 : scM0_8.IsWhole := Memref.isWhole_whole _
abbrev scM0_9 : Memref sig .tc .vmem S8x1024 .f32 := Memref.whole cc0_scratch9
abbrev scH0_9 : scM0_9.IsWhole := Memref.isWhole_whole _

/-- The launch's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-- A whole memref owned at `x` is held at the contents that read `x`. -/
theorem owns_out (c : Dev nD) {sh : Shape} {e : EltTy} (M : Memref sig .tc .vmem sh e) (h : M.IsWhole) (x : sh.Idx → Elt F e) :
    (owns (c : Thread nD τ) M fullShare x : sProp 𝕄) ⊢ (M.view.loc (c : Thread nD τ) ↦[M.view.set]{fullShare} h.unread x) := by
  unfold owns
  iintro ⟨%f, %hf, H⟩
  obtain rfl := h.eq_unread hf
  iexact H

/-- A memref held at contents that read `x` is owned at `x`. -/
theorem owns_in (c : Dev nD) {sh : Shape} {e : EltTy} (M : Memref sig .tc .vmem sh e) {f : M.view.ty.Contents (Elt F)}
    {x : sh.Idx → Elt F e} (hx : M.view.read (Elt F) f = x) :
    (M.view.loc (c : Thread nD τ) ↦[M.view.set]{fullShare} f) ⊢ (owns (c : Thread nD τ) M fullShare x : sProp 𝕄) := by
  unfold owns
  iintro H
  iexists _; isplitr; · ipureintro; exact hx
  iexact H

/-! ## The pipeline's proof data -/

/-- The output window is the one whose contents are not stated. -/
def forgets0 : Fin 15 → Bool := fun w => w.val == 14

/-- The proof data of the pipeline on core `c`: each input's buffer at its block after the body, the output at contents not stated;
    the invariant the launch's at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = Pipeline.ΦA spec0 c from rfl, show (dats m 0 c).Φ t.castSucc = Pipeline.ΦA spec0 c from rfl, PhiA0_eq]
  iintro ⟨⟨⟨⟨%x17, S0⟩, ⟨%x18, S1⟩, ⟨%x19, S2⟩, ⟨%x20, S3⟩, ⟨%x21, S4⟩, ⟨%x22, S5⟩, ⟨%x23, S6⟩, ⟨%x24, S7⟩, ⟨%x25, S8⟩, ⟨%x26, S9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%x16, H14⟩⟩
  ihave H0 := (owns_out c (ms0_0 t) (hs0_0 t) _) $$ H0
  ihave H1 := (owns_out c (ms0_1 t) (hs0_1 t) _) $$ H1
  ihave H2 := (owns_out c (ms0_2 t) (hs0_2 t) _) $$ H2
  ihave H3 := (owns_out c (ms0_3 t) (hs0_3 t) _) $$ H3
  ihave H4 := (owns_out c (ms0_4 t) (hs0_4 t) _) $$ H4
  ihave H5 := (owns_out c (ms0_5 t) (hs0_5 t) _) $$ H5
  ihave H6 := (owns_out c (ms0_6 t) (hs0_6 t) _) $$ H6
  ihave H7 := (owns_out c (ms0_7 t) (hs0_7 t) _) $$ H7
  ihave H8 := (owns_out c (ms0_8 t) (hs0_8 t) _) $$ H8
  ihave H9 := (owns_out c (ms0_9 t) (hs0_9 t) _) $$ H9
  ihave H10 := (owns_out c (ms0_10 t) (hs0_10 t) _) $$ H10
  ihave H11 := (owns_out c (ms0_11 t) (hs0_11 t) _) $$ H11
  ihave H12 := (owns_out c (ms0_12 t) (hs0_12 t) _) $$ H12
  ihave H13 := (owns_out c (ms0_13 t) (hs0_13 t) _) $$ H13
  ihave H14 := (owns_out c (ms0_14 t) (hs0_14 t) _) $$ H14
  ihave S0 := (owns_out c scM0_0 scH0_0 _) $$ S0
  ihave S1 := (owns_out c scM0_1 scH0_1 _) $$ S1
  ihave S2 := (owns_out c scM0_2 scH0_2 _) $$ S2
  ihave S3 := (owns_out c scM0_3 scH0_3 _) $$ S3
  ihave S4 := (owns_out c scM0_4 scH0_4 _) $$ S4
  ihave S5 := (owns_out c scM0_5 scH0_5 _) $$ S5
  ihave S6 := (owns_out c scM0_6 scH0_6 _) $$ S6
  ihave S7 := (owns_out c scM0_7 scH0_7 _) $$ S7
  ihave S8 := (owns_out c scM0_8 scH0_8 _) $$ S8
  ihave S9 := (owns_out c scM0_9 scH0_9 _) $$ S9
  iapply (wp_wand_r frame (wpE (defs₀ (F := F)) Variants.none c none) (Q := fun _ => iprop(∃ g16 g17 g18 g19 g20 g21 g22 g23 g24 g25 g26, Held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) scM0_0 scM0_1 scM0_2 scM0_3 scM0_4 scM0_5 scM0_6 scM0_7 scM0_8 scM0_9 ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_8 t).unread (iblk m c 8 t)) ((hs0_9 t).unread (iblk m c 9 t)) ((hs0_10 t).unread (iblk m c 10 t)) ((hs0_11 t).unread (iblk m c 11 t)) ((hs0_12 t).unread (iblk m c 12 t)) ((hs0_13 t).unread (iblk m c 13 t)) g16 g17 g18 g19 g20 g21 g22 g23 g24 g25 g26)))
  isplitl [H0 H1 H2 H3 H4 H5 H6 H7 H8 H9 H10 H11 H12 H13 H14 S0 S1 S2 S3 S4 S5 S6 S7 S8 S9]
  · iapply (body_ex c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 scH0_0 scM0_1 scH0_1 scM0_2 scH0_2 scM0_3 scH0_3 scM0_4 scH0_4 scM0_5 scH0_5 scM0_6 scH0_6 scM0_7 scH0_7 scM0_8 scH0_8 scM0_9 scH0_9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x16 x17 x18 x19 x20 x21 x22 x23 x24 x25 x26)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro %_ ⟨%g16, %g17, %g18, %g19, %g20, %g21, %g22, %g23, %g24, %g25, %g26, H0, H1, H2, H3, H4, H5, H6, H7, H8, H9, H10, H11, H12, H13, H14, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexists _; iapply (owns_in c scM0_0 rfl) $$ S0
      isplitl [S1]; · iexists _; iapply (owns_in c scM0_1 rfl) $$ S1
      isplitl [S2]; · iexists _; iapply (owns_in c scM0_2 rfl) $$ S2
      isplitl [S3]; · iexists _; iapply (owns_in c scM0_3 rfl) $$ S3
      isplitl [S4]; · iexists _; iapply (owns_in c scM0_4 rfl) $$ S4
      isplitl [S5]; · iexists _; iapply (owns_in c scM0_5 rfl) $$ S5
      isplitl [S6]; · iexists _; iapply (owns_in c scM0_6 rfl) $$ S6
      isplitl [S7]; · iexists _; iapply (owns_in c scM0_7 rfl) $$ S7
      isplitl [S8]; · iexists _; iapply (owns_in c scM0_8 rfl) $$ S8
      iexists _; iapply (owns_in c scM0_9 rfl) $$ S9
    iexact Hg
  isplitl [Ho]; · iexact Ho
  isplitl [H0]; · iapply (owns_in c (ms0_0 t) ((hs0_0 t).read_unread _)) $$ H0
  isplitl [H1]; · iapply (owns_in c (ms0_1 t) ((hs0_1 t).read_unread _)) $$ H1
  isplitl [H2]; · iapply (owns_in c (ms0_2 t) ((hs0_2 t).read_unread _)) $$ H2
  isplitl [H3]; · iapply (owns_in c (ms0_3 t) ((hs0_3 t).read_unread _)) $$ H3
  isplitl [H4]; · iapply (owns_in c (ms0_4 t) ((hs0_4 t).read_unread _)) $$ H4
  isplitl [H5]; · iapply (owns_in c (ms0_5 t) ((hs0_5 t).read_unread _)) $$ H5
  isplitl [H6]; · iapply (owns_in c (ms0_6 t) ((hs0_6 t).read_unread _)) $$ H6
  isplitl [H7]; · iapply (owns_in c (ms0_7 t) ((hs0_7 t).read_unread _)) $$ H7
  isplitl [H8]; · iapply (owns_in c (ms0_8 t) ((hs0_8 t).read_unread _)) $$ H8
  isplitl [H9]; · iapply (owns_in c (ms0_9 t) ((hs0_9 t).read_unread _)) $$ H9
  isplitl [H10]; · iapply (owns_in c (ms0_10 t) ((hs0_10 t).read_unread _)) $$ H10
  isplitl [H11]; · iapply (owns_in c (ms0_11 t) ((hs0_11 t).read_unread _)) $$ H11
  isplitl [H12]; · iapply (owns_in c (ms0_12 t) ((hs0_12 t).read_unread _)) $$ H12
  isplitl [H13]; · iapply (owns_in c (ms0_13 t) ((hs0_13 t).read_unread _)) $$ H13
  iexists _; iapply (owns_in c (ms0_14 t) rfl) $$ H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every input array of the pipeline ends unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

/-- The frame: the argument arrays end unchanged and the semaphore counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Hand

end
-- ==== Proof.KI.V.Kit.lean ====
/- Reading buffers that a run wrote piece by piece, and the causal filter's canonical payloads -/
module

public import proofs.«01_k».proof.Proof.KI.State
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Pieces that agree with one function -/

section Agree
variable {Val : EltTy → Type} {s : Shape} {e : EltTy}

/-- Every piece of the list holds, at each of its own indices, what `G` says at the place written. -/
def Agree (G : s.Idx → Val e) (L : List (View.Piece Val s e)) : Prop :=
  ∀ p ∈ L, ∀ x : p.1.shape.Idx, p.2 x = G (p.1.emb x)

/-- Some piece of the list covers the place. -/
def Covers (L : List (View.Piece Val s e)) (y : s.Idx) : Prop := ∃ p ∈ L, y ∈ p.1.set

theorem Agree.nil (G : s.Idx → Val e) : Agree G [] := fun _ h => absurd h List.not_mem_nil

theorem Agree.cons {G : s.Idx → Val e} {r : Rect s} {w : r.shape.Idx → Val e} {L : List (View.Piece Val s e)}
    (h : ∀ x, w x = G (r.emb x)) (hL : Agree G L) : Agree G (⟨r, w⟩ :: L) := by
  intro p hp
  rcases List.mem_cons.mp hp with rfl | hp
  · exact h
  · exact hL p hp

theorem Agree.append {G : s.Idx → Val e} {L L' : List (View.Piece Val s e)} (h : Agree G L) (h' : Agree G L') :
    Agree G (L ++ L') := fun p hp => (List.mem_append.mp hp).elim (h p) (h' p)

theorem Covers.head {r : Rect s} {w : r.shape.Idx → Val e} {L : List (View.Piece Val s e)} {y : s.Idx}
    (h : y ∈ r.set) : Covers (⟨r, w⟩ :: L) y := ⟨_, List.mem_cons_self, h⟩

theorem Covers.tail {p : View.Piece Val s e} {L : List (View.Piece Val s e)} {y : s.Idx}
    (h : Covers L y) : Covers (p :: L) y := let ⟨q, hq, hy⟩ := h; ⟨q, List.mem_cons_of_mem _ hq, hy⟩

theorem Covers.left {L L' : List (View.Piece Val s e)} {y : s.Idx} (h : Covers L y) : Covers (L ++ L') y :=
  let ⟨q, hq, hy⟩ := h; ⟨q, List.mem_append_left _ hq, hy⟩

theorem Covers.right {L L' : List (View.Piece Val s e)} {y : s.Idx} (h : Covers L' y) : Covers (L ++ L') y :=
  let ⟨q, hq, hy⟩ := h; ⟨q, List.mem_append_right _ hq, hy⟩

/-- A place read after agreeing pieces holds the function, where it was covered or already held it. -/
theorem read_agree {sig : RefSig} {κ : Kind} {sp : Space} (v : View sig κ sp s e) (f : v.ty.Contents Val)
    {G : s.Idx → Val e} {L : List (View.Piece Val s e)} (hL : Agree G L) (y : s.Idx)
    (h : Covers L y ∨ v.read Val f y = G y) : v.read Val (v.writes Val f L) y = G y := by
  by_cases hc : Covers L y
  · exact View.read_writes_apply_of_pieces v f G L hL y hc
  · rcases h with h | h
    · exact absurd h hc
    · rw [View.read_writes_apply_of_forall_not_mem v f y L fun p hp hy => hc ⟨p, hp, hy⟩]; exact h

end Agree

/-- Membership in a rectangle of rows and columns. -/
theorem mem_unit2 {s : Fin 2 → ℕ} {off size : Fin 2 → ℕ} {inb : ∀ a, off a + size a ≤ (⟨2, s⟩ : Shape).size a}
    {y : (⟨2, s⟩ : Shape).Idx} (h0 : off 0 ≤ (y 0).val) (h0' : (y 0).val < off 0 + size 0)
    (h1 : off 1 ≤ (y 1).val) (h1' : (y 1).val < off 1 + size 1) : y ∈ (Rect.unit (s := ⟨2, s⟩) off size inb).set :=
  Rect.mem_set_unit.mpr (Fin.forall_fin_two.mpr ⟨⟨h0, h0'⟩, ⟨h1, h1'⟩⟩)

/-! ## The causal filter of thirty-one taps -/

section ConvF
variable {F : FTy → Type} [FloatOps F]

/-- The seven rolled sums a loop of the long filter carries. -/
abbrev A7 (F : FTy → Type) [FloatOps F] : Type :=
  FVec F S8x128 .f32 × FVec F S8x128 .f32 × FVec F S8x128 .f32 × FVec F S8x128 .f32 × FVec F S8x128 .f32 × FVec F S8x128 .f32 × FVec F S8x128 .f32

/-- The seven rolled sums over four groups of rows. -/
def convRes (u0 u1 u2 u3 : Vec F S8x128 .f32) (w : Fin 31 → Vec F S1x8x128 .f32) : A7 F :=
  (k0_pay9 u0 u1 u2 u3 (w 29) (w 21) (w 13) (w 5),
   k0_pay11 (k0_pay10 u0 u1 u2 u3 (w 28) (w 20) (w 12) (w 4)),
   k0_pay12 u0 u1 u2 u3 (w 27) (w 19) (w 11) (w 3),
   k0_pay13 u0 u1 u2 u3 (w 26) (w 18) (w 10) (w 2),
   k0_pay14 u0 u1 u2 u3 (w 25) (w 17) (w 9) (w 1),
   k0_pay15 u0 u1 u2 u3 (w 24) (w 16) (w 8) (w 0),
   k0_pay102 u0 u1 u2 (w 23) (w 15) (w 7))

/-- The eight rows one trip stores. -/
def convOut (m : Fin 7 → IVec S8x128 1) (a : A7 F) (u0 u1 u2 u3 : Vec F S8x128 .f32) (w : Fin 31 → Vec F S1x8x128 .f32)
    (b : Vec F S8x128 .f32) : FVec F S8x128 .f32 :=
  k0_pay103 (m 0) (m 1) (m 2) (m 3) (m 4) (m 5) (m 6) a.1 a.2.1 a.2.2.1 a.2.2.2.1 a.2.2.2.2.1 a.2.2.2.2.2.1 a.2.2.2.2.2.2
    (k0_pay8 u3 (k0_pay7 u0 u1 u2 (w 30) (w 22) (w 14)) (w 6))
    (convRes u0 u1 u2 u3 w).1 (convRes u0 u1 u2 u3 w).2.1 (convRes u0 u1 u2 u3 w).2.2.1 (convRes u0 u1 u2 u3 w).2.2.2.1
    (convRes u0 u1 u2 u3 w).2.2.2.2.1 (convRes u0 u1 u2 u3 w).2.2.2.2.2.1 (convRes u0 u1 u2 u3 w).2.2.2.2.2.2 b

/-- The recursion a loop of the long filter makes. -/
structure ConvLoop (n : ℕ) (st : ℕ → A7 F × List (View.Piece (Elt F) S256x1024 .f32))
    (init : A7 F) (u0 u1 u2 u3 : Fin n → Vec F S8x128 .f32) (w : Fin 31 → Vec F S1x8x128 .f32)
    (m : Fin 7 → IVec S8x128 1) (b : Vec F S8x128 .f32) (off : Fin n → Fin 2 → ℕ)
    (inb : ∀ k a, off k a + S8x128.size a ≤ S256x1024.size a) : Prop where
  zero : st 0 = (init, [])
  succ : ∀ k : Fin n, st (k.val + 1) = (convRes (u0 k) (u1 k) (u2 k) (u3 k) w,
    ⟨Rect.unit (s := S256x1024) (off k) S8x128.size (inb k), convOut m (st k.val).1 (u0 k) (u1 k) (u2 k) (u3 k) w b⟩ :: (st k.val).2)

end ConvF

/-- One rolled sum before rolling: the taps of residue `r`, at row `R` of the padded rows. -/
def tapA (w U : ℕ → ℕ → EReal) (r R c : ℕ) : EReal :=
  if r = 7 then w 23 c * U R c + w 15 c * U (R - 8) c + w 7 c * U (R - 16) c
  else w (30 - r) c * U R c + w (22 - r) c * U (R - 8) c + w (14 - r) c * U (R - 16) c + w (6 - r) c * U (R - 24) c

/-- The long filter at row `ρ` of the tile, its thirty-two padded rows before it. -/
def convA (w U : ℕ → ℕ → EReal) (b : ℕ → EReal) (ρ c : ℕ) : EReal :=
  tapA w U 0 (32 + ρ) c + tapA w U 1 (31 + ρ) c + tapA w U 2 (30 + ρ) c + tapA w U 3 (29 + ρ) c + tapA w U 4 (28 + ρ) c
    + tapA w U 5 (27 + ρ) c + tapA w U 6 (26 + ρ) c + tapA w U 7 (25 + ρ) c + b c

/-- The carried sums are those of the group of rows starting at `B`. -/
def RolledAt (w U : ℕ → ℕ → EReal) (ℓ B : ℕ) (a : A7 Ideal) : Prop :=
  ∀ (i : Fin 8) (l : Fin 128),
    a.1 (ix2 i l) = tapA w U 1 (B + (i.val + 7) % 8) (ℓ + l.val) ∧
    a.2.1 (ix2 i l) = tapA w U 2 (B + (i.val + 6) % 8) (ℓ + l.val) ∧
    a.2.2.1 (ix2 i l) = tapA w U 3 (B + (i.val + 5) % 8) (ℓ + l.val) ∧
    a.2.2.2.1 (ix2 i l) = tapA w U 4 (B + (i.val + 4) % 8) (ℓ + l.val) ∧
    a.2.2.2.2.1 (ix2 i l) = tapA w U 5 (B + (i.val + 3) % 8) (ℓ + l.val) ∧
    a.2.2.2.2.2.1 (ix2 i l) = tapA w U 6 (B + (i.val + 2) % 8) (ℓ + l.val) ∧
    a.2.2.2.2.2.2 (ix2 i l) = tapA w U 7 (B + (i.val + 1) % 8) (ℓ + l.val)

/-- A group of eight rows of 128 lanes reads `U` from row `B`. -/
def GroupAt (U : ℕ → ℕ → EReal) (ℓ B : ℕ) (u : Vec Ideal S8x128 .f32) : Prop :=
  ∀ (i : Fin 8) (l : Fin 128), u (ix2 i l) = U (B + i.val) (ℓ + l.val)

/-- The taps read the weights. -/
def TapsAt (w : ℕ → ℕ → EReal) (ℓ : ℕ) (W : Fin 31 → Vec Ideal S1x8x128 .f32) : Prop :=
  ∀ (s : Fin 31) (i : Fin 8) (l : Fin 128), W s (ix3 0 i l) = w s.val (ℓ + l.val)

/-- The masks of the long filter. -/
def MasksAt (m : Fin 7 → IVec S8x128 1) : Prop :=
  ∀ (r : Fin 7) (i : Fin 8) (l : Fin 128), m r (ix2 i l) = if r.val + 1 ≤ i.val then 1#1 else 0#1

theorem convRes_at {w U : ℕ → ℕ → EReal} {ℓ B : ℕ} {u0 u1 u2 u3 : Vec Ideal S8x128 .f32} {W : Fin 31 → Vec Ideal S1x8x128 .f32}
    (h0 : GroupAt U ℓ (B + 24) u0) (h1 : GroupAt U ℓ (B + 16) u1) (h2 : GroupAt U ℓ (B + 8) u2) (h3 : GroupAt U ℓ B u3)
    (hW : TapsAt w ℓ W) : RolledAt w U ℓ (B + 24) (convRes u0 u1 u2 u3 W) := by
  intro i l
  have e8 (x : ℕ) : B + 24 + x - 8 = B + 16 + x := by omega
  have e16 (x : ℕ) : B + 24 + x - 16 = B + 8 + x := by omega
  have e24 (x : ℕ) : B + 24 + x - 24 = B + x := by omega
  refine ⟨?_, ?_, ?_, ?_, ?_, ?_, ?_⟩
  all_goals
    simp only [convRes, tapA, e8, e16, e24]
    pointwise [k0_pay9, k0_pay10, k0_pay11, k0_pay12, k0_pay13, k0_pay14, k0_pay15, k0_pay102]
    simp [h0 _ _, h1 _ _, h2 _ _, h3 _ _, hW _ _ _]

theorem pick_tap {w U : ℕ → ℕ → EReal} (r B c : ℕ) (i : Fin 8) (hr : r ≤ 7) (hr' : 1 ≤ r) :
    (if r ≤ i.val then tapA w U r (B + 8 + (i.val + (8 - r)) % 8) c else tapA w U r (B + (i.val + (8 - r)) % 8) c)
      = tapA w U r (B + 8 - r + i.val) c := by
  split
  · congr 1; omega
  · congr 1; omega

theorem convOut_at {w U : ℕ → ℕ → EReal} {ℓ k : ℕ} {bias : ℕ → EReal} {u0 u1 u2 u3 b : Vec Ideal S8x128 .f32}
    {W : Fin 31 → Vec Ideal S1x8x128 .f32} {m : Fin 7 → IVec S8x128 1} {a : A7 Ideal}
    (h0 : GroupAt U ℓ (8 * k + 8 + 24) u0) (h1 : GroupAt U ℓ (8 * k + 8 + 16) u1) (h2 : GroupAt U ℓ (8 * k + 8 + 8) u2)
    (h3 : GroupAt U ℓ (8 * k + 8) u3) (hW : TapsAt w ℓ W) (hm : MasksAt m) (ha : RolledAt w U ℓ (8 * k + 24) a)
    (hb : ∀ (i : Fin 8) (l : Fin 128), b (ix2 i l) = bias (ℓ + l.val)) (i : Fin 8) (l : Fin 128) :
    convOut m a u0 u1 u2 u3 W b (ix2 i l) = convA w U bias (8 * k + i.val) (ℓ + l.val) := by
  obtain ⟨r1, r2, r3, r4, r5, r6, r7⟩ := convRes_at h0 h1 h2 h3 hW i l
  obtain ⟨a1, a2, a3, a4, a5, a6, a7⟩ := ha i l
  have e8 (x : ℕ) : 32 + x - 8 = 24 + x := by omega
  have e16 (x : ℕ) : 32 + x - 16 = 16 + x := by omega
  have e24 (x : ℕ) : 32 + x - 24 = 8 + x := by omega
  have c0 : k0_pay8 u3 (k0_pay7 u0 u1 u2 (W 30) (W 22) (W 14)) (W 6) (ix2 i l)
      = tapA w U 0 (32 + (8 * k + i.val)) (ℓ + l.val) := by
    have g0 : u0 (ix2 i l) = U (32 + (8 * k + i.val)) (ℓ + l.val) := (h0 i l).trans (by congr 1; omega)
    have g1 : u1 (ix2 i l) = U (24 + (8 * k + i.val)) (ℓ + l.val) := (h1 i l).trans (by congr 1; omega)
    have g2 : u2 (ix2 i l) = U (16 + (8 * k + i.val)) (ℓ + l.val) := (h2 i l).trans (by congr 1; omega)
    have g3 : u3 (ix2 i l) = U (8 + (8 * k + i.val)) (ℓ + l.val) := (h3 i l).trans (by congr 1; omega)
    simp only [tapA, e8, e16, e24]
    pointwise [k0_pay7, k0_pay8]
    simp [g0, g1, g2, g3, hW _ _ _]
  have q (r : ℕ) (h : r < 7) : m ⟨r, h⟩ (ix2 i l) = if r + 1 ≤ i.val then 1#1 else 0#1 := hm ⟨r, h⟩ i l
  have pk (r : ℕ) (hr : r ≤ 7) (hr' : 1 ≤ r) (x y : EReal)
      (hx : x = tapA w U r (8 * k + 8 + 24 + (i.val + (8 - r)) % 8) (ℓ + l.val))
      (hy : y = tapA w U r (8 * k + 24 + (i.val + (8 - r)) % 8) (ℓ + l.val)) (M : BitVec 1)
      (hM : M = if r ≤ i.val then 1#1 else 0#1) :
      Scalar.select M x y = tapA w U r (32 - r + (8 * k + i.val)) (ℓ + l.val) := by
    subst hx hy hM
    show (if _ = 1#1 then _ else _) = _
    have := pick_tap (w := w) (U := U) r (8 * k + 24) (ℓ + l.val) i hr hr'
    by_cases h : r ≤ i.val
    · rw [if_pos h] at this
      rw [if_pos h, if_pos rfl, show 8 * k + 8 + 24 = 8 * k + 24 + 8 by omega, this]; congr 1; omega
    · rw [if_neg h] at this
      rw [if_neg h, if_neg (by decide), this]; congr 1; omega
  generalize hres : convRes u0 u1 u2 u3 W = res at *
  simp only [convOut, convA, hres]
  pointwise [k0_pay103]
  rw [c0, pk 1 (by decide) (by decide) _ _ r1 a1 _ (hm 0 i l), pk 2 (by decide) (by decide) _ _ r2 a2 _ (hm 1 i l),
    pk 3 (by decide) (by decide) _ _ r3 a3 _ (hm 2 i l), pk 4 (by decide) (by decide) _ _ r4 a4 _ (hm 3 i l),
    pk 5 (by decide) (by decide) _ _ r5 a5 _ (hm 4 i l), pk 6 (by decide) (by decide) _ _ r6 a6 _ (hm 5 i l),
    pk 7 (by decide) (by decide) _ _ r7 a7 _ (hm 6 i l), hb i l]

/-- What a loop of the long filter leaves: eight rows a trip, each the filter's. -/
theorem ConvLoop.facts {n : ℕ} {st : ℕ → A7 Ideal × List (View.Piece (Elt Ideal) S256x1024 .f32)} {init : A7 Ideal}
    {u0 u1 u2 u3 : Fin n → Vec Ideal S8x128 .f32} {W : Fin 31 → Vec Ideal S1x8x128 .f32}
    {m : Fin 7 → IVec S8x128 1} {b : Vec Ideal S8x128 .f32} {off : Fin n → Fin 2 → ℕ}
    {inb : ∀ k a, off k a + S8x128.size a ≤ S256x1024.size a}
    (H : ConvLoop n st init u0 u1 u2 u3 W m b off inb) {w U : ℕ → ℕ → EReal} {bias : ℕ → EReal} {ℓ : ℕ}
    (h0 : ∀ k : Fin n, GroupAt U ℓ (8 * k.val + 8 + 24) (u0 k)) (h1 : ∀ k : Fin n, GroupAt U ℓ (8 * k.val + 8 + 16) (u1 k))
    (h2 : ∀ k : Fin n, GroupAt U ℓ (8 * k.val + 8 + 8) (u2 k)) (h3 : ∀ k : Fin n, GroupAt U ℓ (8 * k.val + 8) (u3 k))
    (hW : TapsAt w ℓ W) (hm : MasksAt m) (hi : RolledAt w U ℓ 24 init)
    (hb : ∀ (i : Fin 8) (l : Fin 128), b (ix2 i l) = bias (ℓ + l.val))
    (ho : ∀ k : Fin n, off k = ![8 * k.val, ℓ]) (j : ℕ) (hj : j ≤ n) :
    RolledAt w U ℓ (8 * j + 24) (st j).1
      ∧ Agree (fun y : S256x1024.Idx => convA w U bias (y 0).val (y 1).val) (st j).2
      ∧ ∀ y : S256x1024.Idx, (y 0).val < 8 * j → ℓ ≤ (y 1).val → (y 1).val < ℓ + 128 → Covers (st j).2 y := by
  induction j with
  | zero => rw [H.zero]; exact ⟨hi, Agree.nil _, fun y h => absurd h (Nat.not_lt_zero _)⟩
  | succ k ih =>
    obtain ⟨ir, ia, ic⟩ := ih (by omega)
    rw [H.succ ⟨k, by omega⟩]
    refine ⟨?_, Agree.cons (fun x => ?_) ia, fun y hy h1' h2' => ?_⟩
    · have := convRes_at (h0 ⟨k, by omega⟩) (h1 ⟨k, by omega⟩) (h2 ⟨k, by omega⟩) (h3 ⟨k, by omega⟩) hW
      rwa [show 8 * (k + 1) + 24 = 8 * k + 8 + 24 by omega]
    · obtain ⟨i, l, rfl⟩ : ∃ (i : Fin 8) (l : Fin 128), x = ix2 i l := ⟨x 0, x 1, (eq_ix2 x)⟩
      refine (convOut_at (h0 ⟨k, by omega⟩) (h1 ⟨k, by omega⟩) (h2 ⟨k, by omega⟩) (h3 ⟨k, by omega⟩) hW hm ir hb i l).trans ?_
      show convA w U bias _ _ = convA w U bias _ _
      congr 1
      · show _ = off ⟨k, by omega⟩ 0 + 1 * i.val
        rw [ho]; simp
      · show _ = off ⟨k, by omega⟩ 1 + 1 * l.val
        rw [ho]; simp
    · by_cases hk : (y 0).val < 8 * k
      · exact (ic y hk h1' h2').tail
      · have z0 : off ⟨k, by omega⟩ 0 = 8 * k := by rw [ho]; rfl
        have z1 : off ⟨k, by omega⟩ 1 = ℓ := by rw [ho]; rfl
        refine Covers.head (mem_unit2 ?_ ?_ ?_ ?_)
        · rw [z0]; omega
        · rw [z0]; show _ < 8 * k + 8; omega
        · rw [z1]; omega
        · rw [z1]; exact h2'

end Cert.KernelIdeal.Hand
-- ==== Proof.KI.V.LoopA.lean ====
/- The eight loops of the long filter, one per 128 lanes -/
module

public import proofs.«01_k».proof.Proof.KI.V.Kit
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (𝒱 : Variants) (c : Dev nD) (bd : Option 𝒱.V) (i : grid0.Coords)
  (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)

/-- The thirty-one taps at 128 lanes. -/
def tapsOf (arg6 : Memref sig .tc .vmem S31x8x1024 .f32) (X6 : BufTy.Contents (Elt Ideal) arg6.view.ty) (ℓ : ℕ) (hℓ : ℓ + 128 ≤ 1024)
    (s : Fin 31) : Vec Ideal S1x8x128 .f32 :=
  View.readAt (Elt Ideal) arg6.view (Rect.unit (s := S31x8x1024) ![s.val, 0, ℓ] S1x8x128.size
    (fun a => by fin_cases a <;> simp [S1x8x128, S31x8x1024, Fin.isValue] <;> omega)).toLoadRect X6

/-- Eight rows of the padded rows at 128 lanes. -/
def rowsOf (arg18 : Memref sig .tc .vmem S288x1024 .f32) (X18 : BufTy.Contents (Elt Ideal) arg18.view.ty) (off : Fin 2 → ℕ)
    (inb : ∀ a, off a + S8x128.size a ≤ S288x1024.size a) : Vec Ideal S8x128 .f32 :=
  View.readAt (Elt Ideal) arg18.view (Rect.unit (s := S288x1024) off S8x128.size inb).toLoadRect X18

/-- What the long filter's buffer holds after a loop. -/
def LoopA (w U : ℕ → ℕ → EReal) (bias : ℕ → EReal) (ℓ : ℕ) (L : List (View.Piece (Elt Ideal) S256x1024 .f32)) : Prop :=
  Agree (fun y : S256x1024.Idx => convA w U bias (y 0).val (y 1).val) L
    ∧ ∀ y : S256x1024.Idx, ℓ ≤ (y 1).val → (y 1).val < ℓ + 128 → Covers L y

/-- The rows read `U`, on the lanes from `ℓ`. -/
def Reads18 (arg18 : Memref sig .tc .vmem S288x1024 .f32) (X18 : BufTy.Contents (Elt Ideal) arg18.view.ty) (U : ℕ → ℕ → EReal) (ℓ : ℕ) : Prop :=
  ∀ y : S288x1024.Idx, ℓ ≤ (y 1).val → (y 1).val < ℓ + 128 → arg18.view.read (Elt Ideal) X18 y = U (y 0).val (y 1).val

theorem rowsOf_at {arg18 : Memref sig .tc .vmem S288x1024 .f32} {X18 : BufTy.Contents (Elt Ideal) arg18.view.ty} {U : ℕ → ℕ → EReal} {ℓ : ℕ}
    (h : Reads18 arg18 X18 U ℓ) {off : Fin 2 → ℕ} {inb : ∀ a, off a + S8x128.size a ≤ S288x1024.size a} {B : ℕ}
    (ho : off = ![B, ℓ]) : GroupAt U ℓ B (rowsOf arg18 X18 off inb) := by
  subst ho
  intro i l
  refine (h ((Rect.unit (s := S288x1024) ![B, ℓ] S8x128.size inb).toLoadRect.idx (ix2 i l)) ?_ ?_).trans ?_
  · show ℓ ≤ ℓ + 1 * l.val; omega
  · show ℓ + 1 * l.val < ℓ + 128; omega
  · show U (B + 1 * i.val) (ℓ + 1 * l.val) = _; rw [Nat.one_mul, Nat.one_mul]

theorem tapsOf_at {arg6 : Memref sig .tc .vmem S31x8x1024 .f32} {X6 : BufTy.Contents (Elt Ideal) arg6.view.ty} {w : ℕ → ℕ → EReal}
    (h : ∀ y : S31x8x1024.Idx, arg6.view.read (Elt Ideal) X6 y = w (y 0).val (y 2).val) (ℓ : ℕ) (hℓ : ℓ + 128 ≤ 1024) :
    TapsAt w ℓ (tapsOf arg6 X6 ℓ hℓ) := by
  intro s i l
  refine (h _).trans ?_
  show w s.val (ℓ + 1 * l.val) = _
  rw [Nat.one_mul]

theorem loopA {arg6 : Memref sig .tc .vmem S31x8x1024 .f32} {X6 : BufTy.Contents (Elt Ideal) arg6.view.ty}
    {arg7 : Memref sig .tc .vmem S8x1024 .f32} {X7 : BufTy.Contents (Elt Ideal) arg7.view.ty}
    {arg18 : Memref sig .tc .vmem S288x1024 .f32} {X18 : BufTy.Contents (Elt Ideal) arg18.view.ty}
    {n : ℕ} {st : ℕ → A7 Ideal × List (View.Piece (Elt Ideal) S256x1024 .f32)} {init : A7 Ideal} {m : Fin 7 → IVec S8x128 1}
    {off1 : Fin n → BitVec 32 → Fin 2 → ℕ} {inb1 : ∀ (k : Fin n) (r : Fin 4) a, off1 k (BitVec.ofNat 32 r.val) a + S8x128.size a ≤ S288x1024.size a}
    {off2 : Fin n → Fin 2 → ℕ} {inb2 : ∀ k a, off2 k a + S8x128.size a ≤ S256x1024.size a}
    {ℓ : ℕ} {hℓ : ℓ + 128 ≤ 1024} {inb7 : ∀ a, (![0, ℓ] : Fin 2 → ℕ) a + S8x128.size a ≤ S8x1024.size a}
    (H : ConvLoop n st init (fun k => rowsOf arg18 X18 (off1 k 0#32) (inb1 k 0)) (fun k => rowsOf arg18 X18 (off1 k 1#32) (inb1 k 1))
      (fun k => rowsOf arg18 X18 (off1 k 2#32) (inb1 k 2)) (fun k => rowsOf arg18 X18 (off1 k 3#32) (inb1 k 3))
      (tapsOf arg6 X6 ℓ hℓ) m (View.readAt (Elt Ideal) arg7.view (Rect.unit (s := S8x1024) ![0, ℓ] S8x128.size inb7).toLoadRect X7) off2 inb2)
    (hn : n = 32) (ho1 : ∀ (k : Fin n) (r : Fin 4), off1 k (BitVec.ofNat 32 r.val) = ![8 * k.val + 32 - 8 * r.val, ℓ])
    (ho2 : ∀ k : Fin n, off2 k = ![8 * k.val, ℓ])
    {w U : ℕ → ℕ → EReal} {bias : ℕ → EReal} (h18 : Reads18 arg18 X18 U ℓ)
    (h6 : ∀ y : S31x8x1024.Idx, arg6.view.read (Elt Ideal) X6 y = w (y 0).val (y 2).val)
    (h7 : ∀ y : S8x1024.Idx, arg7.view.read (Elt Ideal) X7 y = bias (y 1).val)
    (hm : MasksAt m) (hi : RolledAt w U ℓ 24 init) : LoopA w U bias ℓ (st n).2 := by
  have := H.facts (w := w) (U := U) (bias := bias) (ℓ := ℓ) (fun k => rowsOf_at h18 ((ho1 k 0).trans (by simp)))
    (fun k => rowsOf_at h18 ((ho1 k 1).trans (by simp))) (fun k => rowsOf_at h18 ((ho1 k 2).trans (by simp)))
    (fun k => rowsOf_at h18 ((ho1 k 3).trans (by simp))) (tapsOf_at h6 ℓ hℓ) hm hi (fun i l => by
      refine (h7 _).trans ?_
      show bias (ℓ + 1 * l.val) = _
      rw [Nat.one_mul]) ho2 n le_rfl
  refine ⟨this.2.1, fun y h h' => this.2.2 y ?_ h h'⟩
  have h0 : (y 0).val < 256 := (y 0).isLt
  omega

theorem loopA1 (v52 v54 v56 v58 v60 v62 v64 : IVec S8x128 1) (v65 v66 v67 v84 v100 v116 v132 v148 v164 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 0)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v52, v54, v56, v58, v60, v62, v64]) (init : A7 Ideal) (hi : RolledAt w U 0 24 init) :
    LoopA w U bias 0 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v52 v54 v56 v58 v60 v62 v64 v65 v66 v67 v84 v100 v116 v132 v148 v164 X_arg6 X_arg7 X_arg18 init (Scf.trips k0_t1_loop.lb k0_t1_loop.ub k0_t1_loop.st)).2 :=
  loopA (n := k0_t1_loop.trips) (m := ![v52, v54, v56, v58, v60, v62, v64]) (off1 := k0_off1) (inb1 := fun k r => k0_off1_inb k r) (off2 := k0_off2)
    (inb2 := fun k => k0_off2_inb k) (hℓ := by decide) (inb7 := inb_S8x1024_S8x128_0_0)
    ⟨rfl, fun k => (st_k0_t1_succ ..).trans (by unfold tripR_k0_t1 tripL_k0_t1 trip_k0_t1; rfl)⟩
    (by decide +kernel) (by decide +kernel) (by decide +kernel) h18 h6 h7 hm hi

theorem loopA2 (v181 v183 v185 v187 v189 v191 v193 : IVec S8x128 1) (v195 v196 v213 v229 v245 v261 v277 v293 v296 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 128)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v181, v183, v185, v187, v189, v191, v193]) (init : A7 Ideal) (hi : RolledAt w U 128 24 init) :
    LoopA w U bias 128 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v181 v183 v185 v187 v189 v191 v193 v195 v196 v213 v229 v245 v261 v277 v293 v296 X_arg6 X_arg7 X_arg18 init (Scf.trips k0_t2_loop.lb k0_t2_loop.ub k0_t2_loop.st)).2 :=
  loopA (n := k0_t2_loop.trips) (m := ![v181, v183, v185, v187, v189, v191, v193]) (off1 := k0_off3) (inb1 := fun k r => k0_off3_inb k r) (off2 := k0_off4)
    (inb2 := fun k => k0_off4_inb k) (hℓ := by decide) (inb7 := inb_S8x1024_S8x128_0_128)
    ⟨rfl, fun k => (st_k0_t2_succ ..).trans (by unfold tripR_k0_t2 tripL_k0_t2 trip_k0_t2; rfl)⟩
    (by decide +kernel) (by decide +kernel) (by decide +kernel) h18 h6 h7 hm hi

theorem loopA3 (v329 v331 v333 v335 v337 v339 v341 : IVec S8x128 1) (v342 v343 v344 v345 v361 v377 v393 v409 v425 v427 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 256)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v329, v331, v333, v335, v337, v339, v341]) (init : A7 Ideal) (hi : RolledAt w U 256 24 init) :
    LoopA w U bias 256 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v329 v331 v333 v335 v337 v339 v341 v342 v343 v344 v345 v361 v377 v393 v409 v425 v427 X_arg6 X_arg7 X_arg18 init (Scf.trips k0_t3_loop.lb k0_t3_loop.ub k0_t3_loop.st)).2 :=
  loopA (n := k0_t3_loop.trips) (m := ![v329, v331, v333, v335, v337, v339, v341]) (off1 := k0_off5) (inb1 := fun k r => k0_off5_inb k r) (off2 := k0_off6)
    (inb2 := fun k => k0_off6_inb k) (hℓ := by decide) (inb7 := inb_S8x1024_S8x128_0_256)
    ⟨rfl, fun k => (st_k0_t3_succ ..).trans (by unfold tripR_k0_t3 tripL_k0_t3 trip_k0_t3; rfl)⟩
    (by decide +kernel) (by decide +kernel) (by decide +kernel) h18 h6 h7 hm hi

theorem loopA4 (v458 v460 v462 v464 v466 v468 v470 : IVec S8x128 1) (v471 v472 v473 v474 v490 v506 v522 v538 v554 v557 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 384)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v458, v460, v462, v464, v466, v468, v470]) (init : A7 Ideal) (hi : RolledAt w U 384 24 init) :
    LoopA w U bias 384 (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v458 v460 v462 v464 v466 v468 v470 v471 v472 v473 v474 v490 v506 v522 v538 v554 v557 X_arg6 X_arg7 X_arg18 init (Scf.trips k0_t4_loop.lb k0_t4_loop.ub k0_t4_loop.st)).2 :=
  loopA (n := k0_t4_loop.trips) (m := ![v458, v460, v462, v464, v466, v468, v470]) (off1 := k0_off7) (inb1 := fun k r => k0_off7_inb k r) (off2 := k0_off8)
    (inb2 := fun k => k0_off8_inb k) (hℓ := by decide) (inb7 := inb_S8x1024_S8x128_0_384)
    ⟨rfl, fun k => (st_k0_t4_succ ..).trans (by unfold tripR_k0_t4 tripL_k0_t4 trip_k0_t4; rfl)⟩
    (by decide +kernel) (by decide +kernel) (by decide +kernel) h18 h6 h7 hm hi

theorem loopA5 (v606 v608 v610 v612 v614 v616 v618 : IVec S8x128 1) (v620 v621 v638 v654 v670 v686 v702 v718 v721 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 512)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v606, v608, v610, v612, v614, v616, v618]) (init : A7 Ideal) (hi : RolledAt w U 512 24 init) :
    LoopA w U bias 512 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v606 v608 v610 v612 v614 v616 v618 v620 v621 v638 v654 v670 v686 v702 v718 v721 X_arg6 X_arg7 X_arg18 init (Scf.trips k0_t5_loop.lb k0_t5_loop.ub k0_t5_loop.st)).2 :=
  loopA (n := k0_t5_loop.trips) (m := ![v606, v608, v610, v612, v614, v616, v618]) (off1 := k0_off9) (inb1 := fun k r => k0_off9_inb k r) (off2 := k0_off10)
    (inb2 := fun k => k0_off10_inb k) (hℓ := by decide) (inb7 := inb_S8x1024_S8x128_0_512)
    ⟨rfl, fun k => (st_k0_t5_succ ..).trans (by unfold tripR_k0_t5 tripL_k0_t5 trip_k0_t5; rfl)⟩
    (by decide +kernel) (by decide +kernel) (by decide +kernel) h18 h6 h7 hm hi

theorem loopA6 (v735 v737 v739 v741 v743 v745 v747 : IVec S8x128 1) (v750 v767 v783 v799 v815 v831 v847 v854 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 640)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v735, v737, v739, v741, v743, v745, v747]) (init : A7 Ideal) (hi : RolledAt w U 640 24 init) :
    LoopA w U bias 640 (st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v735 v737 v739 v741 v743 v745 v747 v750 v767 v783 v799 v815 v831 v847 v854 X_arg6 X_arg7 X_arg18 init (Scf.trips k0_t6_loop.lb k0_t6_loop.ub k0_t6_loop.st)).2 :=
  loopA (n := k0_t6_loop.trips) (m := ![v735, v737, v739, v741, v743, v745, v747]) (off1 := k0_off11) (inb1 := fun k r => k0_off11_inb k r) (off2 := k0_off12)
    (inb2 := fun k => k0_off12_inb k) (hℓ := by decide) (inb7 := inb_S8x1024_S8x128_0_640)
    ⟨rfl, fun k => (st_k0_t6_succ ..).trans (by unfold tripR_k0_t6 tripL_k0_t6 trip_k0_t6; rfl)⟩
    (by decide +kernel) (by decide +kernel) (by decide +kernel) h18 h6 h7 hm hi

theorem loopA7 (v883 v885 v887 v889 v891 v893 v895 : IVec S8x128 1) (v896 v897 v898 v899 v915 v931 v947 v963 v979 v982 v984 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 768)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v883, v885, v887, v889, v891, v893, v895]) (init : A7 Ideal) (hi : RolledAt w U 768 24 init) :
    LoopA w U bias 768 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v883 v885 v887 v889 v891 v893 v895 v896 v897 v898 v899 v915 v931 v947 v963 v979 v982 v984 X_arg6 X_arg7 X_arg18 init (Scf.trips k0_t7_loop.lb k0_t7_loop.ub k0_t7_loop.st)).2 :=
  loopA (n := k0_t7_loop.trips) (m := ![v883, v885, v887, v889, v891, v893, v895]) (off1 := k0_off13) (inb1 := fun k r => k0_off13_inb k r) (off2 := k0_off14)
    (inb2 := fun k => k0_off14_inb k) (hℓ := by decide) (inb7 := inb_S8x1024_S8x128_0_768)
    ⟨rfl, fun k => (st_k0_t7_succ ..).trans (by unfold tripR_k0_t7 tripL_k0_t7 trip_k0_t7; rfl)⟩
    (by decide +kernel) (by decide +kernel) (by decide +kernel) h18 h6 h7 hm hi

theorem loopA8 (v1012 v1014 v1016 v1018 v1020 v1022 v1024 : IVec S8x128 1) (v1025 v1026 v1027 v1028 v1044 v1060 v1076 v1092 v1108 v1115 : Vec Ideal S8x128 .f32) (X_arg6 : BufTy.Contents (Elt Ideal) arg6.view.ty) (X_arg7 : BufTy.Contents (Elt Ideal) arg7.view.ty) (X_arg18 : BufTy.Contents (Elt Ideal) arg18.view.ty)
    {w U : ℕ → ℕ → EReal} {bias : ℕ → EReal} (h18 : Reads18 arg18 X_arg18 U 896)
    (h6 : ∀ y : S31x8x1024.Idx, arg6.view.read (Elt Ideal) X_arg6 y = w (y 0).val (y 2).val)
    (h7 : ∀ y : S8x1024.Idx, arg7.view.read (Elt Ideal) X_arg7 y = bias (y 1).val)
    (hm : MasksAt ![v1012, v1014, v1016, v1018, v1020, v1022, v1024]) (init : A7 Ideal) (hi : RolledAt w U 896 24 init) :
    LoopA w U bias 896 (st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1012 v1014 v1016 v1018 v1020 v1022 v1024 v1025 v1026 v1027 v1028 v1044 v1060 v1076 v1092 v1108 v1115 X_arg6 X_arg7 X_arg18 init (Scf.trips k0_t8_loop.lb k0_t8_loop.ub k0_t8_loop.st)).2 :=
  loopA (n := k0_t8_loop.trips) (m := ![v1012, v1014, v1016, v1018, v1020, v1022, v1024]) (off1 := k0_off15) (inb1 := fun k r => k0_off15_inb k r) (off2 := k0_off16)
    (inb2 := fun k => k0_off16_inb k) (hℓ := by decide) (inb7 := inb_S8x1024_S8x128_0_896)
    ⟨rfl, fun k => (st_k0_t8_succ ..).trans (by unfold tripR_k0_t8 tripL_k0_t8 trip_k0_t8; rfl)⟩
    (by decide +kernel) (by decide +kernel) (by decide +kernel) h18 h6 h7 hm hi

end Cert.KernelIdeal.Hand
-- ==== Proof.KI.V.LoopB.lean ====
/- The short filter of three taps and its eight loops, one per 128 lanes -/
module

public import proofs.«01_k».proof.Proof.KI.V.Kit
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The two rolled sums a loop of the short filter carries. -/
abbrev A2 : Type := FVec Ideal S8x128 .f32 × FVec Ideal S8x128 .f32

/-- The recursion a loop of the short filter makes. -/
structure ConvLoopB (n : ℕ) (st : ℕ → A2 × List (View.Piece (Elt Ideal) S256x256 .f32))
    (init : A2) (u : Fin n → Vec Ideal S8x128 .f32) (w : Fin 3 → Vec Ideal S1x8x128 .f32)
    (m1 m2 : IVec S8x128 1) (off : Fin n → Fin 2 → ℕ)
    (inb : ∀ k a, off k a + S8x128.size a ≤ S256x256.size a) : Prop where
  zero : st 0 = (init, [])
  succ : ∀ k : Fin n, st (k.val + 1) = ((k0_pay259 (u k) (w 1), k0_pay260 (u k) (w 0)),
    ⟨Rect.unit (s := S256x256) (off k) S8x128.size (inb k),
      k0_pay261 m1 m2 (st k.val).1.1 (st k.val).1.2 (u k) (w 2) (w 1) (w 0)⟩ :: (st k.val).2)

/-- The short filter at row `ρ` of the tile, its eight padded rows before it. -/
def convB (w V : ℕ → ℕ → EReal) (ρ c : ℕ) : EReal :=
  w 2 c * V (8 + ρ) c + w 1 c * V (7 + ρ) c + w 0 c * V (6 + ρ) c

/-- The carried products are those of the group of rows starting at `B`. -/
def RolledBAt (w V : ℕ → ℕ → EReal) (ℓ B : ℕ) (a : A2) : Prop :=
  ∀ (i : Fin 8) (l : Fin 128),
    a.1 (ix2 i l) = w 1 (ℓ + l.val) * V (B + (i.val + 7) % 8) (ℓ + l.val) ∧
    a.2 (ix2 i l) = w 0 (ℓ + l.val) * V (B + (i.val + 6) % 8) (ℓ + l.val)

/-- The taps of the short filter read the weights. -/
def TapsBAt (w : ℕ → ℕ → EReal) (ℓ : ℕ) (W : Fin 3 → Vec Ideal S1x8x128 .f32) : Prop :=
  ∀ (s : Fin 3) (i : Fin 8) (l : Fin 128), W s (ix3 0 i l) = w s.val (ℓ + l.val)

/-- A mask of the rows from `r` on. -/
def MaskAt (r : ℕ) (m : IVec S8x128 1) : Prop := ∀ (i : Fin 8) (l : Fin 128), m (ix2 i l) = if r ≤ i.val then 1#1 else 0#1

theorem rolledB_at {w V : ℕ → ℕ → EReal} {ℓ B : ℕ} {u : Vec Ideal S8x128 .f32} {W : Fin 3 → Vec Ideal S1x8x128 .f32}
    (h : GroupAt V ℓ B u) (hW : TapsBAt w ℓ W) : RolledBAt w V ℓ B (k0_pay259 u (W 1), k0_pay260 u (W 0)) := by
  intro i l
  refine ⟨?_, ?_⟩
  all_goals
    pointwise [k0_pay259, k0_pay260]
    simp [h _ _, hW _ _ _]

theorem convOutB_at {w V : ℕ → ℕ → EReal} {ℓ k : ℕ} {u : Vec Ideal S8x128 .f32} {W : Fin 3 → Vec Ideal S1x8x128 .f32}
    {m1 m2 : IVec S8x128 1} {a : A2} (h : GroupAt V ℓ (8 * k + 8) u) (hW : TapsBAt w ℓ W)
    (hm1 : MaskAt 1 m1) (hm2 : MaskAt 2 m2) (ha : RolledBAt w V ℓ (8 * k) a) (i : Fin 8) (l : Fin 128) :
    k0_pay261 m1 m2 a.1 a.2 u (W 2) (W 1) (W 0) (ix2 i l) = convB w V (8 * k + i.val) (ℓ + l.val) := by
  obtain ⟨r1, r2⟩ := rolledB_at h hW i l
  obtain ⟨a1, a2⟩ := ha i l
  have pk (r : ℕ) (hr : r ≤ 7) (hr' : 1 ≤ r) (x y W : EReal)
      (hx : x = W * V (8 * k + 8 + (i.val + (8 - r)) % 8) (ℓ + l.val))
      (hy : y = W * V (8 * k + (i.val + (8 - r)) % 8) (ℓ + l.val)) (M : BitVec 1)
      (hM : M = if r ≤ i.val then 1#1 else 0#1) :
      Scalar.select M x y = W * V (8 - r + (8 * k + i.val)) (ℓ + l.val) := by
    subst hx hy hM
    show (if _ = 1#1 then _ else _) = _
    by_cases h : r ≤ i.val
    · rw [if_pos h, if_pos rfl]; congr 2; omega
    · rw [if_neg h, if_neg (by decide)]; congr 2; omega
  pointwise [k0_pay261]
  rw [pk 1 (by decide) (by decide) _ _ (w 1 (ℓ + l.val)) (show k0_pay259 u (W 1) (ix2 i l) = _ from r1) a1 _ (hm1 i l), pk 2 (by decide) (by decide) _ _ (w 0 (ℓ + l.val)) (show k0_pay260 u (W 0) (ix2 i l) = _ from r2) a2 _ (hm2 i l),
    hW 2 i l, h i l]
  rw [show 8 * k + 8 + i.val = 8 + (8 * k + i.val) by omega]; rfl

/-- What a loop of the short filter leaves: eight rows a trip, each the filter's. -/
theorem ConvLoopB.facts {n : ℕ} {st : ℕ → A2 × List (View.Piece (Elt Ideal) S256x256 .f32)} {init : A2}
    {u : Fin n → Vec Ideal S8x128 .f32} {W : Fin 3 → Vec Ideal S1x8x128 .f32}
    {m1 m2 : IVec S8x128 1} {off : Fin n → Fin 2 → ℕ}
    {inb : ∀ k a, off k a + S8x128.size a ≤ S256x256.size a}
    (H : ConvLoopB n st init u W m1 m2 off inb) {w V : ℕ → ℕ → EReal} {ℓ base loc : ℕ} (hℓ : ℓ = base + loc)
    (h : ∀ k : Fin n, GroupAt V ℓ (8 * k.val + 8) (u k))
    (hW : TapsBAt w ℓ W) (hm1 : MaskAt 1 m1) (hm2 : MaskAt 2 m2) (hi : RolledBAt w V ℓ 0 init)
    (ho : ∀ k : Fin n, off k = ![8 * k.val, loc]) (j : ℕ) (hj : j ≤ n) :
    RolledBAt w V ℓ (8 * j) (st j).1
      ∧ Agree (fun y : S256x256.Idx => convB w V (y 0).val (base + (y 1).val)) (st j).2
      ∧ ∀ y : S256x256.Idx, (y 0).val < 8 * j → loc ≤ (y 1).val → (y 1).val < loc + 128 → Covers (st j).2 y := by
  induction j with
  | zero => rw [H.zero]; exact ⟨hi, Agree.nil _, fun y h => absurd h (Nat.not_lt_zero _)⟩
  | succ k ih =>
    obtain ⟨ir, ia, ic⟩ := ih (by omega)
    rw [H.succ ⟨k, by omega⟩]
    refine ⟨?_, Agree.cons (fun x => ?_) ia, fun y hy h1' h2' => ?_⟩
    · exact rolledB_at (h ⟨k, by omega⟩) hW
    · obtain ⟨i, l, rfl⟩ : ∃ (i : Fin 8) (l : Fin 128), x = ix2 i l := ⟨x 0, x 1, (eq_ix2 x)⟩
      refine (convOutB_at (h ⟨k, by omega⟩) hW hm1 hm2 ir i l).trans ?_
      show convB w V _ _ = convB w V _ _
      congr 1
      · show _ = off ⟨k, by omega⟩ 0 + 1 * i.val
        rw [ho]; simp
      · show _ = base + (off ⟨k, by omega⟩ 1 + 1 * l.val)
        rw [ho, hℓ]; simp [Nat.add_assoc]
    · by_cases hk : (y 0).val < 8 * k
      · exact (ic y hk h1' h2').tail
      · have z0 : off ⟨k, by omega⟩ 0 = 8 * k := by rw [ho]; rfl
        have z1 : off ⟨k, by omega⟩ 1 = loc := by rw [ho]; rfl
        refine Covers.head (mem_unit2 ?_ ?_ ?_ ?_)
        · rw [z0]; omega
        · rw [z0]; show _ < 8 * k + 8; omega
        · rw [z1]; omega
        · rw [z1]; exact h2'

variable (𝒱 : Variants) (c : Dev nD) (bd : Option 𝒱.V) (i : grid0.Coords)
  (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)

/-- The three taps at 128 lanes. -/
def tapsBOf (arg12 : Memref sig .tc .vmem S3x8x1024 .f32) (X12 : BufTy.Contents (Elt Ideal) arg12.view.ty) (ℓ : ℕ) (hℓ : ℓ + 128 ≤ 1024)
    (s : Fin 3) : Vec Ideal S1x8x128 .f32 :=
  View.readAt (Elt Ideal) arg12.view (Rect.unit (s := S3x8x1024) ![s.val, 0, ℓ] S1x8x128.size
    (fun a => by fin_cases a <;> simp [S1x8x128, S3x8x1024, Fin.isValue] <;> omega)).toLoadRect X12

/-- Eight rows of the padded rows at 128 lanes. -/
def rowsBOf (arg20 : Memref sig .tc .vmem S264x1024 .f32) (X20 : BufTy.Contents (Elt Ideal) arg20.view.ty) (off : Fin 2 → ℕ)
    (inb : ∀ a, off a + S8x128.size a ≤ S264x1024.size a) : Vec Ideal S8x128 .f32 :=
  View.readAt (Elt Ideal) arg20.view (Rect.unit (s := S264x1024) off S8x128.size inb).toLoadRect X20

/-- What the short filter's buffer holds after a loop. -/
def LoopB (w V : ℕ → ℕ → EReal) (base loc : ℕ) (L : List (View.Piece (Elt Ideal) S256x256 .f32)) : Prop :=
  Agree (fun y : S256x256.Idx => convB w V (y 0).val (base + (y 1).val)) L
    ∧ ∀ y : S256x256.Idx, loc ≤ (y 1).val → (y 1).val < loc + 128 → Covers L y

/-- The rows read `V`, on the lanes from `ℓ`. -/
def Reads20 (arg20 : Memref sig .tc .vmem S264x1024 .f32) (X20 : BufTy.Contents (Elt Ideal) arg20.view.ty) (V : ℕ → ℕ → EReal) (ℓ : ℕ) : Prop :=
  ∀ y : S264x1024.Idx, ℓ ≤ (y 1).val → (y 1).val < ℓ + 128 → arg20.view.read (Elt Ideal) X20 y = V (y 0).val (y 1).val

theorem rowsBOf_at {arg20 : Memref sig .tc .vmem S264x1024 .f32} {X20 : BufTy.Contents (Elt Ideal) arg20.view.ty} {V : ℕ → ℕ → EReal} {ℓ : ℕ}
    (h : Reads20 arg20 X20 V ℓ) {off : Fin 2 → ℕ} {inb : ∀ a, off a + S8x128.size a ≤ S264x1024.size a} {B : ℕ}
    (ho : off = ![B, ℓ]) : GroupAt V ℓ B (rowsBOf arg20 X20 off inb) := by
  subst ho
  intro i l
  refine (h ((Rect.unit (s := S264x1024) ![B, ℓ] S8x128.size inb).toLoadRect.idx (ix2 i l)) ?_ ?_).trans ?_
  · show ℓ ≤ ℓ + 1 * l.val; omega
  · show ℓ + 1 * l.val < ℓ + 128; omega
  · show V (B + 1 * i.val) (ℓ + 1 * l.val) = _; rw [Nat.one_mul, Nat.one_mul]

theorem tapsBOf_at {arg12 : Memref sig .tc .vmem S3x8x1024 .f32} {X12 : BufTy.Contents (Elt Ideal) arg12.view.ty} {w : ℕ → ℕ → EReal}
    (h : ∀ y : S3x8x1024.Idx, arg12.view.read (Elt Ideal) X12 y = w (y 0).val (y 2).val) (ℓ : ℕ) (hℓ : ℓ + 128 ≤ 1024) :
    TapsBAt w ℓ (tapsBOf arg12 X12 ℓ hℓ) := by
  intro s i l
  refine (h _).trans ?_
  show w s.val (ℓ + 1 * l.val) = _
  rw [Nat.one_mul]

theorem loopB {arg12 : Memref sig .tc .vmem S3x8x1024 .f32} {X12 : BufTy.Contents (Elt Ideal) arg12.view.ty}
    {arg20 : Memref sig .tc .vmem S264x1024 .f32} {X20 : BufTy.Contents (Elt Ideal) arg20.view.ty}
    {n : ℕ} {st : ℕ → A2 × List (View.Piece (Elt Ideal) S256x256 .f32)} {init : A2} {m1 m2 : IVec S8x128 1}
    {off1 : Fin n → Fin 2 → ℕ} {inb1 : ∀ (k : Fin n) a, off1 k a + S8x128.size a ≤ S264x1024.size a}
    {off2 : Fin n → Fin 2 → ℕ} {inb2 : ∀ k a, off2 k a + S8x128.size a ≤ S256x256.size a}
    {ℓ base loc : ℕ} {hℓ : ℓ + 128 ≤ 1024}
    (H : ConvLoopB n st init (fun k => rowsBOf arg20 X20 (off1 k) (inb1 k)) (tapsBOf arg12 X12 ℓ hℓ) m1 m2 off2 inb2)
    (hb : ℓ = base + loc) (hn : n = 32) (ho1 : ∀ k : Fin n, off1 k = ![8 * k.val + 8, ℓ])
    (ho2 : ∀ k : Fin n, off2 k = ![8 * k.val, loc])
    {w V : ℕ → ℕ → EReal} (h20 : Reads20 arg20 X20 V ℓ)
    (h12 : ∀ y : S3x8x1024.Idx, arg12.view.read (Elt Ideal) X12 y = w (y 0).val (y 2).val)
    (hm1 : MaskAt 1 m1) (hm2 : MaskAt 2 m2) (hi : RolledBAt w V ℓ 0 init) : LoopB w V base loc (st n).2 := by
  have := H.facts (w := w) (V := V) hb (fun k => rowsBOf_at h20 (ho1 k)) (tapsBOf_at h12 ℓ hℓ) hm1 hm2 hi ho2 n le_rfl
  refine ⟨this.2.1, fun y h h' => this.2.2 y ?_ h h'⟩
  have h0 : (y 0).val < 256 := (y 0).isLt
  omega

/-- The printed masks of the short filter. -/
theorem maskB_at (r : Fin 8) : MaskAt r.val (cmpi .sge (iota .tc S8x128 32 [0] iota_S8x128_d0_w32) (broadcast S8x128 (BitVec.ofNat 32 r.val))) := by
  intro i l
  pointwise
  revert i r; decide

theorem loopB10 (v1212 : Vec Ideal S256x1024 .bf16) (v1214 : FVec Ideal S1024x256 .bf16) (cst_935 : FVec Ideal S256x256 .f32) (X_arg12 : BufTy.Contents (Elt Ideal) arg12.view.ty) (X_arg20 : BufTy.Contents (Elt Ideal) arg20.view.ty)
    {w V : ℕ → ℕ → EReal} (h20 : Reads20 arg20 X_arg20 V 0)
    (h12 : ∀ y : S3x8x1024.Idx, arg12.view.read (Elt Ideal) X_arg12 y = w (y 0).val (y 2).val)
    (init : A2) (hi : RolledBAt w V 0 0 init) :
    LoopB w V 0 0 (st_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1212 v1214 cst_935 X_arg12 X_arg20 init (Scf.trips k0_t10_loop.lb k0_t10_loop.ub k0_t10_loop.st)).2 :=
  loopB (n := k0_t10_loop.trips) (m1 := cmpi .sge (iota .tc S8x128 32 [0] iota_S8x128_d0_w32) (broadcast S8x128 1#32)) (m2 := cmpi .sge (iota .tc S8x128 32 [0] iota_S8x128_d0_w32) (broadcast S8x128 2#32)) (off1 := k0_off18) (inb1 := fun k => k0_off18_inb k) (off2 := k0_off19)
    (inb2 := fun k => k0_off19_inb k) (ℓ := 0) (hℓ := by decide)
    ⟨rfl, fun k => (st_k0_t10_succ ..).trans (by unfold tripR_k0_t10 tripL_k0_t10 trip_k0_t10; rfl)⟩
    rfl (by decide +kernel) (by decide +kernel) (by decide +kernel) h20 h12 (maskB_at 1) (maskB_at 2) hi

theorem loopB11 (v1242 : IVec S8x128 1) (v1244 : IVec S8x128 1) (v1245 : Vec Ideal S8x128 .f32) (X_arg12 : BufTy.Contents (Elt Ideal) arg12.view.ty) (X_arg20 : BufTy.Contents (Elt Ideal) arg20.view.ty)
    {w V : ℕ → ℕ → EReal} (h20 : Reads20 arg20 X_arg20 V 128)
    (h12 : ∀ y : S3x8x1024.Idx, arg12.view.read (Elt Ideal) X_arg12 y = w (y 0).val (y 2).val)
    (hm1 : MaskAt 1 v1242) (hm2 : MaskAt 2 v1244)
    (init : A2) (hi : RolledBAt w V 128 0 init) :
    LoopB w V 0 128 (st_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1242 v1244 v1245 X_arg12 X_arg20 init (Scf.trips k0_t11_loop.lb k0_t11_loop.ub k0_t11_loop.st)).2 :=
  loopB (n := k0_t11_loop.trips) (m1 := v1242) (m2 := v1244) (off1 := k0_off20) (inb1 := fun k => k0_off20_inb k) (off2 := k0_off21)
    (inb2 := fun k => k0_off21_inb k) (ℓ := 128) (hℓ := by decide)
    ⟨rfl, fun k => (st_k0_t11_succ ..).trans (by unfold tripR_k0_t11 tripL_k0_t11 trip_k0_t11; rfl)⟩
    rfl (by decide +kernel) (by decide +kernel) (by decide +kernel) h20 h12 hm1 hm2 hi

theorem loopB12 (v1275 : FVec Ideal S256x256 .bf16) (X_arg12 : BufTy.Contents (Elt Ideal) arg12.view.ty) (X_arg20 : BufTy.Contents (Elt Ideal) arg20.view.ty)
    {w V : ℕ → ℕ → EReal} (h20 : Reads20 arg20 X_arg20 V 256)
    (h12 : ∀ y : S3x8x1024.Idx, arg12.view.read (Elt Ideal) X_arg12 y = w (y 0).val (y 2).val)
    (init : A2) (hi : RolledBAt w V 256 0 init) :
    LoopB w V 256 0 (st_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1275 X_arg12 X_arg20 init (Scf.trips k0_t12_loop.lb k0_t12_loop.ub k0_t12_loop.st)).2 :=
  loopB (n := k0_t12_loop.trips) (m1 := cmpi .sge (iota .tc S8x128 32 [0] iota_S8x128_d0_w32) (broadcast S8x128 1#32)) (m2 := cmpi .sge (iota .tc S8x128 32 [0] iota_S8x128_d0_w32) (broadcast S8x128 2#32)) (off1 := k0_off22) (inb1 := fun k => k0_off22_inb k) (off2 := k0_off23)
    (inb2 := fun k => k0_off23_inb k) (ℓ := 256) (hℓ := by decide)
    ⟨rfl, fun k => (st_k0_t12_succ ..).trans (by unfold tripR_k0_t12 tripL_k0_t12 trip_k0_t12; rfl)⟩
    rfl (by decide +kernel) (by decide +kernel) (by decide +kernel) h20 h12 (maskB_at 1) (maskB_at 2) hi

theorem loopB13 (v1307 : IVec S8x128 32) (X_arg12 : BufTy.Contents (Elt Ideal) arg12.view.ty) (X_arg20 : BufTy.Contents (Elt Ideal) arg20.view.ty)
    {w V : ℕ → ℕ → EReal} (h20 : Reads20 arg20 X_arg20 V 384)
    (h12 : ∀ y : S3x8x1024.Idx, arg12.view.read (Elt Ideal) X_arg12 y = w (y 0).val (y 2).val)
    (hm1 : MaskAt 1 (cmpi .sge v1307 (broadcast S8x128 1#32))) (hm2 : MaskAt 2 (cmpi .sge v1307 (broadcast S8x128 2#32)))
    (init : A2) (hi : RolledBAt w V 384 0 init) :
    LoopB w V 256 128 (st_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1307 X_arg12 X_arg20 init (Scf.trips k0_t13_loop.lb k0_t13_loop.ub k0_t13_loop.st)).2 :=
  loopB (n := k0_t13_loop.trips) (m1 := cmpi .sge v1307 (broadcast S8x128 1#32)) (m2 := cmpi .sge v1307 (broadcast S8x128 2#32)) (off1 := k0_off24) (inb1 := fun k => k0_off24_inb k) (off2 := k0_off25)
    (inb2 := fun k => k0_off25_inb k) (ℓ := 384) (hℓ := by decide)
    ⟨rfl, fun k => (st_k0_t13_succ ..).trans (by unfold tripR_k0_t13 tripL_k0_t13 trip_k0_t13; rfl)⟩
    rfl (by decide +kernel) (by decide +kernel) (by decide +kernel) h20 h12 hm1 hm2 hi

theorem loopB14 (v1360 : IVec S8x128 1) (v1362 : IVec S8x128 1) (v1363 : Vec Ideal S8x128 .f32) (v1367 : FVec Ideal S8x128 .f32) (v1369 : FVec Ideal S8x128 .f32) (X_arg12 : BufTy.Contents (Elt Ideal) arg12.view.ty) (X_arg20 : BufTy.Contents (Elt Ideal) arg20.view.ty)
    {w V : ℕ → ℕ → EReal} (h20 : Reads20 arg20 X_arg20 V 512)
    (h12 : ∀ y : S3x8x1024.Idx, arg12.view.read (Elt Ideal) X_arg12 y = w (y 0).val (y 2).val)
    (hm1 : MaskAt 1 v1360) (hm2 : MaskAt 2 v1362)
    (init : A2) (hi : RolledBAt w V 512 0 init) :
    LoopB w V 512 0 (st_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1360 v1362 v1363 v1367 v1369 X_arg12 X_arg20 init (Scf.trips k0_t14_loop.lb k0_t14_loop.ub k0_t14_loop.st)).2 :=
  loopB (n := k0_t14_loop.trips) (m1 := v1360) (m2 := v1362) (off1 := k0_off26) (inb1 := fun k => k0_off26_inb k) (off2 := k0_off27)
    (inb2 := fun k => k0_off27_inb k) (ℓ := 512) (hℓ := by decide)
    ⟨rfl, fun k => (st_k0_t14_succ ..).trans (by unfold tripR_k0_t14 tripL_k0_t14 trip_k0_t14; rfl)⟩
    rfl (by decide +kernel) (by decide +kernel) (by decide +kernel) h20 h12 hm1 hm2 hi

theorem loopB15 (v1360 : IVec S8x128 1) (v1362 : IVec S8x128 1) (v1363 : Vec Ideal S8x128 .f32) (v1367 : FVec Ideal S8x128 .f32) (v1369 : FVec Ideal S8x128 .f32) (X_arg12 : BufTy.Contents (Elt Ideal) arg12.view.ty) (X_arg20 : BufTy.Contents (Elt Ideal) arg20.view.ty)
    {w V : ℕ → ℕ → EReal} (h20 : Reads20 arg20 X_arg20 V 640)
    (h12 : ∀ y : S3x8x1024.Idx, arg12.view.read (Elt Ideal) X_arg12 y = w (y 0).val (y 2).val)
    (init : A2) (hi : RolledBAt w V 640 0 init) :
    LoopB w V 512 128 (st_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1360 v1362 v1363 v1367 v1369 X_arg12 X_arg20 init (Scf.trips k0_t15_loop.lb k0_t15_loop.ub k0_t15_loop.st)).2 :=
  loopB (n := k0_t15_loop.trips) (m1 := cmpi .sge (iota .tc S8x128 32 [0] iota_S8x128_d0_w32) (broadcast S8x128 1#32)) (m2 := cmpi .sge (iota .tc S8x128 32 [0] iota_S8x128_d0_w32) (broadcast S8x128 2#32)) (off1 := k0_off28) (inb1 := fun k => k0_off28_inb k) (off2 := k0_off29)
    (inb2 := fun k => k0_off29_inb k) (ℓ := 640) (hℓ := by decide)
    ⟨rfl, fun k => (st_k0_t15_succ ..).trans (by unfold tripR_k0_t15 tripL_k0_t15 trip_k0_t15; rfl)⟩
    rfl (by decide +kernel) (by decide +kernel) (by decide +kernel) h20 h12 (maskB_at 1) (maskB_at 2) hi

theorem loopB16 (v1427 : IVec S8x128 1) (v1429 : IVec S8x128 1) (v1430 : Vec Ideal S8x128 .f32) (X_arg12 : BufTy.Contents (Elt Ideal) arg12.view.ty) (X_arg20 : BufTy.Contents (Elt Ideal) arg20.view.ty)
    {w V : ℕ → ℕ → EReal} (h20 : Reads20 arg20 X_arg20 V 768)
    (h12 : ∀ y : S3x8x1024.Idx, arg12.view.read (Elt Ideal) X_arg12 y = w (y 0).val (y 2).val)
    (hm1 : MaskAt 1 v1427) (hm2 : MaskAt 2 v1429)
    (init : A2) (hi : RolledBAt w V 768 0 init) :
    LoopB w V 768 0 (st_k0_t16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1427 v1429 v1430 X_arg12 X_arg20 init (Scf.trips k0_t16_loop.lb k0_t16_loop.ub k0_t16_loop.st)).2 :=
  loopB (n := k0_t16_loop.trips) (m1 := v1427) (m2 := v1429) (off1 := k0_off30) (inb1 := fun k => k0_off30_inb k) (off2 := k0_off31)
    (inb2 := fun k => k0_off31_inb k) (ℓ := 768) (hℓ := by decide)
    ⟨rfl, fun k => (st_k0_t16_succ ..).trans (by unfold tripR_k0_t16 tripL_k0_t16 trip_k0_t16; rfl)⟩
    rfl (by decide +kernel) (by decide +kernel) (by decide +kernel) h20 h12 hm1 hm2 hi

theorem loopB17 (v1427 : IVec S8x128 1) (v1429 : IVec S8x128 1) (v1430 : Vec Ideal S8x128 .f32) (X_arg12 : BufTy.Contents (Elt Ideal) arg12.view.ty) (X_arg20 : BufTy.Contents (Elt Ideal) arg20.view.ty)
    {w V : ℕ → ℕ → EReal} (h20 : Reads20 arg20 X_arg20 V 896)
    (h12 : ∀ y : S3x8x1024.Idx, arg12.view.read (Elt Ideal) X_arg12 y = w (y 0).val (y 2).val)
    (init : A2) (hi : RolledBAt w V 896 0 init) :
    LoopB w V 768 128 (st_k0_t17 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1427 v1429 v1430 X_arg12 X_arg20 init (Scf.trips k0_t17_loop.lb k0_t17_loop.ub k0_t17_loop.st)).2 :=
  loopB (n := k0_t17_loop.trips) (m1 := cmpi .sge (iota .tc S8x128 32 [0] iota_S8x128_d0_w32) (broadcast S8x128 1#32)) (m2 := cmpi .sge (iota .tc S8x128 32 [0] iota_S8x128_d0_w32) (broadcast S8x128 2#32)) (off1 := k0_off32) (inb1 := fun k => k0_off32_inb k) (off2 := k0_off33)
    (inb2 := fun k => k0_off33_inb k) (ℓ := 896) (hℓ := by decide)
    ⟨rfl, fun k => (st_k0_t17_succ ..).trans (by unfold tripR_k0_t17 tripL_k0_t17 trip_k0_t17; rfl)⟩
    rfl (by decide +kernel) (by decide +kernel) (by decide +kernel) h20 h12 (maskB_at 1) (maskB_at 2) hi

end Cert.KernelIdeal.Hand
-- ==== Proof.KI.V.Spec.lean ====
/- The layer as a function of plain indices -/
module

public import proofs.«01_k».proof.Proof.KI.V.LoopA
public import proofs.«01_k».proof.Proof.KI.V.LoopB
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The width as a float. -/
abbrev nD' : EReal := Ideal.ofBits FTy.f32 0x44800000#32
/-- The small constant. -/
abbrev nE : EReal := Ideal.ofBits FTy.f32 0x358637BD#32
/-- The sum over the width. -/
def msum (f : ℕ → EReal) : EReal := ∑ x : Fin 1024, f x.val
/-- The sigmoid. -/
def sg (y : EReal) : EReal := Ideal.div 1 (1 + Ideal.exp (0 - y))
/-- The root-mean-square norm of a row. -/
def rms (v g : ℕ → EReal) (c : ℕ) : EReal := v c * Ideal.rsqrt (Ideal.div (msum fun x => v x * v x) nD' + nE) * g c
/-- The mean of a row. -/
def mean (v : ℕ → EReal) : EReal := Ideal.div (msum v) nD'
/-- The layer norm of a row. -/
def lnorm (v g b : ℕ → EReal) (c : ℕ) : EReal :=
  (v c - mean v) * Ideal.rsqrt (Ideal.div (msum fun x => (v x - mean v) * (v x - mean v)) nD' + nE) * g c + b c

/-- The fourteen inputs, at plain indices. -/
structure In where
  x : ℕ → ℕ → ℕ → EReal
  mt : ℕ → ℕ → EReal
  ng : ℕ → EReal
  win : ℕ → ℕ → EReal
  wa : ℕ → ℕ → EReal
  ba : ℕ → EReal
  lg : ℕ → EReal
  lb : ℕ → EReal
  wao : ℕ → ℕ → EReal
  bao : ℕ → EReal
  wb : ℕ → ℕ → EReal
  wbo : ℕ → ℕ → EReal
  wo : ℕ → ℕ → EReal
  fg : ℕ → EReal

namespace In
variable (I : In)

/-- A row of the sequence, the meta rows first. -/
def s (b P c : ℕ) : EReal := if P < 16 then I.mt P c else I.x b (P - 16) c
/-- The normed row. -/
def h (b P c : ℕ) : EReal := rms (I.s b P) I.ng c
/-- The projection. -/
def proj (b P e : ℕ) : EReal := msum fun x => I.h b P x * I.win x e
/-- The gated unit. -/
def ua (b P c : ℕ) : EReal := I.proj b P c * sg (I.proj b P (1024 + c))
/-- The gated unit with sixteen rows of zeros before it. -/
def uap (b P c : ℕ) : EReal := if P < 16 then 0 else I.ua b (P - 16) c
/-- The second path's product. -/
def cx (b P c : ℕ) : EReal := I.proj b P (4096 + c) * I.proj b P (5120 + c)
/-- The long filter with its bias, `Q` counted from the first real row. -/
def ca (b Q c : ℕ) : EReal := convA I.wa (fun r => I.uap b (Q + r)) I.ba 0 c
/-- The normed and swished filter. -/
def an (b Q c : ℕ) : EReal := lnorm (I.ca b Q) I.lg I.lb c * sg (lnorm (I.ca b Q) I.lg I.lb c)
/-- The first path before its projection. -/
def pa (b Q c : ℕ) : EReal := I.an b Q c * (I.proj b (16 + Q) (2048 + c) * sg (I.proj b (16 + Q) (2048 + c)))
/-- The short filter. -/
def cvb (b Q c : ℕ) : EReal := convB I.wb (fun r => I.cx b (8 + Q + r)) 0 c
/-- The second path before its projection. -/
def pb (b Q c : ℕ) : EReal :=
  I.proj b (16 + Q) (3072 + c) * I.cvb b Q c * (I.proj b (16 + Q) (6144 + c) * sg (I.proj b (16 + Q) (6144 + c)))
/-- The merged paths. -/
def m (b Q c : ℕ) : EReal :=
  sg (I.proj b (16 + Q) (7168 + c)) * ((msum fun x => I.pa b Q x * I.wao x c) + I.bao c)
    + sg (I.proj b (16 + Q) (8192 + c)) * (msum fun x => I.pb b Q x * I.wbo x c)
/-- The residual sum. -/
def res (b Q c : ℕ) : EReal := I.x b Q c + msum fun x => I.m b Q x * I.wo x c
/-- The result. -/
def out (b Q c : ℕ) : EReal := rms (I.res b Q) I.fg c

end In

end Cert.KernelIdeal.Hand
-- ==== Proof.KI.V.Norm.lean ====
/- The two loops that norm the rows in place -/
module

public import proofs.«01_k».proof.Proof.KI.V.Spec
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem swish_at (v : Vec Ideal S8x1024 .f32) (g b : Vec Ideal S1x1024 .f32) {V G B : ℕ → EReal} (i : Fin 8) (l : Fin 1024)
    (hv : ∀ x : Fin 1024, v (ix2 i x) = V x.val) (hg : ∀ x : Fin 1024, g (ix2 0 x) = G x.val) (hb : ∀ x : Fin 1024, b (ix2 0 x) = B x.val) :
    k0_pay79 v g b (ix2 i l) = lnorm V G B l.val * sg (lnorm V G B l.val) := by
  pointwise [k0_pay79]
  simp only [hv, hg, hb]
  rfl

theorem rms_at (v : Vec Ideal S1x8x1024 .f32) (g : Vec Ideal S1x1024 .f32) {V G : ℕ → EReal} (i : Fin 8) (l : Fin 1024)
    (hv : ∀ x : Fin 1024, v (ix3 0 i x) = V x.val) (hg : ∀ x : Fin 1024, g (ix2 0 x) = G x.val) :
    k0_pay3 v g (ix3 0 i l) = rms V G l.val := by
  pointwise [k0_pay3]
  simp only [hv, hg]
  rfl

/-- Rewriting the rows in place, eight at a time, the rows not yet reached as they were. -/
theorem inplace {Val : EltTy → Type} {s : Shape} {e : EltTy} {sig : RefSig} {κ : Kind} {sp : Space} (v : View sig κ sp s e)
    (G0 : v.ty.Contents Val) (G : s.Idx → Val e) (row : s.Idx → ℕ) (pb : ℕ → List (View.Piece Val s e)) {n : ℕ}
    (R : Fin n → Rect s) (P : (k : Fin n) → v.ty.Contents Val → (R k).shape.Idx → Val e) (h0 : pb 0 = [])
    (hs : ∀ k : Fin n, pb (k.val + 1) = ⟨R k, P k (v.writes Val G0 (pb k.val))⟩ :: pb k.val)
    (hR : ∀ (k : Fin n) (y : s.Idx), y ∈ (R k).set ↔ 8 * k.val ≤ row y ∧ row y < 8 * k.val + 8)
    (hP : ∀ (k : Fin n) (f : v.ty.Contents Val), (∀ y : s.Idx, 8 * k.val ≤ row y → v.read Val f y = v.read Val G0 y) →
      ∀ x, P k f x = G ((R k).emb x)) (j : ℕ) (hj : j ≤ n) :
    Agree G (pb j) ∧ (∀ y, row y < 8 * j → Covers (pb j) y) ∧ (∀ p ∈ pb j, ∀ y ∈ p.1.set, row y < 8 * j) := by
  induction j with
  | zero => rw [h0]; exact ⟨Agree.nil _, fun y h => absurd h (Nat.not_lt_zero _), fun p h => absurd h List.not_mem_nil⟩
  | succ k ih =>
    obtain ⟨ia, ic, im⟩ := ih (by omega)
    rw [hs ⟨k, by omega⟩]
    refine ⟨Agree.cons (fun x => ?_) ia, fun y hy => ?_, fun p hp y hy => ?_⟩
    · refine hP ⟨k, by omega⟩ _ (fun y hy => ?_) x
      exact View.read_writes_apply_of_forall_not_mem v G0 y (pb k) fun p hp hy' => absurd (im p hp y hy') (by simpa using hy)
    · by_cases hk : row y < 8 * k
      · exact (ic y hk).tail
      · exact Covers.head ((hR ⟨k, by omega⟩ y).mpr ⟨by simpa using hk, by simp only []; omega⟩)
    · rcases List.mem_cons.mp hp with rfl | hp
      · have := ((hR ⟨k, by omega⟩ y).mp hy).2
        simp only [] at this; omega
      · have := im p hp y hy; omega

theorem mem_rows2 {m : ℕ} {off : Fin 2 → ℕ} {inb : ∀ a, off a + S8x1024.size a ≤ (⟨2, ![m, 1024]⟩ : Shape).size a} {k : ℕ} (ho : off = ![8 * k, 0])
    (y : (⟨2, ![m, 1024]⟩ : Shape).Idx) :
    y ∈ (Rect.unit (s := ⟨2, ![m, 1024]⟩) off S8x1024.size inb).set ↔ 8 * k ≤ (y 0).val ∧ (y 0).val < 8 * k + 8 := by
  subst ho
  rw [Rect.mem_set_unit]
  refine ⟨fun h => h 0, fun h => Fin.forall_fin_two.mpr ⟨h, Nat.zero_le _, ?_⟩⟩
  exact Nat.lt_of_lt_of_le (y 1).isLt (by simp [S8x1024])

theorem mem_rows3 {m : ℕ} {off : Fin 3 → ℕ} {inb : ∀ a, off a + S1x8x1024.size a ≤ (⟨3, ![1, m, 1024]⟩ : Shape).size a} {k : ℕ} (ho : off = ![0, 8 * k, 0])
    (y : (⟨3, ![1, m, 1024]⟩ : Shape).Idx) :
    y ∈ (Rect.unit (s := ⟨3, ![1, m, 1024]⟩) off S1x8x1024.size inb).set ↔ 8 * k ≤ (y 1).val ∧ (y 1).val < 8 * k + 8 := by
  subst ho
  rw [Rect.mem_set_unit]
  refine ⟨fun h => h 1, fun h a => ?_⟩
  fin_cases a
  · exact ⟨Nat.zero_le _, Nat.lt_of_lt_of_le (y 0).isLt (by simp [S1x8x1024])⟩
  · exact h
  · exact ⟨Nat.zero_le _, Nat.lt_of_lt_of_le (y 2).isLt (by simp [S1x8x1024])⟩

theorem eq_ix3_one {n m : ℕ} (x : (⟨3, ![1, n, m]⟩ : Shape).Idx) : x = ix3 0 (x 1) (x 2) := by
  funext a
  match a with
  | 0 => exact Subsingleton.elim (α := Fin 1) _ _
  | 1 => rfl
  | 2 => rfl

variable (𝒱 : Variants) (c : Dev nD) (bd : Option 𝒱.V) (i : grid0.Coords)
  (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)

theorem normA (v1012 : IVec S8x128 1) (v1014 : IVec S8x128 1) (v1016 : IVec S8x128 1) (v1018 : IVec S8x128 1) (v1020 : IVec S8x128 1) (v1022 : IVec S8x128 1) (v1024 : IVec S8x128 1) (v1025 : Vec Ideal S8x128 .f32) (v1026 : Vec Ideal S8x128 .f32) (v1027 : Vec Ideal S8x128 .f32) (v1028 : Vec Ideal S8x128 .f32) (v1044 : FVec Ideal S8x128 .f32) (v1060 : FVec Ideal S8x128 .f32) (v1076 : FVec Ideal S8x128 .f32) (v1092 : FVec Ideal S8x128 .f32) (v1108 : FVec Ideal S8x128 .f32) (v1115 : FVec Ideal S8x128 .f32) (X_arg8 : BufTy.Contents (Elt Ideal) arg8.view.ty) (X_arg9 : BufTy.Contents (Elt Ideal) arg9.view.ty) (G_arg19 : BufTy.Contents (Elt Ideal) arg19.view.ty)
    {a : ℕ → ℕ → EReal} {g b : ℕ → EReal}
    (h19 : ∀ y : S256x1024.Idx, arg19.view.read (Elt Ideal) G_arg19 y = a (y 0).val (y 1).val)
    (h8 : ∀ y : S1x1024.Idx, arg8.view.read (Elt Ideal) X_arg8 y = g (y 1).val)
    (h9 : ∀ y : S1x1024.Idx, arg9.view.read (Elt Ideal) X_arg9 y = b (y 1).val) (y : S256x1024.Idx) :
    arg19.view.read (Elt Ideal) (arg19.view.writes (Elt Ideal) G_arg19 (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1012 v1014 v1016 v1018 v1020 v1022 v1024 v1025 v1026 v1027 v1028 v1044 v1060 v1076 v1092 v1108 v1115 X_arg8 X_arg9 G_arg19 (Scf.trips k0_t9_loop.lb k0_t9_loop.ub k0_t9_loop.st))) y
      = lnorm (a (y 0).val) g b (y 1).val * sg (lnorm (a (y 0).val) g b (y 1).val) := by
  have ho : ∀ k : Fin k0_t9_loop.trips, k0_off17 k = ![8 * k.val, 0] := by decide +kernel
  have := inplace arg19.view G_arg19 (fun y : S256x1024.Idx => lnorm (a (y 0).val) g b (y 1).val * sg (lnorm (a (y 0).val) g b (y 1).val))
    (fun y => (y 0).val) (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1012 v1014 v1016 v1018 v1020 v1022 v1024 v1025 v1026 v1027 v1028 v1044 v1060 v1076 v1092 v1108 v1115 X_arg8 X_arg9 G_arg19) (n := k0_t9_loop.trips)
    (fun k => Rect.unit (s := S256x1024) (k0_off17 k) S8x1024.size (k0_off17_inb k))
    (fun k f => k0_pay79 (View.readAt (Elt Ideal) arg19.view (Rect.unit (s := S256x1024) (k0_off17 k) S8x1024.size (k0_off17_inb k)).toLoadRect f)
      (View.readAt (Elt Ideal) arg8.view (Rect.unit (s := S1x1024) ![0, 0] S1x1024.size inb_S1x1024_S1x1024_0_0).toLoadRect X_arg8)
      (View.readAt (Elt Ideal) arg9.view (Rect.unit (s := S1x1024) ![0, 0] S1x1024.size inb_S1x1024_S1x1024_0_0).toLoadRect X_arg9))
    rfl (fun k => (pb_k0_t9_succ ..).trans (by unfold tripL_k0_t9 trip_k0_t9; rfl)) (fun k y => mem_rows2 (ho k) y)
    (fun k f hf x => by
      obtain ⟨i, l, rfl⟩ : ∃ (i : Fin 8) (l : Fin 1024), x = ix2 i l := ⟨x 0, x 1, (eq_ix2 x)⟩
      have e0 : k0_off17 k 0 = 8 * k.val := by rw [ho]; rfl
      have e1 : k0_off17 k 1 = 0 := by rw [ho]; rfl
      refine (swish_at _ _ _ (V := a (8 * k.val + i.val)) (G := g) (B := b) i l (fun x => ?_) (fun x => ?_) (fun x => ?_)).trans ?_
      · refine (hf _ ?_).trans ((h19 _).trans ?_)
        · show _ ≤ k0_off17 k 0 + 1 * i.val
          omega
        · show a (k0_off17 k 0 + 1 * i.val) (k0_off17 k 1 + 1 * x.val) = _
          rw [e0, e1, Nat.one_mul, Nat.one_mul, Nat.zero_add]
      · refine (h8 _).trans ?_
        show g (0 + 1 * x.val) = _
        rw [Nat.one_mul, Nat.zero_add]
      · refine (h9 _).trans ?_
        show b (0 + 1 * x.val) = _
        rw [Nat.one_mul, Nat.zero_add]
      · show _ = lnorm (a (k0_off17 k 0 + 1 * i.val)) g b (k0_off17 k 1 + 1 * l.val) * sg (lnorm (a (k0_off17 k 0 + 1 * i.val)) g b (k0_off17 k 1 + 1 * l.val))
        rw [e0, e1, Nat.one_mul, Nat.one_mul, Nat.zero_add]) k0_t9_loop.trips le_rfl
  refine read_agree _ _ this.1 y (.inl (this.2.1 y ?_))
  exact Nat.lt_of_lt_of_le (y 0).isLt (by decide +kernel)

theorem normOut (X_arg15 : BufTy.Contents (Elt Ideal) arg15.view.ty) (G_arg16 : BufTy.Contents (Elt Ideal) arg16.view.ty)
    {a : ℕ → ℕ → EReal} {g : ℕ → EReal}
    (h16 : ∀ y : S1x256x1024.Idx, arg16.view.read (Elt Ideal) G_arg16 y = a (y 1).val (y 2).val)
    (h15 : ∀ y : S1x1024.Idx, arg15.view.read (Elt Ideal) X_arg15 y = g (y 1).val) (y : S1x256x1024.Idx) :
    arg16.view.read (Elt Ideal) (arg16.view.writes (Elt Ideal) G_arg16 (pb_k0_t18 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg15 G_arg16 (Scf.trips k0_t18_loop.lb k0_t18_loop.ub k0_t18_loop.st))) y
      = rms (a (y 1).val) g (y 2).val := by
  have ho : ∀ k : Fin k0_t18_loop.trips, k0_off34 k = ![0, 8 * k.val, 0] := by decide +kernel
  have := inplace arg16.view G_arg16 (fun y : S1x256x1024.Idx => rms (a (y 1).val) g (y 2).val)
    (fun y => (y 1).val) (pb_k0_t18 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg15 G_arg16) (n := k0_t18_loop.trips)
    (fun k => Rect.unit (s := S1x256x1024) (k0_off34 k) S1x8x1024.size (k0_off34_inb k))
    (fun k f => k0_pay3 (View.readAt (Elt Ideal) arg16.view (Rect.unit (s := S1x256x1024) (k0_off34 k) S1x8x1024.size (k0_off34_inb k)).toLoadRect f)
      (View.readAt (Elt Ideal) arg15.view (Rect.unit (s := S1x1024) ![0, 0] S1x1024.size inb_S1x1024_S1x1024_0_0).toLoadRect X_arg15))
    rfl (fun k => (pb_k0_t18_succ ..).trans (by unfold tripL_k0_t18 trip_k0_t18; rfl)) (fun k y => mem_rows3 (ho k) y)
    (fun k f hf x => by
      obtain ⟨i, l, rfl⟩ : ∃ (i : Fin 8) (l : Fin 1024), x = ix3 0 i l := ⟨x 1, x 2, eq_ix3_one x⟩
      have e0 : k0_off34 k 1 = 8 * k.val := by rw [ho]; rfl
      have e1 : k0_off34 k 2 = 0 := by rw [ho]; rfl
      refine (rms_at _ _ (V := a (8 * k.val + i.val)) (G := g) i l (fun x => ?_) (fun x => ?_)).trans ?_
      · refine (hf _ ?_).trans ((h16 _).trans ?_)
        · show _ ≤ k0_off34 k 1 + 1 * i.val
          omega
        · show a (k0_off34 k 1 + 1 * i.val) (k0_off34 k 2 + 1 * x.val) = _
          rw [e0, e1, Nat.one_mul, Nat.one_mul, Nat.zero_add]
      · refine (h15 _).trans ?_
        show g (0 + 1 * x.val) = _
        rw [Nat.one_mul, Nat.zero_add]
      · show _ = rms (a (k0_off34 k 1 + 1 * i.val)) g (k0_off34 k 2 + 1 * l.val)
        rw [e0, e1, Nat.one_mul, Nat.one_mul, Nat.zero_add]) k0_t18_loop.trips le_rfl
  refine read_agree _ _ this.1 y (.inl (this.2.1 y ?_))
  exact Nat.lt_of_lt_of_le (y 1).isLt (by decide +kernel)

end Cert.KernelIdeal.Hand
-- ==== Proof.KI.V.Pieces.lean ====
/- The pieces the body stores, in one canonical form, and what they hold -/
module

public import proofs.«01_k».proof.Proof.KI.V.Norm
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A matrix reads a function of plain indices. -/
def Mat {n m : ℕ} {α : Type} (v : (⟨2, ![n, m]⟩ : Shape).Idx → α) (f : ℕ → ℕ → α) : Prop :=
  ∀ (i : Fin n) (l : Fin m), v (ix2 i l) = f i.val l.val

theorem Mat.congr {n m : ℕ} {α : Type} {v : (⟨2, ![n, m]⟩ : Shape).Idx → α} {f g : ℕ → ℕ → α} (h : Mat v f)
    (hg : ∀ i l, i < n → l < m → f i l = g i l) : Mat v g := fun i l => (h i l).trans (hg _ _ i.isLt l.isLt)

/-- A load of a whole block's rectangle. -/
theorem ldMat {n m n' m' : ℕ} {e : EltTy} (M : Memref sig .tc .vmem ⟨2, ![n, m]⟩ e) (h : M.IsWhole) {x : Vec Ideal ⟨2, ![n, m]⟩ e}
    {f : ℕ → ℕ → Elt Ideal e} (hx : ∀ y, x y = f (y 0).val (y 1).val) (off : Fin 2 → ℕ)
    (inb : ∀ a, off a + (⟨2, ![n', m']⟩ : Shape).size a ≤ (⟨2, ![n, m]⟩ : Shape).size a) :
    Mat (n := n') (m := m') (View.readAt (Elt Ideal) M.view (Rect.unit (s := ⟨2, ![n, m]⟩) off (⟨2, ![n', m']⟩ : Shape).size inb).toLoadRect (h.unread x))
      (fun i l => f (off 0 + i) (off 1 + l)) := by
  intro i l
  refine (congrFun (h.read_unread x) _).trans ((hx _).trans ?_)
  show f (off 0 + 1 * i.val) (off 1 + 1 * l.val) = _
  rw [Nat.one_mul, Nat.one_mul]

/-- A load of a buffer whose every place is known. -/
theorem ldMat' {n m n' m' : ℕ} {e : EltTy} (M : Memref sig .tc .vmem ⟨2, ![n, m]⟩ e) {X : BufTy.Contents (Elt Ideal) M.view.ty}
    {f : ℕ → ℕ → Elt Ideal e} (hx : ∀ y, M.view.read (Elt Ideal) X y = f (y 0).val (y 1).val) (off : Fin 2 → ℕ)
    (inb : ∀ a, off a + (⟨2, ![n', m']⟩ : Shape).size a ≤ (⟨2, ![n, m]⟩ : Shape).size a) :
    Mat (n := n') (m := m') (View.readAt (Elt Ideal) M.view (Rect.unit (s := ⟨2, ![n, m]⟩) off (⟨2, ![n', m']⟩ : Shape).size inb).toLoadRect X)
      (fun i l => f (off 0 + i) (off 1 + l)) := by
  intro i l
  refine (hx _).trans ?_
  show f (off 0 + 1 * i.val) (off 1 + 1 * l.val) = _
  rw [Nat.one_mul, Nat.one_mul]

/-- A matrix stored at a rectangle. -/
theorem Mat.agree {n m n' m' : ℕ} {e : EltTy} {p : Vec Ideal ⟨2, ![n', m']⟩ e} {a b : ℕ} {f : ℕ → ℕ → Elt Ideal e}
    {inb : ∀ x, (![a, b] : Fin 2 → ℕ) x + (⟨2, ![n', m']⟩ : Shape).size x ≤ (⟨2, ![n, m]⟩ : Shape).size x}
    (h : Mat p (fun i l => f (a + i) (b + l))) (x : (⟨2, ![n', m']⟩ : Shape).Idx) :
    p x = (fun y : (⟨2, ![n, m]⟩ : Shape).Idx => f (y 0).val (y 1).val) ((Rect.unit (s := ⟨2, ![n, m]⟩) ![a, b] (⟨2, ![n', m']⟩ : Shape).size inb).emb x) := by
  obtain ⟨i, l, rfl⟩ : ∃ (i : Fin n') (l : Fin m'), x = ix2 i l := ⟨x 0, x 1, (eq_ix2 x)⟩
  refine (h i l).trans ?_
  show _ = f (a + 1 * i.val) (b + 1 * l.val)
  rw [Nat.one_mul, Nat.one_mul]

/-- A covered load of a whole buffer. -/
theorem covMat {n m : ℕ} {e : EltTy} (M : Memref sig .tc .vmem ⟨2, ![n, m]⟩ e) {L : List (View.Piece (Elt Ideal) ⟨2, ![n, m]⟩ e)}
    {f : ℕ → ℕ → Elt Ideal e} (hL : Agree (fun y : (⟨2, ![n, m]⟩ : Shape).Idx => f (y 0).val (y 1).val) L) (hc : ∀ y, Covers L y)
    (inb : ∀ a, (![0, 0] : Fin 2 → ℕ) a + (⟨2, ![n, m]⟩ : Shape).size a ≤ (⟨2, ![n, m]⟩ : Shape).size a) :
    Mat (n := n) (m := m) (M.view.readCov L (Rect.unit (s := ⟨2, ![n, m]⟩) ![0, 0] (⟨2, ![n, m]⟩ : Shape).size inb).toLoadRect) f := by
  intro i l
  refine (read_agree M.view M.view.junk hL _ (.inl (hc _))).trans ?_
  show f (0 + 1 * i.val) (0 + 1 * l.val) = _
  simp

/-! ## The payloads -/

section Pay
variable {n : ℕ} {h h' v31 : Vec Ideal S256x1024 .bf16} {w w' w'' w3 : Vec Ideal S1024x256 .bf16} {H W W' W'' W3 A B : ℕ → ℕ → EReal}

/-- A product of two matrices at plain indices. -/
def mm (H W : ℕ → ℕ → EReal) (i l : ℕ) : EReal := msum fun x => H i x * W x l

theorem pay_ua (h0 : Mat v31 H) (h1 : Mat w W) (h2 : Mat h H) (h3 : Mat w' W') :
    Mat (n := 256) (m := 256) (k0_pay122 v31 w h w') (fun i l => mm H W i l * sg (mm H W' i l)) := by
  intro i l
  pointwise [k0_pay122]
  simp only [h0 _ _, h1 _ _, h2 _ _, h3 _ _]
  rfl

theorem pay_cx (h0 : Mat v31 H) (h1 : Mat w W) (h2 : Mat h H) (h3 : Mat w' W') :
    Mat (n := 256) (m := 256) (k0_pay264 v31 w h w') (fun i l => mm H W i l * mm H W' i l) := by
  intro i l
  pointwise [k0_pay264]
  simp only [h0 _ _, h1 _ _, h2 _ _, h3 _ _]
  rfl

theorem pay_pa {v : Vec Ideal S256x256 .f32} (h0 : Mat h H) (h1 : Mat w W) (h2 : Mat v A) :
    Mat (n := 256) (m := 256) (k0_pay247 h w v) (fun i l => A i l * (mm H W i l * sg (mm H W i l))) := by
  intro i l
  pointwise [k0_pay247]
  simp only [h0 _ _, h1 _ _, h2 _ _]
  rfl

theorem pay_pb {v : Vec Ideal S256x256 .f32} (h0 : Mat h H) (h1 : Mat w W) (h2 : Mat w' W') (h3 : Mat v A) :
    Mat (n := 256) (m := 256) (k0_pay263 (k0_pay262 h w h w' v)) (fun i l => mm H W i l * A i l * (mm H W' i l * sg (mm H W' i l))) := by
  intro i l
  pointwise [k0_pay263, k0_pay262]
  simp only [h0 _ _, h1 _ _, h2 _ _, h3 _ _]
  rfl

theorem pay_m {a b : Vec Ideal S256x1024 .bf16} {v : Vec Ideal S1x256 .f32} {bias : ℕ → EReal} (h0 : Mat h H) (ha : Mat a A) (hb : Mat b B)
    (h1 : Mat w W) (h2 : Mat w' W') (h3 : Mat w'' W'') (h4 : Mat w3 W3) (hv : Mat v (fun _ l => bias l)) :
    Mat (n := 256) (m := 256) (k0_pay313 (k0_pay311 a w v) (k0_pay312 h w') b w'' h w3)
      (fun i l => sg (mm H W' i l) * (mm A W i l + bias l) + sg (mm H W3 i l) * mm B W'' i l) := by
  intro i l
  pointwise [k0_pay313, k0_pay312, k0_pay311]
  simp only [h0 _ _, h1 _ _, h2 _ _, h3 _ _, ha _ _, hb _ _, h4 _ _, hv _ _]
  rfl

theorem pay_out {x : Vec Ideal S1x256x256 .f32} (hx : ∀ i l : Fin 256, x (ix3 0 i l) = A i.val l.val) (h0 : Mat h H) (h1 : Mat w W)
    (i l : Fin 256) : k0_pay2 x h w (ix3 0 i l) = A i.val l.val + mm H W i.val l.val := by
  pointwise [k0_pay2]
  simp only [hx, h0 _ _, h1 _ _]
  rfl

end Pay

/-! ## The four column blocks -/

theorem cover4 {r0 : ℕ} {e : EltTy} {n : ℕ} {p0 p1 p2 p3 : Vec Ideal S256x256 e}
    {i0 : ∀ a, (![r0, 0] : Fin 2 → ℕ) a + S256x256.size a ≤ (⟨2, ![n, 1024]⟩ : Shape).size a}
    {i1 : ∀ a, (![r0, 256] : Fin 2 → ℕ) a + S256x256.size a ≤ (⟨2, ![n, 1024]⟩ : Shape).size a}
    {i2 : ∀ a, (![r0, 512] : Fin 2 → ℕ) a + S256x256.size a ≤ (⟨2, ![n, 1024]⟩ : Shape).size a}
    {i3 : ∀ a, (![r0, 768] : Fin 2 → ℕ) a + S256x256.size a ≤ (⟨2, ![n, 1024]⟩ : Shape).size a}
    (y : (⟨2, ![n, 1024]⟩ : Shape).Idx) (h : r0 ≤ (y 0).val) (h' : (y 0).val < r0 + 256) :
    Covers (Val := Elt Ideal) [⟨Rect.unit (s := ⟨2, ![n, 1024]⟩) ![r0, 768] S256x256.size i3, p3⟩, ⟨Rect.unit (s := ⟨2, ![n, 1024]⟩) ![r0, 512] S256x256.size i2, p2⟩,
      ⟨Rect.unit (s := ⟨2, ![n, 1024]⟩) ![r0, 256] S256x256.size i1, p1⟩, ⟨Rect.unit (s := ⟨2, ![n, 1024]⟩) ![r0, 0] S256x256.size i0, p0⟩] y := by
  have hl : (y 1).val < 1024 := (y 1).isLt
  by_cases h3 : 768 ≤ (y 1).val
  · exact Covers.head (mem_unit2 h h' h3 (by show _ < 768 + 256; omega))
  by_cases h2 : 512 ≤ (y 1).val
  · exact (Covers.head (mem_unit2 h h' h2 (by show _ < 512 + 256; omega))).tail
  by_cases h1 : 256 ≤ (y 1).val
  · exact (Covers.head (mem_unit2 h h' h1 (by show _ < 256 + 256; omega))).tail.tail
  · exact (Covers.head (mem_unit2 h h' (Nat.zero_le _) (by show _ < 0 + 256; omega))).tail.tail.tail

end Cert.KernelIdeal.Hand
-- ==== Proof.KI.V.Blocks.lean ====
/- What the body leaves after its first part -/
module

public import proofs.«01_k».proof.Proof.KI.V.Pieces
public import proofs.«01_k».proof.Proof.KI.Rest
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem Agree.tail {Val : EltTy → Type} {s : Shape} {e : EltTy} {G : s.Idx → Val e} {p : View.Piece Val s e} {L : List (View.Piece Val s e)}
    (h : Agree G (p :: L)) : Agree G L := fun q hq => h q (List.mem_cons_of_mem _ hq)

/-- The weights hold the inputs. -/
structure Params (I : In) (x4 : Vec Ideal S1x1024 .f32) (x5 : Vec Ideal S1024x9216 .bf16) (x6 : Vec Ideal S31x8x1024 .f32) (x7 : Vec Ideal S8x1024 .f32)
    (x8 : Vec Ideal S1x1024 .f32) (x9 : Vec Ideal S1x1024 .f32) (x10 : Vec Ideal S1024x1024 .bf16) (x11 : Vec Ideal S1x1024 .f32)
    (x12 : Vec Ideal S3x8x1024 .f32) (x13 : Vec Ideal S1024x1024 .bf16) (x14 : Vec Ideal S1024x1024 .bf16) (x15 : Vec Ideal S1x1024 .f32) : Prop where
  f4 : ∀ y, x4 y = I.ng (y 1).val
  f5 : ∀ y, x5 y = I.win (y 0).val (y 1).val
  f6 : ∀ y, x6 y = I.wa (y 0).val (y 2).val
  f7 : ∀ y, x7 y = I.ba (y 1).val
  f8 : ∀ y, x8 y = I.lg (y 1).val
  f9 : ∀ y, x9 y = I.lb (y 1).val
  f10 : ∀ y, x10 y = I.wao (y 0).val (y 1).val
  f11 : ∀ y, x11 y = I.bao (y 1).val
  f12 : ∀ y, x12 y = I.wb (y 0).val (y 2).val
  f13 : ∀ y, x13 y = I.wbo (y 0).val (y 1).val
  f14 : ∀ y, x14 y = I.wo (y 0).val (y 1).val
  f15 : ∀ y, x15 y = I.fg (y 1).val

/-- The tile's rows, and the rows the two filters look back to. -/
structure TileAt (I : In) (b T : ℕ) (x2 : Vec Ideal S1x256x1024 .f32) (x17 : Vec Ideal S256x1024 .bf16) (x18 : Vec Ideal S288x1024 .f32)
    (x20 : Vec Ideal S264x1024 .f32) (v31 : Vec Ideal S256x1024 .bf16) (v32 : Vec Ideal S1024x256 .bf16) : Prop where
  f2 : ∀ y, x2 y = I.x b (T + (y 1).val) (y 2).val
  f17 : ∀ y, x17 y = I.h b (T + 16 + (y 0).val) (y 1).val
  f31 : ∀ y, v31 y = I.h b (T + 16 + (y 0).val) (y 1).val
  f32 : ∀ y, v32 y = I.win (y 0).val (y 1).val
  f18 : ∀ y, (y 0).val < 32 → x18 y = I.uap b (T + (y 0).val) (y 1).val
  f20 : ∀ y, (y 0).val < 8 → x20 y = I.cx b (T + 8 + (y 0).val) (y 1).val

section
variable {I : In} {b T : ℕ}

theorem mat_of {n m : ℕ} {α : Type} {v : (⟨2, ![n, m]⟩ : Shape).Idx → α} {f : ℕ → ℕ → α} (h : ∀ y, v y = f (y 0).val (y 1).val) : Mat v f :=
  fun i l => h (ix2 i l)

theorem ua_mat {h v31 : Vec Ideal S256x1024 .bf16} {w w' : Vec Ideal S1024x256 .bf16} {off off' : ℕ} (he : off' = 1024 + off)
    (h0 : Mat v31 (fun i x => I.h b (T + 16 + i) x)) (h1 : Mat w (fun x l => I.win x (off + l)))
    (h2 : Mat h (fun i x => I.h b (T + 16 + i) x)) (h3 : Mat w' (fun x l => I.win x (off' + l))) :
    Mat (n := 256) (m := 256) (k0_pay122 v31 w h w') (fun i l => I.uap b (T + (32 + i)) (off + l)) := by
  refine (pay_ua h0 h1 h2 h3).congr fun i l _ _ => ?_
  rw [In.uap, if_neg (by omega), show T + (32 + i) - 16 = T + 16 + i by omega, In.ua, ← Nat.add_assoc 1024, ← he]
  rfl

theorem cx_mat {h v31 : Vec Ideal S256x1024 .bf16} {w w' : Vec Ideal S1024x256 .bf16} {off o1 o2 : ℕ} (he : o1 = 4096 + off) (he' : o2 = 5120 + off)
    (h0 : Mat v31 (fun i x => I.h b (T + 16 + i) x)) (h1 : Mat w (fun x l => I.win x (o1 + l)))
    (h2 : Mat h (fun i x => I.h b (T + 16 + i) x)) (h3 : Mat w' (fun x l => I.win x (o2 + l))) :
    Mat (n := 256) (m := 256) (k0_pay264 v31 w h w') (fun i l => I.cx b (T + 8 + (8 + i)) (off + l)) := by
  refine (pay_cx h0 h1 h2 h3).congr fun i l _ _ => ?_
  rw [In.cx, ← Nat.add_assoc 4096, ← Nat.add_assoc 5120, ← he, ← he', show T + 8 + (8 + i) = T + 16 + i by omega]
  rfl

theorem pa_mat {h : Vec Ideal S256x1024 .bf16} {w : Vec Ideal S1024x256 .bf16} {v : Vec Ideal S256x256 .f32} {off o1 : ℕ} (he : o1 = 2048 + off)
    (h0 : Mat h (fun i x => I.h b (T + 16 + i) x)) (h1 : Mat w (fun x l => I.win x (o1 + l)))
    (h2 : Mat v (fun i l => I.an b (T + i) (off + l))) :
    Mat (n := 256) (m := 256) (k0_pay247 h w v) (fun i l => I.pa b (T + (0 + i)) (off + l)) := by
  refine (pay_pa h0 h1 h2).congr fun i l _ _ => ?_
  rw [In.pa, ← Nat.add_assoc 2048, ← he, show 16 + (T + (0 + i)) = T + 16 + i by omega, Nat.zero_add]
  rfl

theorem pb_mat {h : Vec Ideal S256x1024 .bf16} {w w' : Vec Ideal S1024x256 .bf16} {v : Vec Ideal S256x256 .f32} {off o1 o2 : ℕ} (he : o1 = 3072 + off)
    (he' : o2 = 6144 + off) (h0 : Mat h (fun i x => I.h b (T + 16 + i) x)) (h1 : Mat w (fun x l => I.win x (o1 + l)))
    (h2 : Mat w' (fun x l => I.win x (o2 + l))) (h3 : Mat v (fun i l => I.cvb b (T + i) (off + l))) :
    Mat (n := 256) (m := 256) (k0_pay263 (k0_pay262 h w h w' v)) (fun i l => I.pb b (T + (0 + i)) (off + l)) := by
  refine (pay_pb h0 h1 h2 h3).congr fun i l _ _ => ?_
  rw [In.pb, ← Nat.add_assoc 3072, ← Nat.add_assoc 6144, ← he, ← he', show 16 + (T + (0 + i)) = T + 16 + i by omega, Nat.zero_add]
  rfl

theorem m_mat {h a b' : Vec Ideal S256x1024 .bf16} {w w' w'' w3 : Vec Ideal S1024x256 .bf16} {v : Vec Ideal S1x256 .f32} {off o1 o2 : ℕ}
    (he : o1 = 7168 + off) (he' : o2 = 8192 + off) (h0 : Mat h (fun i x => I.h b (T + 16 + i) x))
    (ha : Mat a (fun i x => I.pa b (T + i) x)) (hb : Mat b' (fun i x => I.pb b (T + i) x))
    (h1 : Mat w (fun x l => I.wao x (off + l))) (hv : Mat v (fun _ l => I.bao (off + l))) (h2 : Mat w' (fun x l => I.win x (o1 + l)))
    (h3 : Mat w'' (fun x l => I.wbo x (off + l))) (h4 : Mat w3 (fun x l => I.win x (o2 + l))) :
    Mat (n := 256) (m := 256) (k0_pay313 (k0_pay311 a w v) (k0_pay312 h w') b' w'' h w3) (fun i l => I.m b (T + (0 + i)) (off + l)) := by
  refine (pay_m h0 ha hb h1 h2 h3 h4 (bias := fun l => I.bao (off + l)) hv).congr fun i l _ _ => ?_
  rw [In.m, ← Nat.add_assoc 7168, ← Nat.add_assoc 8192, ← he, ← he', show 16 + (T + (0 + i)) = T + 16 + i by omega, Nat.zero_add]
  rfl

theorem out_piece {x : Vec Ideal S1x256x256 .f32} {h : Vec Ideal S256x1024 .bf16} {w : Vec Ideal S1024x256 .bf16} {off : ℕ}
    (hx : ∀ i l : Fin 256, x (ix3 0 i l) = I.x b (T + i.val) (off + l.val)) (h0 : Mat h (fun i x => I.m b (T + i) x))
    (h1 : Mat w (fun x l => I.wo x (off + l)))
    {inb : ∀ a, (![0, 0, off] : Fin 3 → ℕ) a + S1x256x256.size a ≤ S1x256x1024.size a} (y : S1x256x256.Idx) :
    k0_pay2 x h w y = (fun y : S1x256x1024.Idx => I.res b (T + (y 1).val) (y 2).val) ((Rect.unit (s := S1x256x1024) ![0, 0, off] S1x256x256.size inb).emb y) := by
  obtain ⟨i, l, rfl⟩ : ∃ (i : Fin 256) (l : Fin 256), y = ix3 0 i l := ⟨y 1, y 2, eq_ix3_one y⟩
  refine (pay_out (A := fun i l => I.x b (T + i) (off + l)) hx h0 h1 i l).trans ?_
  show _ = I.res b (T + (0 + 1 * i.val)) (off + 1 * l.val)
  rw [Nat.one_mul, Nat.one_mul, Nat.zero_add]
  rfl

theorem tapA_shift (w U : ℕ → ℕ → EReal) (r k Q c : ℕ) (hk : 24 ≤ k) : tapA w U r (k + Q) c = tapA w (fun r => U (Q + r)) r (k + 0) c := by
  simp only [tapA]
  have e (n : ℕ) (h : n ≤ 24) : Q + (k + 0 - n) = k + Q - n := by omega
  rw [show U (Q + (k + 0)) c = U (k + Q) c by congr 1; omega, e 8 (by omega), e 16 (by omega), e 24 (by omega)]

theorem convA_shift (w U : ℕ → ℕ → EReal) (bb : ℕ → EReal) (Q c : ℕ) : convA w U bb Q c = convA w (fun r => U (Q + r)) bb 0 c := by
  simp only [convA]
  rw [tapA_shift w U 0 32 Q c (by omega), tapA_shift w U 1 31 Q c (by omega), tapA_shift w U 2 30 Q c (by omega), tapA_shift w U 3 29 Q c (by omega),
    tapA_shift w U 4 28 Q c (by omega), tapA_shift w U 5 27 Q c (by omega), tapA_shift w U 6 26 Q c (by omega), tapA_shift w U 7 25 Q c (by omega)]

theorem ca_eq (Q c : ℕ) : convA I.wa (fun r => I.uap b (T + r)) I.ba Q c = I.ca b (T + Q) c := by
  rw [convA_shift]
  simp only [In.ca, ← Nat.add_assoc]

theorem cvb_eq (Q c : ℕ) : convB I.wb (fun r => I.cx b (T + 8 + r)) Q c = I.cvb b (T + Q) c := by
  simp only [In.cvb, convB, Nat.add_zero]
  rw [show T + 8 + (8 + Q) = 8 + (T + Q) + 8 by omega, show T + 8 + (7 + Q) = 8 + (T + Q) + 7 by omega, show T + 8 + (6 + Q) = 8 + (T + Q) + 6 by omega]

end

/-- The printed masks of the long filter. -/
theorem masksA : MasksAt ![cmpi .sge (iota .tc S8x128 32 [0] iota_S8x128_d0_w32) (broadcast S8x128 1#32),
    cmpi .sge (iota .tc S8x128 32 [0] iota_S8x128_d0_w32) (broadcast S8x128 2#32), cmpi .sge (iota .tc S8x128 32 [0] iota_S8x128_d0_w32) (broadcast S8x128 3#32),
    cmpi .sge (iota .tc S8x128 32 [0] iota_S8x128_d0_w32) (broadcast S8x128 4#32), cmpi .sge (iota .tc S8x128 32 [0] iota_S8x128_d0_w32) (broadcast S8x128 5#32),
    cmpi .sge (iota .tc S8x128 32 [0] iota_S8x128_d0_w32) (broadcast S8x128 6#32), cmpi .sge (iota .tc S8x128 32 [0] iota_S8x128_d0_w32) (broadcast S8x128 7#32)] := by
  intro r i l
  fin_cases r
  · exact maskB_at 1 i l
  · exact maskB_at 2 i l
  · exact maskB_at 3 i l
  · exact maskB_at 4 i l
  · exact maskB_at 5 i l
  · exact maskB_at 6 i l
  · exact maskB_at 7 i l

theorem joinA {w U : ℕ → ℕ → EReal} {bias : ℕ → EReal} {L1 L2 L3 L4 L5 L6 L7 L8 : List (View.Piece (Elt Ideal) S256x1024 .f32)}
    (h8 : LoopA w U bias 896 L8) (h7 : LoopA w U bias 768 L7) (h6 : LoopA w U bias 640 L6) (h5 : LoopA w U bias 512 L5)
    (h4 : LoopA w U bias 384 L4) (h3 : LoopA w U bias 256 L3) (h2 : LoopA w U bias 128 L2) (h1 : LoopA w U bias 0 L1) :
    Agree (fun y : S256x1024.Idx => convA w U bias (y 0).val (y 1).val) (L8 ++ (L7 ++ (L6 ++ (L5 ++ (L4 ++ (L3 ++ (L2 ++ L1)))))))
      ∧ ∀ y, Covers (L8 ++ (L7 ++ (L6 ++ (L5 ++ (L4 ++ (L3 ++ (L2 ++ L1))))))) y := by
  refine ⟨h8.1.append (h7.1.append (h6.1.append (h5.1.append (h4.1.append (h3.1.append (h2.1.append h1.1)))))), fun y => ?_⟩
  have hl : (y 1).val < 1024 := (y 1).isLt
  by_cases c8 : 896 ≤ (y 1).val
  · exact (h8.2 y c8 (by omega)).left
  refine Covers.right ?_
  by_cases c7 : 768 ≤ (y 1).val
  · exact (h7.2 y c7 (by omega)).left
  refine Covers.right ?_
  by_cases c6 : 640 ≤ (y 1).val
  · exact (h6.2 y c6 (by omega)).left
  refine Covers.right ?_
  by_cases c5 : 512 ≤ (y 1).val
  · exact (h5.2 y c5 (by omega)).left
  refine Covers.right ?_
  by_cases c4 : 384 ≤ (y 1).val
  · exact (h4.2 y c4 (by omega)).left
  refine Covers.right ?_
  by_cases c3 : 256 ≤ (y 1).val
  · exact (h3.2 y c3 (by omega)).left
  refine Covers.right ?_
  by_cases c2 : 128 ≤ (y 1).val
  · exact (h2.2 y c2 (by omega)).left
  · exact (h1.2 y (Nat.zero_le _) (by omega)).right

/-- The short filter's buffer read whole after its two newest loops, whatever it held. -/
theorem joinB (arg21 : Memref sig .tc .vmem S256x256 .f32) (X : BufTy.Contents (Elt Ideal) arg21.view.ty) {w V : ℕ → ℕ → EReal} {base : ℕ}
    {La Lb O : List (View.Piece (Elt Ideal) S256x256 .f32)} (hb : LoopB w V base 128 Lb) (ha : LoopB w V base 0 La)
    (inb : ∀ a, (![0, 0] : Fin 2 → ℕ) a + S256x256.size a ≤ S256x256.size a) :
    Mat (n := 256) (m := 256) (View.readAt (Elt Ideal) arg21.view (Rect.unit (s := S256x256) ![0, 0] S256x256.size inb).toLoadRect
      (arg21.view.writes (Elt Ideal) X (Lb ++ (La ++ O)))) (fun i l => convB w V i (base + l)) := by
  refine Mat.congr (ldMat' arg21 (f := fun i l => convB w V i (base + l)) (fun y => ?_) ![0, 0] inb) (fun i l _ _ => by simp)
  rw [← List.append_assoc, View.writes_append]
  have key := hb.1.append ha.1
  refine (read_agree arg21.view _ key y (.inl ?_)).trans rfl
  by_cases h : 128 ≤ (y 1).val
  · exact (hb.2 y h (y 1).isLt).left
  · exact (ha.2 y (Nat.zero_le _) (by omega)).right

section Comp
variable (c : Dev nD) (i : grid0.Coords)
  (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
  (x2 : Vec Ideal S1x256x1024 .f32) (x3 : Vec Ideal S16x1024 .f32) (x4 : Vec Ideal S1x1024 .f32) (x5 : Vec Ideal S1024x9216 .bf16) (x6 : Vec Ideal S31x8x1024 .f32) (x7 : Vec Ideal S8x1024 .f32) (x8 : Vec Ideal S1x1024 .f32) (x9 : Vec Ideal S1x1024 .f32) (x10 : Vec Ideal S1024x1024 .bf16) (x11 : Vec Ideal S1x1024 .f32) (x12 : Vec Ideal S3x8x1024 .f32) (x13 : Vec Ideal S1024x1024 .bf16) (x14 : Vec Ideal S1024x1024 .bf16) (x15 : Vec Ideal S1x1024 .f32) (x16 : Vec Ideal S1x256x1024 .f32) (x17 : Vec Ideal S256x1024 .bf16) (x18 : Vec Ideal S288x1024 .f32) (x19 : Vec Ideal S256x1024 .f32) (x20 : Vec Ideal S264x1024 .f32) (x21 : Vec Ideal S256x256 .f32) (x22 : Vec Ideal S256x1024 .bf16) (x23 : Vec Ideal S256x1024 .bf16) (x24 : Vec Ideal S256x1024 .bf16) (x25 : Vec Ideal S32x1024 .f32) (x26 : Vec Ideal S8x1024 .f32) (v31 : Vec Ideal S256x1024 .bf16) (v32 : Vec Ideal S1024x256 .bf16)

/-- The normed rows as the body loads them. -/
def ld17 : Vec Ideal S256x1024 .bf16 :=
  View.readAt (Elt Ideal) arg17.view (Rect.unit (s := S256x1024) ![0, 0] S256x1024.size inb_S256x1024_S256x1024_0_0).toLoadRect (harg17.unread x17)

/-- A block of columns of a matrix of weights as the body loads it. -/
def ldW {m : ℕ} (M : Memref sig .tc .vmem ⟨2, ![1024, m]⟩ .bf16) (hM : M.IsWhole) (x : Vec Ideal ⟨2, ![1024, m]⟩ .bf16) (off : ℕ)
    (inb : ∀ a, (![0, off] : Fin 2 → ℕ) a + S1024x256.size a ≤ (⟨2, ![1024, m]⟩ : Shape).size a) : Vec Ideal S1024x256 .bf16 :=
  View.readAt (Elt Ideal) M.view (Rect.unit (s := ⟨2, ![1024, m]⟩) ![0, off] S1024x256.size inb).toLoadRect (hM.unread x)

theorem ldW_mat {m : ℕ} (M : Memref sig .tc .vmem ⟨2, ![1024, m]⟩ .bf16) (hM : M.IsWhole) {x : Vec Ideal ⟨2, ![1024, m]⟩ .bf16} {f : ℕ → ℕ → EReal}
    (hx : ∀ y, x y = f (y 0).val (y 1).val) (off : ℕ)
    (inb : ∀ a, (![0, off] : Fin 2 → ℕ) a + S1024x256.size a ≤ (⟨2, ![1024, m]⟩ : Shape).size a) :
    Mat (n := 1024) (m := 256) (ldW M hM x off inb) (fun x l => f x (off + l)) :=
  (ldMat M hM (f := f) hx ![0, off] inb).congr (fun i l _ _ => by simp)

theorem ld17_mat {f : ℕ → ℕ → EReal} (hx : ∀ y, x17 y = f (y 0).val (y 1).val) : Mat (n := 256) (m := 1024) (ld17 arg17 harg17 x17) f :=
  (ldMat arg17 harg17 (f := f) hx ![0, 0] inb_S256x1024_S256x1024_0_0).congr (fun i l _ _ => by simp)

/-- The gated unit's four blocks. -/
def P18 : List (View.Piece (Elt Ideal) S288x1024 .f32) := [
    ⟨Rect.unit (s := S288x1024) ![32, 768] S256x256.size inb_S288x1024_S256x256_32_768, k0_pay122 (ld17 arg17 harg17 x17) (ldW arg5 harg5 x5 768 inb_S1024x9216_S1024x256_0_768) (ld17 arg17 harg17 x17) (ldW arg5 harg5 x5 1792 inb_S1024x9216_S1024x256_0_1792)⟩,
    ⟨Rect.unit (s := S288x1024) ![32, 512] S256x256.size inb_S288x1024_S256x256_32_512, k0_pay122 (ld17 arg17 harg17 x17) (ldW arg5 harg5 x5 512 inb_S1024x9216_S1024x256_0_512) (ld17 arg17 harg17 x17) (ldW arg5 harg5 x5 1536 inb_S1024x9216_S1024x256_0_1536)⟩,
    ⟨Rect.unit (s := S288x1024) ![32, 256] S256x256.size inb_S288x1024_S256x256_32_256, k0_pay122 (ld17 arg17 harg17 x17) (ldW arg5 harg5 x5 256 inb_S1024x9216_S1024x256_0_256) (ld17 arg17 harg17 x17) (ldW arg5 harg5 x5 1280 inb_S1024x9216_S1024x256_0_1280)⟩,
    ⟨Rect.unit (s := S288x1024) ![32, 0] S256x256.size inb_S288x1024_S256x256_32_0, k0_pay122 v31 v32 (ld17 arg17 harg17 x17) (ldW arg5 harg5 x5 1024 inb_S1024x9216_S1024x256_0_1024)⟩]

/-- The second product's four blocks. -/
def P20 : List (View.Piece (Elt Ideal) S264x1024 .f32) := [
    ⟨Rect.unit (s := S264x1024) ![8, 768] S256x256.size inb_S264x1024_S256x256_8_768, k0_pay264 (ld17 arg17 harg17 x17) (ldW arg5 harg5 x5 4864 inb_S1024x9216_S1024x256_0_4864) (ld17 arg17 harg17 x17) (ldW arg5 harg5 x5 5888 inb_S1024x9216_S1024x256_0_5888)⟩,
    ⟨Rect.unit (s := S264x1024) ![8, 512] S256x256.size inb_S264x1024_S256x256_8_512, k0_pay264 (ld17 arg17 harg17 x17) (ldW arg5 harg5 x5 4608 inb_S1024x9216_S1024x256_0_4608) (ld17 arg17 harg17 x17) (ldW arg5 harg5 x5 5632 inb_S1024x9216_S1024x256_0_5632)⟩,
    ⟨Rect.unit (s := S264x1024) ![8, 256] S256x256.size inb_S264x1024_S256x256_8_256, k0_pay264 (ld17 arg17 harg17 x17) (ldW arg5 harg5 x5 4352 inb_S1024x9216_S1024x256_0_4352) (ld17 arg17 harg17 x17) (ldW arg5 harg5 x5 5376 inb_S1024x9216_S1024x256_0_5376)⟩,
    ⟨Rect.unit (s := S264x1024) ![8, 0] S256x256.size inb_S264x1024_S256x256_8_0, k0_pay264 (ld17 arg17 harg17 x17) (ldW arg5 harg5 x5 4096 inb_S1024x9216_S1024x256_0_4096) (ld17 arg17 harg17 x17) (ldW arg5 harg5 x5 5120 inb_S1024x9216_S1024x256_0_5120)⟩]

/-- The first path's four blocks. -/
def P22 (A19 : BufTy.Contents (Elt Ideal) arg19.view.ty) : List (View.Piece (Elt Ideal) S256x1024 .bf16) := [
    ⟨Rect.unit (s := S256x1024) ![0, 768] S256x256.size inb_S256x1024_S256x256_0_768, k0_pay247 (ld17 arg17 harg17 x17) (ldW arg5 harg5 x5 2816 inb_S1024x9216_S1024x256_0_2816) (View.readAt (Elt Ideal) arg19.view (Rect.unit (s := S256x1024) ![0, 768] S256x256.size inb_S256x1024_S256x256_0_768).toLoadRect A19)⟩,
    ⟨Rect.unit (s := S256x1024) ![0, 512] S256x256.size inb_S256x1024_S256x256_0_512, k0_pay247 (ld17 arg17 harg17 x17) (ldW arg5 harg5 x5 2560 inb_S1024x9216_S1024x256_0_2560) (View.readAt (Elt Ideal) arg19.view (Rect.unit (s := S256x1024) ![0, 512] S256x256.size inb_S256x1024_S256x256_0_512).toLoadRect A19)⟩,
    ⟨Rect.unit (s := S256x1024) ![0, 256] S256x256.size inb_S256x1024_S256x256_0_256, k0_pay247 (ld17 arg17 harg17 x17) (ldW arg5 harg5 x5 2304 inb_S1024x9216_S1024x256_0_2304) (View.readAt (Elt Ideal) arg19.view (Rect.unit (s := S256x1024) ![0, 256] S256x256.size inb_S256x1024_S256x256_0_256).toLoadRect A19)⟩,
    ⟨Rect.unit (s := S256x1024) ![0, 0] S256x256.size inb_S256x1024_S256x256_0_0, k0_pay247 (ld17 arg17 harg17 x17) (ldW arg5 harg5 x5 2048 inb_S1024x9216_S1024x256_0_2048) (View.readAt (Elt Ideal) arg19.view (Rect.unit (s := S256x1024) ![0, 0] S256x256.size inb_S256x1024_S256x256_0_0).toLoadRect A19)⟩]

/-- The second path's four blocks. -/
def P23 (C0 C1 C2 C3 : Vec Ideal S256x256 .f32) : List (View.Piece (Elt Ideal) S256x1024 .bf16) := [
    ⟨Rect.unit (s := S256x1024) ![0, 768] S256x256.size inb_S256x1024_S256x256_0_768, k0_pay263 (k0_pay262 (ld17 arg17 harg17 x17) (ldW arg5 harg5 x5 3840 inb_S1024x9216_S1024x256_0_3840) (ld17 arg17 harg17 x17) (ldW arg5 harg5 x5 6912 inb_S1024x9216_S1024x256_0_6912) C3)⟩,
    ⟨Rect.unit (s := S256x1024) ![0, 512] S256x256.size inb_S256x1024_S256x256_0_512, k0_pay263 (k0_pay262 (ld17 arg17 harg17 x17) (ldW arg5 harg5 x5 3584 inb_S1024x9216_S1024x256_0_3584) (ld17 arg17 harg17 x17) (ldW arg5 harg5 x5 6656 inb_S1024x9216_S1024x256_0_6656) C2)⟩,
    ⟨Rect.unit (s := S256x1024) ![0, 256] S256x256.size inb_S256x1024_S256x256_0_256, k0_pay263 (k0_pay262 (ld17 arg17 harg17 x17) (ldW arg5 harg5 x5 3328 inb_S1024x9216_S1024x256_0_3328) (ld17 arg17 harg17 x17) (ldW arg5 harg5 x5 6400 inb_S1024x9216_S1024x256_0_6400) C1)⟩,
    ⟨Rect.unit (s := S256x1024) ![0, 0] S256x256.size inb_S256x1024_S256x256_0_0, k0_pay263 (k0_pay262 (ld17 arg17 harg17 x17) (ldW arg5 harg5 x5 3072 inb_S1024x9216_S1024x256_0_3072) (ld17 arg17 harg17 x17) (ldW arg5 harg5 x5 6144 inb_S1024x9216_S1024x256_0_6144) C0)⟩]

/-- The merged paths' four blocks. -/
def P24 (a b : Vec Ideal S256x1024 .bf16) : List (View.Piece (Elt Ideal) S256x1024 .bf16) := [
    ⟨Rect.unit (s := S256x1024) ![0, 768] S256x256.size inb_S256x1024_S256x256_0_768, k0_pay313 (k0_pay311 a (ldW arg10 harg10 x10 768 inb_S1024x1024_S1024x256_0_768) (View.readAt (Elt Ideal) arg11.view (Rect.unit (s := S1x1024) ![0, 768] S1x256.size inb_S1x1024_S1x256_0_768).toLoadRect (harg11.unread x11))) (k0_pay312 (ld17 arg17 harg17 x17) (ldW arg5 harg5 x5 7936 inb_S1024x9216_S1024x256_0_7936)) b (ldW arg13 harg13 x13 768 inb_S1024x1024_S1024x256_0_768) (ld17 arg17 harg17 x17) (ldW arg5 harg5 x5 8960 inb_S1024x9216_S1024x256_0_8960)⟩,
    ⟨Rect.unit (s := S256x1024) ![0, 512] S256x256.size inb_S256x1024_S256x256_0_512, k0_pay313 (k0_pay311 a (ldW arg10 harg10 x10 512 inb_S1024x1024_S1024x256_0_512) (View.readAt (Elt Ideal) arg11.view (Rect.unit (s := S1x1024) ![0, 512] S1x256.size inb_S1x1024_S1x256_0_512).toLoadRect (harg11.unread x11))) (k0_pay312 (ld17 arg17 harg17 x17) (ldW arg5 harg5 x5 7680 inb_S1024x9216_S1024x256_0_7680)) b (ldW arg13 harg13 x13 512 inb_S1024x1024_S1024x256_0_512) (ld17 arg17 harg17 x17) (ldW arg5 harg5 x5 8704 inb_S1024x9216_S1024x256_0_8704)⟩,
    ⟨Rect.unit (s := S256x1024) ![0, 256] S256x256.size inb_S256x1024_S256x256_0_256, k0_pay313 (k0_pay311 a (ldW arg10 harg10 x10 256 inb_S1024x1024_S1024x256_0_256) (View.readAt (Elt Ideal) arg11.view (Rect.unit (s := S1x1024) ![0, 256] S1x256.size inb_S1x1024_S1x256_0_256).toLoadRect (harg11.unread x11))) (k0_pay312 (ld17 arg17 harg17 x17) (ldW arg5 harg5 x5 7424 inb_S1024x9216_S1024x256_0_7424)) b (ldW arg13 harg13 x13 256 inb_S1024x1024_S1024x256_0_256) (ld17 arg17 harg17 x17) (ldW arg5 harg5 x5 8448 inb_S1024x9216_S1024x256_0_8448)⟩,
    ⟨Rect.unit (s := S256x1024) ![0, 0] S256x256.size inb_S256x1024_S256x256_0_0, k0_pay313 (k0_pay311 a (ldW arg10 harg10 x10 0 inb_S1024x1024_S1024x256_0_0) (View.readAt (Elt Ideal) arg11.view (Rect.unit (s := S1x1024) ![0, 0] S1x256.size inb_S1x1024_S1x256_0_0).toLoadRect (harg11.unread x11))) (k0_pay312 (ld17 arg17 harg17 x17) (ldW arg5 harg5 x5 7168 inb_S1024x9216_S1024x256_0_7168)) b (ldW arg13 harg13 x13 0 inb_S1024x1024_S1024x256_0_0) (ld17 arg17 harg17 x17) (ldW arg5 harg5 x5 8192 inb_S1024x9216_S1024x256_0_8192)⟩]

/-- The residual sum's four blocks. -/
def P16 (m : Vec Ideal S256x1024 .bf16) : List (View.Piece (Elt Ideal) S1x256x1024 .f32) := [
    ⟨Rect.unit (s := S1x256x1024) ![0, 0, 768] S1x256x256.size inb_S1x256x1024_S1x256x256_0_0_768, k0_pay2 (View.readAt (Elt Ideal) arg2.view (Rect.unit (s := S1x256x1024) ![0, 0, 768] S1x256x256.size inb_S1x256x1024_S1x256x256_0_0_768).toLoadRect (harg2.unread x2)) m (ldW arg14 harg14 x14 768 inb_S1024x1024_S1024x256_0_768)⟩,
    ⟨Rect.unit (s := S1x256x1024) ![0, 0, 512] S1x256x256.size inb_S1x256x1024_S1x256x256_0_0_512, k0_pay2 (View.readAt (Elt Ideal) arg2.view (Rect.unit (s := S1x256x1024) ![0, 0, 512] S1x256x256.size inb_S1x256x1024_S1x256x256_0_0_512).toLoadRect (harg2.unread x2)) m (ldW arg14 harg14 x14 512 inb_S1024x1024_S1024x256_0_512)⟩,
    ⟨Rect.unit (s := S1x256x1024) ![0, 0, 256] S1x256x256.size inb_S1x256x1024_S1x256x256_0_0_256, k0_pay2 (View.readAt (Elt Ideal) arg2.view (Rect.unit (s := S1x256x1024) ![0, 0, 256] S1x256x256.size inb_S1x256x1024_S1x256x256_0_0_256).toLoadRect (harg2.unread x2)) m (ldW arg14 harg14 x14 256 inb_S1024x1024_S1024x256_0_256)⟩,
    ⟨Rect.unit (s := S1x256x1024) ![0, 0, 0] S1x256x256.size inb_S1x256x1024_S1x256x256_0_0_0, k0_pay2 (View.readAt (Elt Ideal) arg2.view (Rect.unit (s := S1x256x1024) ![0, 0, 0] S1x256x256.size inb_S1x256x1024_S1x256x256_0_0_0).toLoadRect (harg2.unread x2)) m (ldW arg14 harg14 x14 0 inb_S1024x1024_S1024x256_0_0)⟩]

variable {I : In} {b T : ℕ}

theorem agree18 (h5 : ∀ y, x5 y = I.win (y 0).val (y 1).val) (h17 : ∀ y, x17 y = I.h b (T + 16 + (y 0).val) (y 1).val)
    (h31 : ∀ y, v31 y = I.h b (T + 16 + (y 0).val) (y 1).val) (h32 : ∀ y, v32 y = I.win (y 0).val (y 1).val) :
    Agree (fun y : S288x1024.Idx => I.uap b (T + (y 0).val) (y 1).val) (P18 arg5 harg5 arg17 harg17 x5 x17 v31 v32) := by
  have hh := ld17_mat arg17 harg17 x17 (f := fun i x => I.h b (T + 16 + i) x) h17
  have hw off inb := ldW_mat arg5 harg5 h5 off inb
  have h31' : Mat v31 (fun i x => I.h b (T + 16 + i) x) := mat_of h31
  have h32' : Mat v32 (fun x l => I.win x (0 + l)) := (mat_of h32).congr (fun i l _ _ => by rw [Nat.zero_add])
  exact Agree.cons (Mat.agree (e := .f32) (a := 32) (b := 768) (n := 288) (m := 1024) (n' := 256) (m' := 256) (f := fun r c => I.uap b (T + r) c) (ua_mat (off := 768) (by omega) hh (hw _ _) hh (hw _ _))) (Agree.cons (Mat.agree (e := .f32) (a := 32) (b := 512) (n := 288) (m := 1024) (n' := 256) (m' := 256) (f := fun r c => I.uap b (T + r) c) (ua_mat (off := 512) (by omega) hh (hw _ _) hh (hw _ _)))
    (Agree.cons (Mat.agree (e := .f32) (a := 32) (b := 256) (n := 288) (m := 1024) (n' := 256) (m' := 256) (f := fun r c => I.uap b (T + r) c) (ua_mat (off := 256) (by omega) hh (hw _ _) hh (hw _ _))) (Agree.cons (Mat.agree (e := .f32) (a := 32) (b := 0) (n := 288) (m := 1024) (n' := 256) (m' := 256) (f := fun r c => I.uap b (T + r) c) (ua_mat (off := 0) (by omega) h31' h32' hh (hw _ _))) (Agree.nil _))))

theorem agree20 (h5 : ∀ y, x5 y = I.win (y 0).val (y 1).val) (h17 : ∀ y, x17 y = I.h b (T + 16 + (y 0).val) (y 1).val) :
    Agree (fun y : S264x1024.Idx => I.cx b (T + 8 + (y 0).val) (y 1).val) (P20 arg5 harg5 arg17 harg17 x5 x17) := by
  have hh := ld17_mat arg17 harg17 x17 (f := fun i x => I.h b (T + 16 + i) x) h17
  have hw off inb := ldW_mat arg5 harg5 h5 off inb
  exact Agree.cons (Mat.agree (e := .f32) (a := 8) (b := 768) (n := 264) (m := 1024) (n' := 256) (m' := 256) (f := fun r c => I.cx b (T + 8 + r) c) (cx_mat (off := 768) (by omega) (by omega) hh (hw _ _) hh (hw _ _))) (Agree.cons (Mat.agree (e := .f32) (a := 8) (b := 512) (n := 264) (m := 1024) (n' := 256) (m' := 256) (f := fun r c => I.cx b (T + 8 + r) c) (cx_mat (off := 512) (by omega) (by omega) hh (hw _ _) hh (hw _ _)))
    (Agree.cons (Mat.agree (e := .f32) (a := 8) (b := 256) (n := 264) (m := 1024) (n' := 256) (m' := 256) (f := fun r c => I.cx b (T + 8 + r) c) (cx_mat (off := 256) (by omega) (by omega) hh (hw _ _) hh (hw _ _))) (Agree.cons (Mat.agree (e := .f32) (a := 8) (b := 0) (n := 264) (m := 1024) (n' := 256) (m' := 256) (f := fun r c => I.cx b (T + 8 + r) c) (cx_mat (off := 0) (by omega) (by omega) hh (hw _ _) hh (hw _ _))) (Agree.nil _))))

theorem agree22 (h5 : ∀ y, x5 y = I.win (y 0).val (y 1).val) (h17 : ∀ y, x17 y = I.h b (T + 16 + (y 0).val) (y 1).val)
    {A19 : BufTy.Contents (Elt Ideal) arg19.view.ty} (h19 : ∀ y, arg19.view.read (Elt Ideal) A19 y = I.an b (T + (y 0).val) (y 1).val) :
    Agree (fun y : S256x1024.Idx => I.pa b (T + (y 0).val) (y 1).val) (P22 arg5 harg5 arg17 harg17 arg19 x5 x17 A19) := by
  have hh := ld17_mat arg17 harg17 x17 (f := fun i x => I.h b (T + 16 + i) x) h17
  have hw off inb := ldW_mat arg5 harg5 h5 off inb
  have ha (off : ℕ) (inb : ∀ a, (![0, off] : Fin 2 → ℕ) a + S256x256.size a ≤ S256x1024.size a) :
      Mat (n := 256) (m := 256) (View.readAt (Elt Ideal) arg19.view (Rect.unit (s := S256x1024) ![0, off] S256x256.size inb).toLoadRect A19)
        (fun i l => I.an b (T + i) (off + l)) := (ldMat' arg19 (f := fun i l => I.an b (T + i) l) h19 ![0, off] inb).congr (fun i l _ _ => by simp)
  exact Agree.cons (Mat.agree (e := .bf16) (a := 0) (b := 768) (n := 256) (m := 1024) (n' := 256) (m' := 256) (f := fun r c => I.pa b (T + r) c) (pa_mat (off := 768) (by omega) hh (hw _ _) (ha _ _))) (Agree.cons (Mat.agree (e := .bf16) (a := 0) (b := 512) (n := 256) (m := 1024) (n' := 256) (m' := 256) (f := fun r c => I.pa b (T + r) c) (pa_mat (off := 512) (by omega) hh (hw _ _) (ha _ _)))
    (Agree.cons (Mat.agree (e := .bf16) (a := 0) (b := 256) (n := 256) (m := 1024) (n' := 256) (m' := 256) (f := fun r c => I.pa b (T + r) c) (pa_mat (off := 256) (by omega) hh (hw _ _) (ha _ _))) (Agree.cons (Mat.agree (e := .bf16) (a := 0) (b := 0) (n := 256) (m := 1024) (n' := 256) (m' := 256) (f := fun r c => I.pa b (T + r) c) (pa_mat (off := 0) (by omega) hh (hw _ _) (ha _ _))) (Agree.nil _))))

theorem agree23 (h5 : ∀ y, x5 y = I.win (y 0).val (y 1).val) (h17 : ∀ y, x17 y = I.h b (T + 16 + (y 0).val) (y 1).val)
    {C0 C1 C2 C3 : Vec Ideal S256x256 .f32} (h0 : Mat C0 (fun i l => I.cvb b (T + i) (0 + l))) (h1 : Mat C1 (fun i l => I.cvb b (T + i) (256 + l)))
    (h2 : Mat C2 (fun i l => I.cvb b (T + i) (512 + l))) (h3 : Mat C3 (fun i l => I.cvb b (T + i) (768 + l))) :
    Agree (fun y : S256x1024.Idx => I.pb b (T + (y 0).val) (y 1).val) (P23 arg5 harg5 arg17 harg17 x5 x17 C0 C1 C2 C3) := by
  have hh := ld17_mat arg17 harg17 x17 (f := fun i x => I.h b (T + 16 + i) x) h17
  have hw off inb := ldW_mat arg5 harg5 h5 off inb
  exact Agree.cons (Mat.agree (e := .bf16) (a := 0) (b := 768) (n := 256) (m := 1024) (n' := 256) (m' := 256) (f := fun r c => I.pb b (T + r) c) (pb_mat (off := 768) (by omega) (by omega) hh (hw _ _) (hw _ _) h3)) (Agree.cons (Mat.agree (e := .bf16) (a := 0) (b := 512) (n := 256) (m := 1024) (n' := 256) (m' := 256) (f := fun r c => I.pb b (T + r) c) (pb_mat (off := 512) (by omega) (by omega) hh (hw _ _) (hw _ _) h2))
    (Agree.cons (Mat.agree (e := .bf16) (a := 0) (b := 256) (n := 256) (m := 1024) (n' := 256) (m' := 256) (f := fun r c => I.pb b (T + r) c) (pb_mat (off := 256) (by omega) (by omega) hh (hw _ _) (hw _ _) h1)) (Agree.cons (Mat.agree (e := .bf16) (a := 0) (b := 0) (n := 256) (m := 1024) (n' := 256) (m' := 256) (f := fun r c => I.pb b (T + r) c) (pb_mat (off := 0) (by omega) (by omega) hh (hw _ _) (hw _ _) h0)) (Agree.nil _))))

theorem agree24 (h5 : ∀ y, x5 y = I.win (y 0).val (y 1).val) (h17 : ∀ y, x17 y = I.h b (T + 16 + (y 0).val) (y 1).val)
    (h10 : ∀ y, x10 y = I.wao (y 0).val (y 1).val) (h11 : ∀ y, x11 y = I.bao (y 1).val) (h13 : ∀ y, x13 y = I.wbo (y 0).val (y 1).val)
    {a b' : Vec Ideal S256x1024 .bf16} (ha : Mat a (fun i x => I.pa b (T + i) x)) (hb : Mat b' (fun i x => I.pb b (T + i) x)) :
    Agree (fun y : S256x1024.Idx => I.m b (T + (y 0).val) (y 1).val) (P24 arg5 harg5 arg10 harg10 arg11 harg11 arg13 harg13 arg17 harg17 x5 x10 x11 x13 x17 a b') := by
  have hh := ld17_mat arg17 harg17 x17 (f := fun i x => I.h b (T + 16 + i) x) h17
  have hw off inb := ldW_mat arg5 harg5 h5 off inb
  have hv (off : ℕ) (inb : ∀ a, (![0, off] : Fin 2 → ℕ) a + S1x256.size a ≤ S1x1024.size a) :
      Mat (n := 1) (m := 256) (View.readAt (Elt Ideal) arg11.view (Rect.unit (s := S1x1024) ![0, off] S1x256.size inb).toLoadRect (harg11.unread x11))
        (fun _ l => I.bao (off + l)) := (ldMat arg11 harg11 (f := fun _ l => I.bao l) h11 ![0, off] inb).congr (fun i l _ _ => by simp)
  exact Agree.cons (Mat.agree (e := .bf16) (a := 0) (b := 768) (n := 256) (m := 1024) (n' := 256) (m' := 256) (f := fun r c => I.m b (T + r) c) (m_mat (off := 768) (by omega) (by omega) hh ha hb (ldW_mat arg10 harg10 h10 _ _) (hv _ _) (hw _ _) (ldW_mat arg13 harg13 h13 _ _) (hw _ _))) (Agree.cons (Mat.agree (e := .bf16) (a := 0) (b := 512) (n := 256) (m := 1024) (n' := 256) (m' := 256) (f := fun r c => I.m b (T + r) c) (m_mat (off := 512) (by omega) (by omega) hh ha hb (ldW_mat arg10 harg10 h10 _ _) (hv _ _) (hw _ _) (ldW_mat arg13 harg13 h13 _ _) (hw _ _)))
    (Agree.cons (Mat.agree (e := .bf16) (a := 0) (b := 256) (n := 256) (m := 1024) (n' := 256) (m' := 256) (f := fun r c => I.m b (T + r) c) (m_mat (off := 256) (by omega) (by omega) hh ha hb (ldW_mat arg10 harg10 h10 _ _) (hv _ _) (hw _ _) (ldW_mat arg13 harg13 h13 _ _) (hw _ _))) (Agree.cons (Mat.agree (e := .bf16) (a := 0) (b := 0) (n := 256) (m := 1024) (n' := 256) (m' := 256) (f := fun r c => I.m b (T + r) c) (m_mat (off := 0) (by omega) (by omega) hh ha hb (ldW_mat arg10 harg10 h10 _ _) (hv _ _) (hw _ _) (ldW_mat arg13 harg13 h13 _ _) (hw _ _))) (Agree.nil _))))

theorem agree16 (h2 : ∀ y, x2 y = I.x b (T + (y 1).val) (y 2).val) (h14 : ∀ y, x14 y = I.wo (y 0).val (y 1).val)
    {m : Vec Ideal S256x1024 .bf16} (hm : Mat m (fun i x => I.m b (T + i) x)) :
    Agree (fun y : S1x256x1024.Idx => I.res b (T + (y 1).val) (y 2).val) (P16 arg2 harg2 arg14 harg14 x2 x14 m) := by
  have hx (off : ℕ) (inb : ∀ a, (![0, 0, off] : Fin 3 → ℕ) a + S1x256x256.size a ≤ S1x256x1024.size a) (i l : Fin 256) :
      View.readAt (Elt Ideal) arg2.view (Rect.unit (s := S1x256x1024) ![0, 0, off] S1x256x256.size inb).toLoadRect (harg2.unread x2) (ix3 0 i l)
        = I.x b (T + i.val) (off + l.val) := by
    refine (congrFun (harg2.read_unread x2) _).trans ((h2 _).trans ?_)
    show I.x b (T + (0 + 1 * i.val)) (off + 1 * l.val) = _
    rw [Nat.one_mul, Nat.one_mul, Nat.zero_add]
  exact Agree.cons (out_piece (off := 768) (hx _ _) hm (ldW_mat arg14 harg14 h14 _ _)) (Agree.cons (out_piece (off := 512) (hx _ _) hm (ldW_mat arg14 harg14 h14 _ _))
    (Agree.cons (out_piece (off := 256) (hx _ _) hm (ldW_mat arg14 harg14 h14 _ _)) (Agree.cons (out_piece (off := 0) (hx _ _) hm (ldW_mat arg14 harg14 h14 _ _)) (Agree.nil _))))

theorem covers16 (m : Vec Ideal S256x1024 .bf16) (y : S1x256x1024.Idx) : Covers (P16 arg2 harg2 arg14 harg14 x2 x14 m) y := by
  have hl : (y 2).val < 1024 := (y 2).isLt
  have h0 : (y 0).val = 0 := by have : (y 0).val < 1 := (y 0).isLt; omega
  have h1 : (y 1).val < 256 := (y 1).isLt
  have key (off : ℕ) (inb : ∀ a, (![0, 0, off] : Fin 3 → ℕ) a + S1x256x256.size a ≤ S1x256x1024.size a) (h : off ≤ (y 2).val) (h' : (y 2).val < off + 256) :
      y ∈ (Rect.unit (s := S1x256x1024) ![0, 0, off] S1x256x256.size inb).set := by
    rw [Rect.mem_set_unit]
    intro a
    fin_cases a
    · exact ⟨Nat.zero_le _, by show (y 0).val < 0 + 1; omega⟩
    · exact ⟨Nat.zero_le _, by show (y 1).val < 0 + 256; omega⟩
    · exact ⟨h, h'⟩
  by_cases h3 : 768 ≤ (y 2).val
  · exact Covers.head (key _ _ h3 (by omega))
  by_cases h2 : 512 ≤ (y 2).val
  · exact (Covers.head (key _ _ h2 (by omega))).tail
  by_cases h1 : 256 ≤ (y 2).val
  · exact (Covers.head (key _ _ h1 (by omega))).tail.tail
  · exact (Covers.head (key _ _ (Nat.zero_le _) (by omega))).tail.tail.tail

/-- What the padded rows read, on the blocks stored so far. -/
theorem reads18_of {L : List (View.Piece (Elt Ideal) S288x1024 .f32)} (hL : Agree (fun y : S288x1024.Idx => I.uap b (T + (y 0).val) (y 1).val) L)
    (h18 : ∀ y, (y 0).val < 32 → x18 y = I.uap b (T + (y 0).val) (y 1).val) (ℓ : ℕ)
    (hc : ∀ y : S288x1024.Idx, 32 ≤ (y 0).val → ℓ ≤ (y 1).val → (y 1).val < ℓ + 128 → Covers L y) :
    Reads18 arg18 (arg18.view.writes (Elt Ideal) (harg18.unread x18) L) (fun r => I.uap b (T + r)) ℓ := by
  intro y h h'
  refine read_agree _ _ hL y ?_
  by_cases h0 : (y 0).val < 32
  · exact .inr ((congrFun (harg18.read_unread x18) y).trans (h18 y h0))
  · exact .inl (hc y (by omega) h h')

theorem reads20_of {L : List (View.Piece (Elt Ideal) S264x1024 .f32)} (hL : Agree (fun y : S264x1024.Idx => I.cx b (T + 8 + (y 0).val) (y 1).val) L)
    (h20 : ∀ y, (y 0).val < 8 → x20 y = I.cx b (T + 8 + (y 0).val) (y 1).val) (ℓ : ℕ)
    (hc : ∀ y : S264x1024.Idx, 8 ≤ (y 0).val → ℓ ≤ (y 1).val → (y 1).val < ℓ + 128 → Covers L y) :
    Reads20 arg20 (arg20.view.writes (Elt Ideal) (harg20.unread x20) L) (fun r => I.cx b (T + 8 + r)) ℓ := by
  intro y h h'
  refine read_agree _ _ hL y ?_
  by_cases h0 : (y 0).val < 8
  · exact .inr ((congrFun (harg20.read_unread x20) y).trans (h20 y h0))
  · exact .inl (hc y (by omega) h h')

theorem init18 (h18 : ∀ y, (y 0).val < 32 → x18 y = I.uap b (T + (y 0).val) (y 1).val) (h6 : ∀ y, x6 y = I.wa (y 0).val (y 2).val) (ℓ : ℕ) (hℓ : ℓ + 128 ≤ 1024)
    (inb : ∀ (B : Fin 4) a, (![8 * B.val, ℓ] : Fin 2 → ℕ) a + S8x128.size a ≤ S288x1024.size a) :
    RolledAt I.wa (fun r => I.uap b (T + r)) ℓ 24
      (convRes (F := Ideal) (rowsOf arg18 (harg18.unread x18) ![24, ℓ] (inb 3)) (rowsOf arg18 (harg18.unread x18) ![16, ℓ] (inb 2))
        (rowsOf arg18 (harg18.unread x18) ![8, ℓ] (inb 1)) (rowsOf arg18 (harg18.unread x18) ![0, ℓ] (inb 0)) (tapsOf arg6 (harg6.unread x6) ℓ hℓ)) := by
  have g (B : ℕ) (hB : B + 8 ≤ 32) (inb : ∀ a, (![B, ℓ] : Fin 2 → ℕ) a + S8x128.size a ≤ S288x1024.size a) :
      GroupAt (fun r => I.uap b (T + r)) ℓ B (rowsOf arg18 (harg18.unread x18) ![B, ℓ] inb) := by
    intro i l
    refine (congrFun (harg18.read_unread x18) _).trans ((h18 _ ?_).trans ?_)
    · show B + 1 * i.val < 32; omega
    · show I.uap b (T + (B + 1 * i.val)) (ℓ + 1 * l.val) = _; rw [Nat.one_mul, Nat.one_mul]
  exact convRes_at (B := 0) (g 24 (by omega) _) (g 16 (by omega) _) (g 8 (by omega) _) (g 0 (by omega) _)
    (tapsOf_at (fun y => (congrFun (harg6.read_unread x6) y).trans (h6 y)) ℓ hℓ)

theorem init20 (h20 : ∀ y, (y 0).val < 8 → x20 y = I.cx b (T + 8 + (y 0).val) (y 1).val) (h12 : ∀ y, x12 y = I.wb (y 0).val (y 2).val) (ℓ : ℕ) (hℓ : ℓ + 128 ≤ 1024)
    (inb : ∀ a, (![0, ℓ] : Fin 2 → ℕ) a + S8x128.size a ≤ S264x1024.size a) :
    RolledBAt I.wb (fun r => I.cx b (T + 8 + r)) ℓ 0
      (k0_pay259 (rowsBOf arg20 (harg20.unread x20) ![0, ℓ] inb) (tapsBOf arg12 (harg12.unread x12) ℓ hℓ 1),
       k0_pay260 (rowsBOf arg20 (harg20.unread x20) ![0, ℓ] inb) (tapsBOf arg12 (harg12.unread x12) ℓ hℓ 0)) := by
  refine rolledB_at (fun i l => ?_) (tapsBOf_at (fun y => (congrFun (harg12.read_unread x12) y).trans (h12 y)) ℓ hℓ)
  refine (congrFun (harg20.read_unread x20) _).trans ((h20 _ ?_).trans ?_)
  · show 0 + 1 * i.val < 8; omega
  · show I.cx b (T + 8 + (0 + 1 * i.val)) (ℓ + 1 * l.val) = _; rw [Nat.one_mul, Nat.one_mul]

end Comp

end Cert.KernelIdeal.Hand
-- ==== Proof.KI.V.Head.lean ====
/- What the body's first part leaves, in its three cases -/
module

public import proofs.«01_k».proof.Proof.KI.V.Blocks
public import proofs.«01_k».proof.Proof.KI.Head
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem In.s_real (I : In) (b P c : ℕ) : I.s b (P + 16) c = I.x b P c := by
  rw [In.s, if_neg (by omega), Nat.add_sub_cancel]

theorem In.s_meta (I : In) (b b' P c : ℕ) (h : P < 16) : I.s b P c = I.s b' P c := by
  rw [In.s, In.s, if_pos h, if_pos h]

theorem In.proj_meta (I : In) (b b' P e : ℕ) (h : P < 16) : I.proj b P e = I.proj b' P e := by
  unfold In.proj In.h
  rw [show I.s b P = I.s b' P from funext fun c => I.s_meta b b' P c h]

theorem In.uap_meta (I : In) (b b' P c : ℕ) (h : P < 32) : I.uap b P c = I.uap b' P c := by
  unfold In.uap In.ua
  split
  · rfl
  · rw [I.proj_meta b b' _ _ (by omega), I.proj_meta b b' _ _ (by omega)]

theorem In.cx_meta (I : In) (b b' P c : ℕ) (h : P < 16) : I.cx b P c = I.cx b' P c := by
  unfold In.cx
  rw [I.proj_meta b b' _ _ h, I.proj_meta b b' _ _ h]

theorem pay_h {v : Vec Ideal S1x256x1024 .f32} {g : Vec Ideal S1x1024 .f32} {A : ℕ → ℕ → EReal} {G : ℕ → EReal}
    (hx : ∀ (i : Fin 256) (l : Fin 1024), v (ix3 0 i l) = A i.val l.val) (hg : Mat (n := 1) (m := 1024) g (fun _ l => G l)) :
    Mat (n := 256) (m := 1024) (k0_pay85 v g) (fun i l => rms (A i) G l) := by
  intro i l
  pointwise [k0_pay85]
  simp only [hx _ _, hg _ _]
  rfl

theorem pay_hm {v : Vec Ideal S16x1024 .f32} {g : Vec Ideal S1x1024 .f32} {A : ℕ → ℕ → EReal} {G : ℕ → EReal}
    (hx : Mat (n := 16) (m := 1024) v A) (hg : Mat (n := 1) (m := 1024) g (fun _ l => G l)) :
    Mat (n := 16) (m := 1024) (k0_pay4 v g) (fun i l => rms (A i) G l) := by
  intro i l
  pointwise [k0_pay4]
  simp only [hx _ _, hg _ _]
  rfl

theorem pay_um {v : Vec Ideal S16x1024 .f32} {g : Vec Ideal S1x1024 .f32} {w w' : Vec Ideal S1024x1024 .bf16} {H W W' : ℕ → ℕ → EReal}
    (h0 : Mat (n := 16) (m := 1024) (k0_pay4 v g) H) (h1 : Mat (n := 1024) (m := 1024) w W) (h2 : Mat (n := 1024) (m := 1024) w' W') :
    Mat (n := 16) (m := 1024) (k0_pay6 v g w w') (fun i l => mm H W i l * sg (mm H W' i l)) := by
  intro i l
  pointwise [k0_pay6]
  simp only [h0 _ _, h1 _ _, h2 _ _]
  rfl

theorem pay_cm {h : Vec Ideal S16x1024 .bf16} {w w' : Vec Ideal S1024x1024 .bf16} {H W W' : ℕ → ℕ → EReal}
    (h0 : Mat (n := 16) (m := 1024) h H) (h1 : Mat (n := 1024) (m := 1024) w W) (h2 : Mat (n := 1024) (m := 1024) w' W') :
    Mat (n := 8) (m := 1024) (k0_pay80 h w w') (fun i l => mm H W (8 + i) l * mm H W' (8 + i) l) := by
  intro i l
  pointwise [k0_pay80]
  simp only [h0 _ _, h1 _ _, h2 _ _]
  rfl

theorem pay_zero : Mat (n := 16) (m := 1024) (k0_pay5 (F := Ideal)) (fun _ _ => (0 : EReal)) := by
  intro i l
  pointwise [k0_pay5]

theorem pay_81 {v : Vec Ideal S32x1024 .f32} {A : ℕ → ℕ → EReal} (h : Mat (n := 32) (m := 1024) v A) : Mat (n := 32) (m := 1024) (k0_pay81 v) A := by
  intro i l
  pointwise [k0_pay81]
  exact h i l

theorem pay_82 {v : Vec Ideal S8x1024 .f32} {A : ℕ → ℕ → EReal} (h : Mat (n := 8) (m := 1024) v A) : Mat (n := 8) (m := 1024) (k0_pay82 v) A := by
  intro i l
  pointwise [k0_pay82]
  exact h i l

section Comp
variable (c : Dev nD) (i : grid0.Coords)
  (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
  (x2 : Vec Ideal S1x256x1024 .f32) (x3 : Vec Ideal S16x1024 .f32) (x4 : Vec Ideal S1x1024 .f32) (x5 : Vec Ideal S1024x9216 .bf16) (x6 : Vec Ideal S31x8x1024 .f32) (x7 : Vec Ideal S8x1024 .f32) (x8 : Vec Ideal S1x1024 .f32) (x9 : Vec Ideal S1x1024 .f32) (x10 : Vec Ideal S1024x1024 .bf16) (x11 : Vec Ideal S1x1024 .f32) (x12 : Vec Ideal S3x8x1024 .f32) (x13 : Vec Ideal S1024x1024 .bf16) (x14 : Vec Ideal S1024x1024 .bf16) (x15 : Vec Ideal S1x1024 .f32) (x16 : Vec Ideal S1x256x1024 .f32) (x17 : Vec Ideal S256x1024 .bf16) (x18 : Vec Ideal S288x1024 .f32) (x19 : Vec Ideal S256x1024 .f32) (x20 : Vec Ideal S264x1024 .f32) (x21 : Vec Ideal S256x256 .f32) (x22 : Vec Ideal S256x1024 .bf16) (x23 : Vec Ideal S256x1024 .bf16) (x24 : Vec Ideal S256x1024 .bf16) (x25 : Vec Ideal S32x1024 .f32) (x26 : Vec Ideal S8x1024 .f32)
/-- The normed rows' one piece. -/
def P17 : List (View.Piece (Elt Ideal) S256x1024 .bf16) :=
  [⟨(Rect.unit (s := S256x1024) ![0, 0] S256x1024.size inb_S256x1024_S256x1024_0_0), k0_pay85 (View.readAt (Elt Ideal) arg2.view (Rect.unit (s := S1x256x1024) ![0, 0, 0] S1x256x1024.size inb_S1x256x1024_S1x256x1024_0_0_0).toLoadRect (harg2.unread x2))
    (View.readAt (Elt Ideal) arg4.view (Rect.unit (s := S1x1024) ![0, 0] S1x1024.size inb_S1x1024_S1x1024_0_0).toLoadRect (harg4.unread x4))⟩]

/-- The meta rows' gated unit, with the zeros before it. -/
def P25 : List (View.Piece (Elt Ideal) S32x1024 .f32) :=
  [⟨Rect.unit (s := S32x1024) ![16, 0] S16x1024.size inb_S32x1024_S16x1024_16_0,
    k0_pay6 (View.readAt (Elt Ideal) arg3.view (Rect.unit (s := S16x1024) ![0, 0] S16x1024.size inb_S16x1024_S16x1024_0_0).toLoadRect (harg3.unread x3))
      (View.readAt (Elt Ideal) arg4.view (Rect.unit (s := S1x1024) ![0, 0] S1x1024.size inb_S1x1024_S1x1024_0_0).toLoadRect (harg4.unread x4))
      (View.readAt (Elt Ideal) arg5.view (Rect.unit (s := S1024x9216) ![0, 0] S1024x1024.size inb_S1024x9216_S1024x1024_0_0).toLoadRect (harg5.unread x5))
      (View.readAt (Elt Ideal) arg5.view (Rect.unit (s := S1024x9216) ![0, 1024] S1024x1024.size inb_S1024x9216_S1024x1024_0_1024).toLoadRect (harg5.unread x5))⟩,
   ⟨Rect.unit (s := S32x1024) ![0, 0] S16x1024.size inb_S32x1024_S16x1024_0_0, k0_pay5 (F := Ideal)⟩]

/-- The meta rows' second product. -/
def P26 : List (View.Piece (Elt Ideal) S8x1024 .f32) :=
  [⟨Rect.unit (s := S8x1024) ![0, 0] S8x1024.size inb_S8x1024_S8x1024_0_0,
    k0_pay80 (k0_pay4 (View.readAt (Elt Ideal) arg3.view (Rect.unit (s := S16x1024) ![0, 0] S16x1024.size inb_S16x1024_S16x1024_0_0).toLoadRect (harg3.unread x3))
      (View.readAt (Elt Ideal) arg4.view (Rect.unit (s := S1x1024) ![0, 0] S1x1024.size inb_S1x1024_S1x1024_0_0).toLoadRect (harg4.unread x4)))
      (View.readAt (Elt Ideal) arg5.view (Rect.unit (s := S1024x9216) ![0, 4096] S1024x1024.size inb_S1024x9216_S1024x1024_0_4096).toLoadRect (harg5.unread x5))
      (View.readAt (Elt Ideal) arg5.view (Rect.unit (s := S1024x9216) ![0, 5120] S1024x1024.size inb_S1024x9216_S1024x1024_0_5120).toLoadRect (harg5.unread x5))⟩]

variable {I : In} {b T : ℕ} (h4 : ∀ y, x4 y = I.ng (y 1).val) (h5 : ∀ y, x5 y = I.win (y 0).val (y 1).val)

include h4 in
theorem agree17 (h2 : ∀ y, x2 y = I.x b (T + (y 1).val) (y 2).val) :
    Agree (fun y : S256x1024.Idx => I.h b (T + 16 + (y 0).val) (y 1).val) (P17 arg2 harg2 arg4 harg4 x2 x4) := by
  have hg : Mat (n := 1) (m := 1024) (View.readAt (Elt Ideal) arg4.view (Rect.unit (s := S1x1024) ![0, 0] S1x1024.size inb_S1x1024_S1x1024_0_0).toLoadRect (harg4.unread x4))
      (fun _ l => I.ng l) := (ldMat arg4 harg4 (f := fun _ l => I.ng l) h4 ![0, 0] inb_S1x1024_S1x1024_0_0).congr (fun i l _ _ => by simp)
  have hx (i : Fin 256) (l : Fin 1024) : View.readAt (Elt Ideal) arg2.view (Rect.unit (s := S1x256x1024) ![0, 0, 0] S1x256x1024.size inb_S1x256x1024_S1x256x1024_0_0_0).toLoadRect (harg2.unread x2)
      (ix3 0 i l) = I.s b (T + 16 + i.val) l.val := by
    refine (congrFun (harg2.read_unread x2) _).trans ((h2 _).trans ?_)
    show I.x b (T + (0 + 1 * i.val)) (0 + 1 * l.val) = _
    rw [Nat.one_mul, Nat.one_mul, Nat.zero_add, Nat.zero_add, show T + 16 + i.val = T + i.val + 16 by omega, In.s_real]
  exact Agree.cons (Mat.agree (e := .bf16) (a := 0) (b := 0) (n := 256) (m := 1024) (n' := 256) (m' := 1024) (f := fun r c => I.h b (T + 16 + r) c)
    ((pay_h hx hg).congr fun i l _ _ => by rw [Nat.zero_add, Nat.zero_add]; rfl)) (Agree.nil _)

theorem covers17 (y : S256x1024.Idx) : Covers (P17 arg2 harg2 arg4 harg4 x2 x4) y :=
  Covers.head (mem_unit2 (Nat.zero_le _) (by have : (y 0).val < 256 := (y 0).isLt; show _ < 0 + 256; omega) (Nat.zero_le _)
    (by have : (y 1).val < 1024 := (y 1).isLt; show _ < 0 + 1024; omega))

include h4 h5 in
theorem agree25 (h3 : ∀ y, x3 y = I.mt (y 0).val (y 1).val) (b : ℕ) :
    Agree (fun y : S32x1024.Idx => I.uap b (y 0).val (y 1).val) (P25 arg3 harg3 arg4 harg4 arg5 harg5 x3 x4 x5)
    ∧ Agree (fun y : S8x1024.Idx => I.cx b (8 + (y 0).val) (y 1).val) (P26 arg3 harg3 arg4 harg4 arg5 harg5 x3 x4 x5) := by
  have hg : Mat (n := 1) (m := 1024) (View.readAt (Elt Ideal) arg4.view (Rect.unit (s := S1x1024) ![0, 0] S1x1024.size inb_S1x1024_S1x1024_0_0).toLoadRect (harg4.unread x4))
      (fun _ l => I.ng l) := (ldMat arg4 harg4 (f := fun _ l => I.ng l) h4 ![0, 0] inb_S1x1024_S1x1024_0_0).congr (fun i l _ _ => by simp)
  have hx : Mat (n := 16) (m := 1024) (View.readAt (Elt Ideal) arg3.view (Rect.unit (s := S16x1024) ![0, 0] S16x1024.size inb_S16x1024_S16x1024_0_0).toLoadRect (harg3.unread x3))
      (fun i l => I.s b i l) := (ldMat arg3 harg3 (f := fun i l => I.mt i l) h3 ![0, 0] inb_S16x1024_S16x1024_0_0).congr (fun i l hi _ => by simp [In.s, hi])
  have hh := pay_hm hx hg
  have hw (off : ℕ) (inb : ∀ a, (![0, off] : Fin 2 → ℕ) a + S1024x1024.size a ≤ S1024x9216.size a) :
      Mat (n := 1024) (m := 1024) (View.readAt (Elt Ideal) arg5.view (Rect.unit (s := S1024x9216) ![0, off] S1024x1024.size inb).toLoadRect (harg5.unread x5))
        (fun x l => I.win x (off + l)) := (ldMat arg5 harg5 (f := fun x l => I.win x l) h5 ![0, off] inb).congr (fun i l _ _ => by simp)
  refine ⟨Agree.cons (Mat.agree (e := .f32) (a := 16) (b := 0) (n := 32) (m := 1024) (n' := 16) (m' := 1024) (f := fun r c => I.uap b r c)
      ((pay_um hh (hw _ _) (hw _ _)).congr fun i l _ _ => ?_))
    (Agree.cons (Mat.agree (e := .f32) (a := 0) (b := 0) (n := 32) (m := 1024) (n' := 16) (m' := 1024) (f := fun r c => I.uap b r c)
      (pay_zero.congr fun i l hi _ => ?_)) (Agree.nil _)),
    Agree.cons (Mat.agree (e := .f32) (a := 0) (b := 0) (n := 8) (m := 1024) (n' := 8) (m' := 1024) (f := fun r c => I.cx b (8 + r) c)
      ((pay_cm hh (hw _ _) (hw _ _)).congr fun i l _ _ => ?_)) (Agree.nil _)⟩
  · rw [In.uap, if_neg (by omega), show 16 + i - 16 = i by omega, Nat.zero_add]
    simp only [Nat.zero_add]
    rfl
  · rw [In.uap, if_pos (by omega)]
  · rw [Nat.zero_add, Nat.zero_add]
    rfl

theorem covers25 (y : S32x1024.Idx) : Covers (P25 arg3 harg3 arg4 harg4 arg5 harg5 x3 x4 x5) y := by
  have h1 : (y 1).val < 1024 := (y 1).isLt
  have h0 : (y 0).val < 32 := (y 0).isLt
  by_cases h : 16 ≤ (y 0).val
  · exact Covers.head (mem_unit2 h (by show _ < 16 + 16; omega) (Nat.zero_le _) (by show _ < 0 + 1024; omega))
  · exact (Covers.head (mem_unit2 (Nat.zero_le _) (by show _ < 0 + 16; omega) (Nat.zero_le _) (by show _ < 0 + 1024; omega))).tail

theorem covers26 (y : S8x1024.Idx) : Covers (P26 arg3 harg3 arg4 harg4 arg5 harg5 x3 x4 x5) y :=
  Covers.head (mem_unit2 (Nat.zero_le _) (by have : (y 0).val < 8 := (y 0).isLt; show _ < 0 + 8; omega) (Nat.zero_le _)
    (by have : (y 1).val < 1024 := (y 1).isLt; show _ < 0 + 1024; omega))

/-- A tile from its parts: the rows the filters look back to stored first in their buffers. -/
theorem tile_of {i18 : ∀ a, (![0, 0] : Fin 2 → ℕ) a + S32x1024.size a ≤ S288x1024.size a} {i20 : ∀ a, (![0, 0] : Fin 2 → ℕ) a + S8x1024.size a ≤ S264x1024.size a}
    {p18 : Vec Ideal S32x1024 .f32} {p20 : Vec Ideal S8x1024 .f32} (h4 : ∀ y, x4 y = I.ng (y 1).val) (h5 : ∀ y, x5 y = I.win (y 0).val (y 1).val)
    (h2 : ∀ y, x2 y = I.x b (T + (y 1).val) (y 2).val) (h18 : Mat (n := 32) (m := 1024) p18 (fun r q => I.uap b (T + r) q))
    (h20 : Mat (n := 8) (m := 1024) p20 (fun r q => I.cx b (T + 8 + r) q)) :
    TileAt I b T x2 (arg17.view.read (Elt Ideal) (arg17.view.writes (Elt Ideal) (harg17.unread x17) (P17 arg2 harg2 arg4 harg4 x2 x4)))
      (arg18.view.read (Elt Ideal) (arg18.view.writes (Elt Ideal) (harg18.unread x18) [⟨Rect.unit (s := S288x1024) ![0, 0] S32x1024.size i18, p18⟩]))
      (arg20.view.read (Elt Ideal) (arg20.view.writes (Elt Ideal) (harg20.unread x20) [⟨Rect.unit (s := S264x1024) ![0, 0] S8x1024.size i20, p20⟩]))
      (arg17.view.readCov (P17 arg2 harg2 arg4 harg4 x2 x4) (Rect.unit (s := S256x1024) ![0, 0] S256x1024.size inb_S256x1024_S256x1024_0_0).toLoadRect)
      (View.readAt (Elt Ideal) arg5.view (Rect.unit (s := S1024x9216) ![0, 0] S1024x256.size inb_S1024x9216_S1024x256_0_0).toLoadRect (harg5.unread x5)) := by
  have a17 := agree17 arg2 harg2 arg4 harg4 x2 x4 h4 h2
  have c17 := covers17 arg2 harg2 arg4 harg4 x2 x4
  have a18 : Agree (fun y : S288x1024.Idx => I.uap b (T + (y 0).val) (y 1).val) [⟨Rect.unit (s := S288x1024) ![0, 0] S32x1024.size i18, p18⟩] :=
    Agree.cons (Mat.agree (e := .f32) (a := 0) (b := 0) (n := 288) (m := 1024) (n' := 32) (m' := 1024) (f := fun r c => I.uap b (T + r) c)
      (h18.congr fun i l _ _ => by rw [Nat.zero_add, Nat.zero_add])) (Agree.nil _)
  have a20 : Agree (fun y : S264x1024.Idx => I.cx b (T + 8 + (y 0).val) (y 1).val) [⟨Rect.unit (s := S264x1024) ![0, 0] S8x1024.size i20, p20⟩] :=
    Agree.cons (Mat.agree (e := .f32) (a := 0) (b := 0) (n := 264) (m := 1024) (n' := 8) (m' := 1024) (f := fun r c => I.cx b (T + 8 + r) c)
      (h20.congr fun i l _ _ => by rw [Nat.zero_add, Nat.zero_add])) (Agree.nil _)
  refine ⟨h2, fun y => read_agree arg17.view _ a17 y (.inl (c17 y)), fun y => ?_, fun y => ?_,
    fun y h => read_agree arg18.view _ a18 y (.inl (Covers.head (mem_unit2 (Nat.zero_le _) (by show _ < 0 + 32; omega) (Nat.zero_le _)
      (by have : (y 1).val < 1024 := (y 1).isLt; show _ < 0 + 1024; omega)))),
    fun y h => read_agree arg20.view _ a20 y (.inl (Covers.head (mem_unit2 (Nat.zero_le _) (by show _ < 0 + 8; omega) (Nat.zero_le _)
      (by have : (y 1).val < 1024 := (y 1).isLt; show _ < 0 + 1024; omega))))⟩
  · obtain ⟨i, l, rfl⟩ : ∃ (i : Fin 256) (l : Fin 1024), y = ix2 i l := ⟨y 0, y 1, eq_ix2 y⟩
    exact covMat (f := fun r x => I.h b (T + 16 + r) x) arg17 a17 c17 inb_S256x1024_S256x1024_0_0 i l
  · obtain ⟨i, l, rfl⟩ : ∃ (i : Fin 1024) (l : Fin 256), y = ix2 i l := ⟨y 0, y 1, eq_ix2 y⟩
    refine (ldMat arg5 harg5 (f := fun x l => I.win x l) h5 ![0, 0] inb_S1024x9216_S1024x256_0_0 i l).trans ?_
    simp

include h4 h5 in
theorem tileB {hc0 : ¬cond0 i} {hc1 : ¬cond1 i} {hc2 : cond2 i} (h2 : ∀ y, x2 y = I.x b (T + (y 1).val) (y 2).val) {T' : ℕ} (hT : T = T' + 256)
    (h18 : ∀ y, x18 y = I.uap b (T' + (y 0).val) (y 1).val) (h20 : ∀ y, x20 y = I.cx b (T' + 8 + (y 0).val) (y 1).val) :
    TileAt I b T x2 (arg17.view.read (Elt Ideal) (arg17.view.writes (Elt Ideal) (harg17.unread x17) (headB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.1))
      (arg18.view.read (Elt Ideal) (arg18.view.writes (Elt Ideal) (harg18.unread x18) (headB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.1))
      (arg20.view.read (Elt Ideal) (arg20.view.writes (Elt Ideal) (harg20.unread x20) (headB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.1))
      (headB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).1.1 (headB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).1.2 :=
  tile_of arg2 harg2 arg4 harg4 arg5 harg5 arg17 harg17 arg18 harg18 arg20 harg20 x2 x4 x5 x17 x18 x20 h4 h5 h2
    (pay_81 ((ldMat arg18 harg18 (f := fun r q => I.uap b (T' + r) q) h18 ![256, 0] inb_S288x1024_S32x1024_256_0).congr (fun i l _ _ => by
      simp [hT, Nat.add_assoc])))
    (pay_82 ((ldMat arg20 harg20 (f := fun r q => I.cx b (T' + 8 + r) q) h20 ![256, 0] inb_S264x1024_S8x1024_256_0).congr (fun i l _ _ => by
      rw [hT]; show I.cx b (T' + 8 + (256 + i)) (0 + l) = _; rw [Nat.zero_add]; congr 1; omega)))

include h4 h5 in
theorem tileC {hc0 : ¬cond0 i} {hc1 : cond1 i} {hc2 : ¬cond2 i} (h2 : ∀ y, x2 y = I.x b (T + (y 1).val) (y 2).val) (hT : T = 0)
    (h25 : ∀ y, x25 y = I.uap 0 (y 0).val (y 1).val) (h26 : ∀ y, x26 y = I.cx 0 (8 + (y 0).val) (y 1).val) :
    TileAt I b T x2 (arg17.view.read (Elt Ideal) (arg17.view.writes (Elt Ideal) (harg17.unread x17) (headC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.1))
      (arg18.view.read (Elt Ideal) (arg18.view.writes (Elt Ideal) (harg18.unread x18) (headC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.1))
      (arg20.view.read (Elt Ideal) (arg20.view.writes (Elt Ideal) (harg20.unread x20) (headC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.1))
      (headC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).1.1 (headC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).1.2 :=
  tile_of arg2 harg2 arg4 harg4 arg5 harg5 arg17 harg17 arg18 harg18 arg20 harg20 x2 x4 x5 x17 x18 x20 h4 h5 h2
    (pay_81 ((ldMat arg25 harg25 (f := fun r q => I.uap 0 r q) h25 ![0, 0] inb_S32x1024_S32x1024_0_0).congr (fun i l hi _ => by
      rw [hT]; simp only [Nat.zero_add]; show I.uap 0 (0 + i) (0 + l) = _; rw [Nat.zero_add, Nat.zero_add]; exact I.uap_meta _ _ _ _ hi)))
    (pay_82 ((ldMat arg26 harg26 (f := fun r q => I.cx 0 (8 + r) q) h26 ![0, 0] inb_S8x1024_S8x1024_0_0).congr (fun i l hi _ => by
      rw [hT]; simp only [Nat.zero_add]; show I.cx 0 (8 + (0 + i)) (0 + l) = _; rw [Nat.zero_add, Nat.zero_add]; exact I.cx_meta _ _ _ _ (by omega))))

include h4 h5 in
theorem tileA {hc0 : cond0 i} {hc1 : cond1 i} {hc2 : ¬cond2 i} (h2 : ∀ y, x2 y = I.x b (T + (y 1).val) (y 2).val) (hT : T = 0) (h3 : ∀ y, x3 y = I.mt (y 0).val (y 1).val) :
    TileAt I b T x2 (arg17.view.read (Elt Ideal) (arg17.view.writes (Elt Ideal) (harg17.unread x17) (headA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.1))
      (arg18.view.read (Elt Ideal) (arg18.view.writes (Elt Ideal) (harg18.unread x18) (headA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.1))
      (arg20.view.read (Elt Ideal) (arg20.view.writes (Elt Ideal) (harg20.unread x20) (headA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.1))
      (headA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).1.1 (headA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).1.2 := by
  have ha := agree25 arg3 harg3 arg4 harg4 arg5 harg5 x3 x4 x5 h4 h5 h3 b
  exact tile_of arg2 harg2 arg4 harg4 arg5 harg5 arg17 harg17 arg18 harg18 arg20 harg20 x2 x4 x5 x17 x18 x20 h4 h5 h2
    (pay_81 ((covMat (f := fun r q => I.uap b r q) arg25 ha.1 (covers25 arg3 harg3 arg4 harg4 arg5 harg5 x3 x4 x5) inb_S32x1024_S32x1024_0_0).congr (fun i l hi _ => by
      rw [hT, Nat.zero_add])))
    (pay_82 ((covMat (f := fun r q => I.cx b (8 + r) q) arg26 ha.2 (covers26 arg3 harg3 arg4 harg4 arg5 harg5 x3 x4 x5) inb_S8x1024_S8x1024_0_0).congr (fun i l hi _ => by
      rw [hT, Nat.zero_add])))

include h4 h5 in
theorem metaA {hc0 : cond0 i} {hc1 : cond1 i} {hc2 : ¬cond2 i} (h3 : ∀ y, x3 y = I.mt (y 0).val (y 1).val) :
    (∀ y, arg25.view.read (Elt Ideal) (arg25.view.writes (Elt Ideal) (harg25.unread x25) (headA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2.1) y = I.uap 0 (y 0).val (y 1).val)
    ∧ ∀ y, arg26.view.read (Elt Ideal) (arg26.view.writes (Elt Ideal) (harg26.unread x26) (headA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2.2.1) y = I.cx 0 (8 + (y 0).val) (y 1).val :=
  have ha := agree25 arg3 harg3 arg4 harg4 arg5 harg5 x3 x4 x5 h4 h5 h3 0
  ⟨fun y => read_agree arg25.view _ ha.1 y (.inl (covers25 arg3 harg3 arg4 harg4 arg5 harg5 x3 x4 x5 y)),
   fun y => read_agree arg26.view _ ha.2 y (.inl (covers26 arg3 harg3 arg4 harg4 arg5 harg5 x3 x4 x5 y))⟩

end Comp

end Cert.KernelIdeal.Hand
-- ==== Proof.KI.V.Rest.lean ====
/- What the body leaves after its first part -/
module

public import proofs.«01_k».proof.Proof.KI.V.Blocks
public import proofs.«01_k».proof.Proof.KI.Rest
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Blocks of columns cover the columns up to theirs. -/
theorem cov_block {n r : ℕ} {e : EltTy} {L : List (View.Piece (Elt Ideal) ⟨2, ![n, 1024]⟩ e)} {ℓ off : ℕ}
    {inb : ∀ a, (![r, off] : Fin 2 → ℕ) a + S256x256.size a ≤ (⟨2, ![n, 1024]⟩ : Shape).size a} {w : S256x256.Idx → Elt Ideal e}
    (hn : n = r + 256) (hl : off ≤ ℓ) (hu : ℓ + 128 ≤ off + 256)
    (y : (⟨2, ![n, 1024]⟩ : Shape).Idx) (h : r ≤ (y 0).val) (h1 : ℓ ≤ (y 1).val) (h2 : (y 1).val < ℓ + 128) :
    Covers (⟨Rect.unit (s := ⟨2, ![n, 1024]⟩) ![r, off] S256x256.size inb, w⟩ :: L) y :=
  Covers.head (mem_unit2 h (by have : (y 0).val < n := (y 0).isLt; show (y 0).val < r + 256; omega) (by show off ≤ (y 1).val; omega) (by show (y 1).val < off + 256; omega))

theorem joinB0 (arg21 : Memref sig .tc .vmem S256x256 .f32) (X : BufTy.Contents (Elt Ideal) arg21.view.ty) {w V : ℕ → ℕ → EReal} {base : ℕ}
    {La Lb : List (View.Piece (Elt Ideal) S256x256 .f32)} (hb : LoopB w V base 128 Lb) (ha : LoopB w V base 0 La)
    (inb : ∀ a, (![0, 0] : Fin 2 → ℕ) a + S256x256.size a ≤ S256x256.size a) :
    Mat (n := 256) (m := 256) (View.readAt (Elt Ideal) arg21.view (Rect.unit (s := S256x256) ![0, 0] S256x256.size inb).toLoadRect
      (arg21.view.writes (Elt Ideal) X (Lb ++ La))) (fun i l => convB w V i (base + l)) := by
  have := joinB arg21 X (O := []) hb ha inb
  rwa [List.append_nil] at this

section Comp
variable (c : Dev nD) (i : grid0.Coords)
  (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
  (x2 : Vec Ideal S1x256x1024 .f32) (x3 : Vec Ideal S16x1024 .f32) (x4 : Vec Ideal S1x1024 .f32) (x5 : Vec Ideal S1024x9216 .bf16) (x6 : Vec Ideal S31x8x1024 .f32) (x7 : Vec Ideal S8x1024 .f32) (x8 : Vec Ideal S1x1024 .f32) (x9 : Vec Ideal S1x1024 .f32) (x10 : Vec Ideal S1024x1024 .bf16) (x11 : Vec Ideal S1x1024 .f32) (x12 : Vec Ideal S3x8x1024 .f32) (x13 : Vec Ideal S1024x1024 .bf16) (x14 : Vec Ideal S1024x1024 .bf16) (x15 : Vec Ideal S1x1024 .f32) (x16 : Vec Ideal S1x256x1024 .f32) (x17 : Vec Ideal S256x1024 .bf16) (x18 : Vec Ideal S288x1024 .f32) (x19 : Vec Ideal S256x1024 .f32) (x20 : Vec Ideal S264x1024 .f32) (x21 : Vec Ideal S256x256 .f32) (x22 : Vec Ideal S256x1024 .bf16) (x23 : Vec Ideal S256x1024 .bf16) (x24 : Vec Ideal S256x1024 .bf16) (x25 : Vec Ideal S32x1024 .f32) (x26 : Vec Ideal S8x1024 .f32) (v31 : Vec Ideal S256x1024 .bf16) (v32 : Vec Ideal S1024x256 .bf16)

theorem rest_l18 : (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.1 = P18 arg5 harg5 arg17 harg17 x5 x17 v31 v32 := rfl

theorem rest_l20 : (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.2.2.1 = P20 arg5 harg5 arg17 harg17 x5 x17 := rfl

variable {I : In} {b T : ℕ}
  (hp : Params I x4 x5 x6 x7 x8 x9 x10 x11 x12 x13 x14 x15) (ht : TileAt I b T x2 x17 x18 x20 v31 v32)
include hp ht

theorem rest_l19 : ∃ v1012 v1014 v1016 v1018 v1020 v1022 v1024 v1025 v1026 v1027 v1028 v1044 v1060 v1076 v1092 v1108 v1115 L, (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.2.1 = pb_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1012 v1014 v1016 v1018 v1020 v1022 v1024 v1025 v1026 v1027 v1028 v1044 v1060 v1076 v1092 v1108 v1115
      (harg8.unread x8) (harg9.unread x9) (arg19.view.writes (Elt Ideal) (harg19.unread x19) L) (Scf.trips k0_t9_loop.lb k0_t9_loop.ub k0_t9_loop.st) ++ L
    ∧ (Agree (fun y : S256x1024.Idx => convA I.wa (fun r => I.uap b (T + r)) I.ba (y 0).val (y 1).val) L ∧ ∀ y, Covers L y) := by
  have h6 : ∀ y, arg6.view.read (Elt Ideal) (harg6.unread x6) y = I.wa (y 0).val (y 2).val := fun y => (congrFun (harg6.read_unread x6) y).trans (hp.f6 y)
  have h7 : ∀ y, arg7.view.read (Elt Ideal) (harg7.unread x7) y = I.ba (y 1).val := fun y => (congrFun (harg7.read_unread x7) y).trans (hp.f7 y)
  refine ⟨_, _, _, _, _, _, _, _, _, _, _, _, _, _, _, _, _, _, rfl, joinA ?_ ?_ ?_ ?_ ?_ ?_ ?_ ?_⟩
  · exact loopA8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 (agree18 arg5 harg5 arg17 harg17 x5 x17 v31 v32 hp.f5 ht.f17 ht.f31 ht.f32) ht.f18 896 (fun y h h1 h2 => cov_block (by rfl) (by decide) (by decide) y h h1 h2)) h6 h7 masksA _ (init18 arg6 harg6 arg18 harg18 x6 x18 ht.f18 hp.f6 896 (by omega) (by decide +kernel))
  · exact loopA7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 (agree18 arg5 harg5 arg17 harg17 x5 x17 v31 v32 hp.f5 ht.f17 ht.f31 ht.f32) ht.f18 768 (fun y h h1 h2 => cov_block (by rfl) (by decide) (by decide) y h h1 h2)) h6 h7 masksA _ (init18 arg6 harg6 arg18 harg18 x6 x18 ht.f18 hp.f6 768 (by omega) (by decide +kernel))
  · exact loopA6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 ((agree18 arg5 harg5 arg17 harg17 x5 x17 v31 v32 hp.f5 ht.f17 ht.f31 ht.f32)).tail ht.f18 640 (fun y h h1 h2 => cov_block (by rfl) (by decide) (by decide) y h h1 h2)) h6 h7 masksA _ (init18 arg6 harg6 arg18 harg18 x6 x18 ht.f18 hp.f6 640 (by omega) (by decide +kernel))
  · exact loopA5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 ((agree18 arg5 harg5 arg17 harg17 x5 x17 v31 v32 hp.f5 ht.f17 ht.f31 ht.f32)).tail ht.f18 512 (fun y h h1 h2 => cov_block (by rfl) (by decide) (by decide) y h h1 h2)) h6 h7 masksA _ (init18 arg6 harg6 arg18 harg18 x6 x18 ht.f18 hp.f6 512 (by omega) (by decide +kernel))
  · exact loopA4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 (((agree18 arg5 harg5 arg17 harg17 x5 x17 v31 v32 hp.f5 ht.f17 ht.f31 ht.f32)).tail).tail ht.f18 384 (fun y h h1 h2 => cov_block (by rfl) (by decide) (by decide) y h h1 h2)) h6 h7 masksA _ (init18 arg6 harg6 arg18 harg18 x6 x18 ht.f18 hp.f6 384 (by omega) (by decide +kernel))
  · exact loopA3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 (((agree18 arg5 harg5 arg17 harg17 x5 x17 v31 v32 hp.f5 ht.f17 ht.f31 ht.f32)).tail).tail ht.f18 256 (fun y h h1 h2 => cov_block (by rfl) (by decide) (by decide) y h h1 h2)) h6 h7 masksA _ (init18 arg6 harg6 arg18 harg18 x6 x18 ht.f18 hp.f6 256 (by omega) (by decide +kernel))
  · exact loopA2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 ((((agree18 arg5 harg5 arg17 harg17 x5 x17 v31 v32 hp.f5 ht.f17 ht.f31 ht.f32)).tail).tail).tail ht.f18 128 (fun y h h1 h2 => cov_block (by rfl) (by decide) (by decide) y h h1 h2)) h6 h7 masksA _ (init18 arg6 harg6 arg18 harg18 x6 x18 ht.f18 hp.f6 128 (by omega) (by decide +kernel))
  · exact loopA1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads18_of arg18 harg18 x18 ((((agree18 arg5 harg5 arg17 harg17 x5 x17 v31 v32 hp.f5 ht.f17 ht.f31 ht.f32)).tail).tail).tail ht.f18 0 (fun y h h1 h2 => cov_block (by rfl) (by decide) (by decide) y h h1 h2)) h6 h7 masksA _ (init18 arg6 harg6 arg18 harg18 x6 x18 ht.f18 hp.f6 0 (by omega) (by decide +kernel))

theorem rest_an (y : S256x1024.Idx) : arg19.view.read (Elt Ideal) (arg19.view.writes (Elt Ideal) (harg19.unread x19) (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.2.1) y
    = I.an b (T + (y 0).val) (y 1).val := by
  obtain ⟨v1012, v1014, v1016, v1018, v1020, v1022, v1024, v1025, v1026, v1027, v1028, v1044, v1060, v1076, v1092, v1108, v1115, L, e, hL, hc⟩ := rest_l19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32 hp ht
  rw [e, View.writes_append]
  refine (normA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1012 v1014 v1016 v1018 v1020 v1022 v1024 v1025 v1026 v1027 v1028 v1044 v1060 v1076 v1092 v1108 v1115 _ _ _ (a := fun r q => I.ca b (T + r) q) (g := I.lg) (b := I.lb) (fun y => ?_)
    (fun y => (congrFun (harg8.read_unread x8) y).trans (hp.f8 y)) (fun y => (congrFun (harg9.read_unread x9) y).trans (hp.f9 y)) y).trans rfl
  exact (read_agree arg19.view _ hL y (.inl (hc y))).trans (ca_eq _ _)

theorem rest_l16 : ∃ (A19 : BufTy.Contents (Elt Ideal) arg19.view.ty) (C0 C1 C2 C3 : Vec Ideal S256x256 .f32),
    (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).1 = pb_k0_t18 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg15.unread x15)
      (arg16.view.writes (Elt Ideal) arg16.view.junk (P16 arg2 harg2 arg14 harg14 x2 x14 (arg24.view.readCov (P24 arg5 harg5 arg10 harg10 arg11 harg11 arg13 harg13 arg17 harg17 x5 x10 x11 x13 x17
        (arg22.view.readCov (P22 arg5 harg5 arg17 harg17 arg19 x5 x17 A19) (Rect.unit (s := S256x1024) ![0, 0] S256x1024.size inb_S256x1024_S256x1024_0_0).toLoadRect)
        (arg23.view.readCov (P23 arg5 harg5 arg17 harg17 x5 x17 C0 C1 C2 C3) (Rect.unit (s := S256x1024) ![0, 0] S256x1024.size inb_S256x1024_S256x1024_0_0).toLoadRect)) (Rect.unit (s := S256x1024) ![0, 0] S256x1024.size inb_S256x1024_S256x1024_0_0).toLoadRect))) (Scf.trips k0_t18_loop.lb k0_t18_loop.ub k0_t18_loop.st)
      ++ P16 arg2 harg2 arg14 harg14 x2 x14 (arg24.view.readCov (P24 arg5 harg5 arg10 harg10 arg11 harg11 arg13 harg13 arg17 harg17 x5 x10 x11 x13 x17
        (arg22.view.readCov (P22 arg5 harg5 arg17 harg17 arg19 x5 x17 A19) (Rect.unit (s := S256x1024) ![0, 0] S256x1024.size inb_S256x1024_S256x1024_0_0).toLoadRect)
        (arg23.view.readCov (P23 arg5 harg5 arg17 harg17 x5 x17 C0 C1 C2 C3) (Rect.unit (s := S256x1024) ![0, 0] S256x1024.size inb_S256x1024_S256x1024_0_0).toLoadRect)) (Rect.unit (s := S256x1024) ![0, 0] S256x1024.size inb_S256x1024_S256x1024_0_0).toLoadRect)
    ∧ A19 = arg19.view.writes (Elt Ideal) (harg19.unread x19) (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.2.1
    ∧ Mat (n := 256) (m := 256) C0 (fun i l => convB I.wb (fun r => I.cx b (T + 8 + r)) i (0 + l)) ∧ Mat (n := 256) (m := 256) C1 (fun i l => convB I.wb (fun r => I.cx b (T + 8 + r)) i (256 + l))
    ∧ Mat (n := 256) (m := 256) C2 (fun i l => convB I.wb (fun r => I.cx b (T + 8 + r)) i (512 + l)) ∧ Mat (n := 256) (m := 256) C3 (fun i l => convB I.wb (fun r => I.cx b (T + 8 + r)) i (768 + l)) := by
  have h12 : ∀ y, arg12.view.read (Elt Ideal) (harg12.unread x12) y = I.wb (y 0).val (y 2).val := fun y => (congrFun (harg12.read_unread x12) y).trans (hp.f12 y)
  refine ⟨_, _, _, _, _, rfl, rfl, ?_, ?_, ?_, ?_⟩
  · exact joinB0 arg21 _ (loopB11 _ _ _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 ((((agree20 arg5 harg5 arg17 harg17 x5 x17 hp.f5 ht.f17)).tail).tail).tail ht.f20 128 (fun y h h1 h2 => cov_block (by rfl) (by decide) (by decide) y h h1 h2)) h12 (maskB_at 1) (maskB_at 2) _ (init20 arg12 harg12 arg20 harg20 x12 x20 ht.f20 hp.f12 128 (by omega) (by decide +kernel))) (loopB10 _ _ _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 ((((agree20 arg5 harg5 arg17 harg17 x5 x17 hp.f5 ht.f17)).tail).tail).tail ht.f20 0 (fun y h h1 h2 => cov_block (by rfl) (by decide) (by decide) y h h1 h2)) h12 _ (init20 arg12 harg12 arg20 harg20 x12 x20 ht.f20 hp.f12 0 (by omega) (by decide +kernel))) inb_S256x256_S256x256_0_0
  · exact joinB arg21 _ (loopB13 _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 (((agree20 arg5 harg5 arg17 harg17 x5 x17 hp.f5 ht.f17)).tail).tail ht.f20 384 (fun y h h1 h2 => cov_block (by rfl) (by decide) (by decide) y h h1 h2)) h12 (maskB_at 1) (maskB_at 2) _ (init20 arg12 harg12 arg20 harg20 x12 x20 ht.f20 hp.f12 384 (by omega) (by decide +kernel))) (loopB12 _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 (((agree20 arg5 harg5 arg17 harg17 x5 x17 hp.f5 ht.f17)).tail).tail ht.f20 256 (fun y h h1 h2 => cov_block (by rfl) (by decide) (by decide) y h h1 h2)) h12 _ (init20 arg12 harg12 arg20 harg20 x12 x20 ht.f20 hp.f12 256 (by omega) (by decide +kernel))) inb_S256x256_S256x256_0_0
  · exact joinB arg21 _ (loopB15 _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 ((agree20 arg5 harg5 arg17 harg17 x5 x17 hp.f5 ht.f17)).tail ht.f20 640 (fun y h h1 h2 => cov_block (by rfl) (by decide) (by decide) y h h1 h2)) h12 _ (init20 arg12 harg12 arg20 harg20 x12 x20 ht.f20 hp.f12 640 (by omega) (by decide +kernel))) (loopB14 _ _ _ _ _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 ((agree20 arg5 harg5 arg17 harg17 x5 x17 hp.f5 ht.f17)).tail ht.f20 512 (fun y h h1 h2 => cov_block (by rfl) (by decide) (by decide) y h h1 h2)) h12 (maskB_at 1) (maskB_at 2) _ (init20 arg12 harg12 arg20 harg20 x12 x20 ht.f20 hp.f12 512 (by omega) (by decide +kernel))) inb_S256x256_S256x256_0_0
  · exact joinB arg21 _ (loopB17 _ _ _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 (agree20 arg5 harg5 arg17 harg17 x5 x17 hp.f5 ht.f17) ht.f20 896 (fun y h h1 h2 => cov_block (by rfl) (by decide) (by decide) y h h1 h2)) h12 _ (init20 arg12 harg12 arg20 harg20 x12 x20 ht.f20 hp.f12 896 (by omega) (by decide +kernel))) (loopB16 _ _ _ _ _ _ _ _ _ _ _ _ _ _ _ _ _ _ _ _ _ _ _ _ _ _ _ _ _ _ _ _ _ _ _ _ _ _ _ _ _ _ _ _ _ _ _ _ _ _ _ _ _ _ _ _ _ _ _ (reads20_of arg20 harg20 x20 (agree20 arg5 harg5 arg17 harg17 x5 x17 hp.f5 ht.f17) ht.f20 768 (fun y h h1 h2 => cov_block (by rfl) (by decide) (by decide) y h h1 h2)) h12 (maskB_at 1) (maskB_at 2) _ (init20 arg12 harg12 arg20 harg20 x12 x20 ht.f20 hp.f12 768 (by omega) (by decide +kernel))) inb_S256x256_S256x256_0_0

theorem rest16 (y : S1x256x1024.Idx) : arg16.view.read (Elt Ideal) (arg16.view.writes (Elt Ideal) arg16.view.junk (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).1) y
    = I.out b (T + (y 1).val) (y 2).val := by
  obtain ⟨A19, C0, C1, C2, C3, e, e19, h0, h1, h2, h3⟩ := rest_l16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32 hp ht
  have cv {p0 p1 p2 p3 : Vec Ideal S256x256 .bf16} {i0 i1 i2 i3} (y : S256x1024.Idx) := cover4 (r0 := 0) (n := 256) (p0 := p0) (p1 := p1) (p2 := p2) (p3 := p3) (i0 := i0) (i1 := i1) (i2 := i2) (i3 := i3) y (Nat.zero_le _)
    (by have : (y 0).val < 256 := (y 0).isLt; omega)
  have a22 : Mat (n := 256) (m := 1024) (arg22.view.readCov (P22 arg5 harg5 arg17 harg17 arg19 x5 x17 A19) (Rect.unit (s := S256x1024) ![0, 0] S256x1024.size inb_S256x1024_S256x1024_0_0).toLoadRect) (fun r x => I.pa b (T + r) x) :=
    covMat (f := fun r x => I.pa b (T + r) x) arg22 (agree22 arg5 harg5 arg17 harg17 arg19 x5 x17 hp.f5 ht.f17 (A19 := A19)
      (by rw [e19]; exact rest_an c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32 hp ht)) (fun y => cv y) inb_S256x1024_S256x1024_0_0
  have cvm {k : ℕ} {C : Vec Ideal S256x256 .f32} (h : Mat (n := 256) (m := 256) C (fun i l => convB I.wb (fun r => I.cx b (T + 8 + r)) i (k + l))) :
      Mat (n := 256) (m := 256) C (fun i l => I.cvb b (T + i) (k + l)) := h.congr fun i l _ _ => cvb_eq _ _
  have a23 : Mat (n := 256) (m := 1024) (arg23.view.readCov (P23 arg5 harg5 arg17 harg17 x5 x17 C0 C1 C2 C3) (Rect.unit (s := S256x1024) ![0, 0] S256x1024.size inb_S256x1024_S256x1024_0_0).toLoadRect) (fun r x => I.pb b (T + r) x) :=
    covMat (f := fun r x => I.pb b (T + r) x) arg23 (agree23 arg5 harg5 arg17 harg17 x5 x17 hp.f5 ht.f17 (cvm h0) (cvm h1) (cvm h2) (cvm h3))
      (fun y => cv y) inb_S256x1024_S256x1024_0_0
  have a24 : Mat (n := 256) (m := 1024) (arg24.view.readCov (P24 arg5 harg5 arg10 harg10 arg11 harg11 arg13 harg13 arg17 harg17 x5 x10 x11 x13 x17
        (arg22.view.readCov (P22 arg5 harg5 arg17 harg17 arg19 x5 x17 A19) (Rect.unit (s := S256x1024) ![0, 0] S256x1024.size inb_S256x1024_S256x1024_0_0).toLoadRect)
        (arg23.view.readCov (P23 arg5 harg5 arg17 harg17 x5 x17 C0 C1 C2 C3) (Rect.unit (s := S256x1024) ![0, 0] S256x1024.size inb_S256x1024_S256x1024_0_0).toLoadRect)) (Rect.unit (s := S256x1024) ![0, 0] S256x1024.size inb_S256x1024_S256x1024_0_0).toLoadRect) (fun r x => I.m b (T + r) x) :=
    covMat (f := fun r x => I.m b (T + r) x) arg24 (agree24 arg5 harg5 arg10 harg10 arg11 harg11 arg13 harg13 arg17 harg17 x5 x10 x11 x13 x17
      hp.f5 ht.f17 hp.f10 hp.f11 hp.f13 a22 a23) (fun y => cv y) inb_S256x1024_S256x1024_0_0
  rw [e, View.writes_append]
  refine (normOut Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ (a := fun r q => I.res b (T + r) q) (g := I.fg) (fun y => ?_)
    (fun y => (congrFun (harg15.read_unread x15) y).trans (hp.f15 y)) y).trans rfl
  exact read_agree arg16.view _ (agree16 arg2 harg2 arg14 harg14 x2 x14 ht.f2 hp.f14 a24) y (.inl (covers16 arg2 harg2 arg14 harg14 x2 x14 _ y))

theorem rest18 (y : S288x1024.Idx) : arg18.view.read (Elt Ideal) (arg18.view.writes (Elt Ideal) (harg18.unread x18) (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.1) y
    = I.uap b (T + (y 0).val) (y 1).val := by
  refine read_agree arg18.view _ (agree18 arg5 harg5 arg17 harg17 x5 x17 v31 v32 hp.f5 ht.f17 ht.f31 ht.f32) y ?_
  by_cases h : (y 0).val < 32
  · exact .inr ((congrFun (harg18.read_unread x18) y).trans (ht.f18 y h))
  · exact .inl (cover4 (r0 := 32) (n := 288) y (by omega) (by have : (y 0).val < 288 := (y 0).isLt; omega))

theorem rest20 (y : S264x1024.Idx) : arg20.view.read (Elt Ideal) (arg20.view.writes (Elt Ideal) (harg20.unread x20) (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.2.2.1) y
    = I.cx b (T + 8 + (y 0).val) (y 1).val := by
  refine read_agree arg20.view _ (agree20 arg5 harg5 arg17 harg17 x5 x17 hp.f5 ht.f17) y ?_
  by_cases h : (y 0).val < 8
  · exact .inr ((congrFun (harg20.read_unread x20) y).trans (ht.f20 y h))
  · exact .inl (cover4 (r0 := 8) (n := 264) y (by omega) (by have : (y 0).val < 264 := (y 0).isLt; omega))

end Comp

end Cert.KernelIdeal.Hand
-- ==== Proof.KI.V.Body.lean ====
/- The body at any point of the grid writes the result's tile and leaves the rows the next point looks back to. -/
module

public import proofs.«01_k».proof.Proof.KI.V.Head
public import proofs.«01_k».proof.Proof.KI.V.Rest

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the frame kit. -/
local notation "𝕄" => MT nD τ sig Unit (Elt Ideal) ℕ (UR sig nD τ) ℕ

/-- What a point leaves for the later ones: the rows the two filters look back to, and the ones kept from the meta rows. -/
structure Carry (I : In) (b T : ℕ) (v18 : Vec Ideal S288x1024 .f32) (v20 : Vec Ideal S264x1024 .f32) (v25 : Vec Ideal S32x1024 .f32)
    (v26 : Vec Ideal S8x1024 .f32) : Prop where
  f18 : ∀ y, v18 y = I.uap b (T + (y 0).val) (y 1).val
  f20 : ∀ y, v20 y = I.cx b (T + 8 + (y 0).val) (y 1).val
  f25 : ∀ y, v25 y = I.uap 0 (y 0).val (y 1).val
  f26 : ∀ y, v26 y = I.cx 0 (8 + (y 0).val) (y 1).val

set_option maxHeartbeats 2000000 in
/-- From the tile the first part leaves, the rest of the body. -/
theorem rest_val (c : Dev nD) (i : grid0.Coords) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
    (x2 : Vec Ideal S1x256x1024 .f32) (x3 : Vec Ideal S16x1024 .f32) (x4 : Vec Ideal S1x1024 .f32) (x5 : Vec Ideal S1024x9216 .bf16) (x6 : Vec Ideal S31x8x1024 .f32) (x7 : Vec Ideal S8x1024 .f32) (x8 : Vec Ideal S1x1024 .f32) (x9 : Vec Ideal S1x1024 .f32) (x10 : Vec Ideal S1024x1024 .bf16) (x11 : Vec Ideal S1x1024 .f32) (x12 : Vec Ideal S3x8x1024 .f32) (x13 : Vec Ideal S1024x1024 .bf16) (x14 : Vec Ideal S1024x1024 .bf16) (x15 : Vec Ideal S1x1024 .f32) (x16 : Vec Ideal S1x256x1024 .f32) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty) (f24 : BufTy.Contents (Elt Ideal) arg24.view.ty) (f25 : BufTy.Contents (Elt Ideal) arg25.view.ty) (f26 : BufTy.Contents (Elt Ideal) arg26.view.ty) (r₀ : (Σ' (v31 : Vec Ideal S256x1024 .bf16), Vec Ideal S1024x256 .bf16)) (P : sProp 𝕄)
    {I : In} {b T : ℕ} (hp : Params I x4 x5 x6 x7 x8 x9 x10 x11 x12 x13 x14 x15) (ht : TileAt I b T x2 (arg17.view.read (Elt Ideal) f17) (arg18.view.read (Elt Ideal) f18) (arg20.view.read (Elt Ideal) f20) r₀.1 r₀.2)
    (h25 : ∀ y, arg25.view.read (Elt Ideal) f25 y = I.uap 0 (y 0).val (y 1).val) (h26 : ∀ y, arg26.view.read (Elt Ideal) f26 y = I.cx 0 (8 + (y 0).val) (y 1).val)
    (h : P ⊢ wp frame (wpE (defs₀ (F := Ideal)) Variants.none c none) Set.univ (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun r => iprop(⌜r = r₀⌝ ∗ Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) f17 f18 f19 f20 f21 f22 f23 f24 f25 f26))) :
    P ⊢ wp frame (wpE (defs₀ (F := Ideal)) Variants.none c none) Set.univ (cc0_gated_conv_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun _ => iprop(∃ (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty) (g22 : BufTy.Contents (Elt Ideal) arg22.view.ty) (g23 : BufTy.Contents (Elt Ideal) arg23.view.ty) (g24 : BufTy.Contents (Elt Ideal) arg24.view.ty) (g25 : BufTy.Contents (Elt Ideal) arg25.view.ty) (g26 : BufTy.Contents (Elt Ideal) arg26.view.ty), ⌜(∀ y, arg16.view.read (Elt Ideal) g16 y = I.out b (T + (y 1).val) (y 2).val)
        ∧ Carry I b T (arg18.view.read (Elt Ideal) g18) (arg20.view.read (Elt Ideal) g20) (arg25.view.read (Elt Ideal) g25) (arg26.view.read (Elt Ideal) g26)⌝ ∗ Held c arg2 arg3 arg4 arg5 arg6 arg7 arg8 arg9 arg10 arg11 arg12 arg13 arg14 arg15 arg16 arg17 arg18 arg19 arg20 arg21 arg22 arg23 arg24 arg25 arg26
        (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) g16 g17 g18 g19 g20 g21 g22 g23 g24 g25 g26)) := by
  obtain ⟨x17, rfl⟩ : ∃ x, f17 = harg17.unread x := ⟨_, (harg17.unread_read f17).symm⟩
  obtain ⟨x18, rfl⟩ : ∃ x, f18 = harg18.unread x := ⟨_, (harg18.unread_read f18).symm⟩
  obtain ⟨x19, rfl⟩ : ∃ x, f19 = harg19.unread x := ⟨_, (harg19.unread_read f19).symm⟩
  obtain ⟨x20, rfl⟩ : ∃ x, f20 = harg20.unread x := ⟨_, (harg20.unread_read f20).symm⟩
  obtain ⟨x21, rfl⟩ : ∃ x, f21 = harg21.unread x := ⟨_, (harg21.unread_read f21).symm⟩
  obtain ⟨x22, rfl⟩ : ∃ x, f22 = harg22.unread x := ⟨_, (harg22.unread_read f22).symm⟩
  obtain ⟨x23, rfl⟩ : ∃ x, f23 = harg23.unread x := ⟨_, (harg23.unread_read f23).symm⟩
  obtain ⟨x24, rfl⟩ : ∃ x, f24 = harg24.unread x := ⟨_, (harg24.unread_read f24).symm⟩
  obtain ⟨x25, rfl⟩ : ∃ x, f25 = harg25.unread x := ⟨_, (harg25.unread_read f25).symm⟩
  obtain ⟨x26, rfl⟩ : ∃ x, f26 = harg26.unread x := ⟨_, (harg26.unread_read f26).symm⟩
  rw [harg17.read_unread, harg18.read_unread, harg20.read_unread] at ht
  obtain ⟨v31, v32⟩ := r₀
  refine ((runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32).2.2.2.2.2.2.2.2 P Set.univ h).trans (wp_mono _ _ _ fun _ => ?_)
  iintro H
  iexists _; iexists _; iexists _; iexists _; iexists _; iexists _; iexists _; iexists _; iexists _; iexists _; iexists _
  isplitr
  · ipureintro
    exact ⟨rest16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32 hp ht, rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32 hp ht, rest20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 v31 v32 hp ht, h25, h26⟩
  iexact H

set_option maxHeartbeats 2000000 in
/-- The body at any point of the grid. -/
theorem body_val (c : Dev nD) (t : Fin cfg0.N) (arg2 : Memref sig .tc .vmem S1x256x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x9216 .bf16) (harg5 : arg5.IsWhole) (arg6 : Memref sig .tc .vmem S31x8x1024 .f32) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S3x8x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S256x1024 .bf16) (harg17 : arg17.IsWhole) (arg18 : Memref sig .tc .vmem S288x1024 .f32) (harg18 : arg18.IsWhole) (arg19 : Memref sig .tc .vmem S256x1024 .f32) (harg19 : arg19.IsWhole) (arg20 : Memref sig .tc .vmem S264x1024 .f32) (harg20 : arg20.IsWhole) (arg21 : Memref sig .tc .vmem S256x256 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S32x1024 .f32) (harg25 : arg25.IsWhole) (arg26 : Memref sig .tc .vmem S8x1024 .f32) (harg26 : arg26.IsWhole)
    (x2 : Vec Ideal S1x256x1024 .f32) (x3 : Vec Ideal S16x1024 .f32) (x4 : Vec Ideal S1x1024 .f32) (x5 : Vec Ideal S1024x9216 .bf16) (x6 : Vec Ideal S31x8x1024 .f32) (x7 : Vec Ideal S8x1024 .f32) (x8 : Vec Ideal S1x1024 .f32) (x9 : Vec Ideal S1x1024 .f32) (x10 : Vec Ideal S1024x1024 .bf16) (x11 : Vec Ideal S1x1024 .f32) (x12 : Vec Ideal S3x8x1024 .f32) (x13 : Vec Ideal S1024x1024 .bf16) (x14 : Vec Ideal S1024x1024 .bf16) (x15 : Vec Ideal S1x1024 .f32) (x16 : Vec Ideal S1x256x1024 .f32) (x17 : Vec Ideal S256x1024 .bf16) (x18 : Vec Ideal S288x1024 .f32) (x19 : Vec Ideal S256x1024 .f32) (x20 : Vec Ideal S264x1024 .f32) (x21 : Vec Ideal S256x256 .f32) (x22 : Vec Ideal S256x1024 .bf16) (x23 : Vec Ideal S256x1024 .bf16) (x24 : Vec Ideal S256x1024 .bf16) (x25 : Vec Ideal S32x1024 .f32) (x26 : Vec Ideal S8x1024 .f32)
    {I : In} (hp : Params I x4 x5 x6 x7 x8 x9 x10 x11 x12 x13 x14 x15) (h2 : ∀ y, x2 y = I.x (t.val / 16) (256 * (t.val % 16) + (y 1).val) (y 2).val) (h3 : ∀ y, x3 y = I.mt (y 0).val (y 1).val)
    (hc : t.val ≠ 0 → Carry I ((t.val - 1) / 16) (256 * ((t.val - 1) % 16)) x18 x20 x25 x26) :
    Held c arg2 arg3 arg4 arg5 arg6 arg7 arg8 arg9 arg10 arg11 arg12 arg13 arg14 arg15 arg16 arg17 arg18 arg19 arg20 arg21 arg22 arg23 arg24 arg25 arg26 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26)
    ⊢ wp frame (wpE (defs₀ (F := Ideal)) Variants.none c none) Set.univ (cc0_gated_conv_block (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun _ => iprop(∃ (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty) (g22 : BufTy.Contents (Elt Ideal) arg22.view.ty) (g23 : BufTy.Contents (Elt Ideal) arg23.view.ty) (g24 : BufTy.Contents (Elt Ideal) arg24.view.ty) (g25 : BufTy.Contents (Elt Ideal) arg25.view.ty) (g26 : BufTy.Contents (Elt Ideal) arg26.view.ty), ⌜(∀ y, arg16.view.read (Elt Ideal) g16 y = I.out (t.val / 16) (256 * (t.val % 16) + (y 1).val) (y 2).val)
        ∧ Carry I (t.val / 16) (256 * (t.val % 16)) (arg18.view.read (Elt Ideal) g18) (arg20.view.read (Elt Ideal) g20) (arg25.view.read (Elt Ideal) g25) (arg26.view.read (Elt Ideal) g26)⌝ ∗ Held c arg2 arg3 arg4 arg5 arg6 arg7 arg8 arg9 arg10 arg11 arg12 arg13 arg14 arg15 arg16 arg17 arg18 arg19 arg20 arg21 arg22 arg23 arg24 arg25 arg26
        (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) g16 g17 g18 g19 g20 g21 g22 g23 g24 g25 g26)) := by
  have hN : t.val < 64 := lt_of_lt_of_eq t.isLt (show cfg0.N = 64 from N_0)
  by_cases h1 : t.val % 16 = 0
  · have hc1 : cond1 (grid0.coords t) := (hcond1 t).mpr h1
    have hc2 : ¬cond2 (grid0.coords t) := fun h => by have := (hcond2 t).mp h; omega
    by_cases h0 : t.val = 0
    · have hc0 : cond0 (grid0.coords t) := (hcond0 t).mpr h0
      exact rest_val c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 _ _ _ _ _ _ _ _ _ _ _ _ hp
        (tileA c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 hp.f4 hp.f5 (hc0 := hc0) (hc1 := hc1) (hc2 := hc2) h2 (by rw [h1]) h3) (metaA c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 hp.f4 hp.f5 (hc0 := hc0) (hc1 := hc1) (hc2 := hc2) h3).1 (metaA c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 hp.f4 hp.f5 (hc0 := hc0) (hc1 := hc1) (hc2 := hc2) h3).2
        ((headA (F := Ideal) c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2.2.2 Set.univ)
    · have hc0 : ¬cond0 (grid0.coords t) := fun h => h0 ((hcond0 t).mp h)
      exact rest_val c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 _ _ _ _ _ _ _ _ _ _ _ _ hp
        (tileC c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 hp.f4 hp.f5 (hc0 := hc0) (hc1 := hc1) (hc2 := hc2) h2 (by rw [h1]) (hc h0).f25 (hc h0).f26) (fun y => (congrFun (harg25.read_unread x25) y).trans ((hc h0).f25 y)) (fun y => (congrFun (harg26.read_unread x26) y).trans ((hc h0).f26 y))
        ((headC (F := Ideal) c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2 Set.univ)
  · have hc1 : ¬cond1 (grid0.coords t) := fun h => h1 ((hcond1 t).mp h)
    have h0 : t.val ≠ 0 := by omega
    have hb : (t.val - 1) / 16 = t.val / 16 := by omega
    have hc2 : cond2 (grid0.coords t) := (hcond2 t).mpr (by omega)
    have hc0 : ¬cond0 (grid0.coords t) := fun h => by have := (hcond0 t).mp h; omega
    exact rest_val c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 _ _ _ _ _ _ _ _ _ _ _ _ hp
        (tileB c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x15 x16 x17 x18 x19 x20 x21 x22 x23 x24 x25 x26 hp.f4 hp.f5 (hc0 := hc0) (hc1 := hc1) (hc2 := hc2) h2 (T' := 256 * ((t.val - 1) % 16)) (by omega) (fun y => by rw [(hc h0).f18 y, hb]) (fun y => by rw [(hc h0).f20 y, hb])) (fun y => (congrFun (harg25.read_unread x25) y).trans ((hc h0).f25 y)) (fun y => (congrFun (harg26.read_unread x26) y).trans ((hc h0).f26 y))
        ((headB (F := Ideal) c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x2 x3 x4 x5 x6 x7 x8 x9 x10 x11 x12 x13 x14 x15 x16 x17 x18 x19 x20 x21 x22 x23 x24 x25 x26).2.2.2.2 Set.univ)

end Cert.KernelIdeal.Hand

end
-- ==== Proof.KI.V.Inputs.lean ====
/- The inputs' entries, and what each window's block holds of them. -/
module

public import proofs.«01_k».proof.Proof.KI.V.Blocks
public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The inputs' entries, each index taken modulo its axis. -/
def In.of (a0 : (⟨3, ![4, 4096, 1024]⟩ : Shape).Idx → EReal) (a1 : (⟨2, ![16, 1024]⟩ : Shape).Idx → EReal) (a2 : (⟨2, ![1, 1024]⟩ : Shape).Idx → EReal)
    (a3 : (⟨3, ![1, 1024, 9216]⟩ : Shape).Idx → EReal) (a4 : (⟨3, ![1, 31, 1024]⟩ : Shape).Idx → EReal) (a5 a6 a7 : (⟨2, ![1, 1024]⟩ : Shape).Idx → EReal)
    (a8 : (⟨3, ![1, 1024, 1024]⟩ : Shape).Idx → EReal) (a9 : (⟨2, ![1, 1024]⟩ : Shape).Idx → EReal) (a10 : (⟨3, ![1, 3, 1024]⟩ : Shape).Idx → EReal)
    (a11 a12 : (⟨3, ![1, 1024, 1024]⟩ : Shape).Idx → EReal) (a13 : (⟨1, ![1024]⟩ : Shape).Idx → EReal) : In where
  x b p c := a0 (ix3 (Fin.ofNat 4 b) (Fin.ofNat 4096 p) (Fin.ofNat 1024 c))
  mt r c := a1 (ix2 (Fin.ofNat 16 r) (Fin.ofNat 1024 c))
  ng c := a2 (ix2 0 (Fin.ofNat 1024 c))
  win r c := a3 (ix3 0 (Fin.ofNat 1024 r) (Fin.ofNat 9216 c))
  wa k c := a4 (ix3 0 (Fin.ofNat 31 k) (Fin.ofNat 1024 c))
  ba c := a5 (ix2 0 (Fin.ofNat 1024 c))
  lg c := a6 (ix2 0 (Fin.ofNat 1024 c))
  lb c := a7 (ix2 0 (Fin.ofNat 1024 c))
  wao r c := a8 (ix3 0 (Fin.ofNat 1024 r) (Fin.ofNat 1024 c))
  bao c := a9 (ix2 0 (Fin.ofNat 1024 c))
  wb k c := a10 (ix3 0 (Fin.ofNat 3 k) (Fin.ofNat 1024 c))
  wbo r c := a11 (ix3 0 (Fin.ofNat 1024 r) (Fin.ofNat 1024 c))
  wo r c := a12 (ix3 0 (Fin.ofNat 1024 r) (Fin.ofNat 1024 c))
  fg c := a13 (ix1 (Fin.ofNat 1024 c))

variable (m : (ℓ : Loc nD τ sig) → Buf (Elt Ideal) ℓ) (c : Dev nD)

/-- The inputs as launched on core `c`. -/
def inOf : In := In.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))

theorem index0 : ∀ t : Fin grid0.N, win0_0.index t = ![t.val / 16, t.val % 16, 0] := by decide +kernel
theorem index14 : ∀ t : Fin grid0.N, win0_14.index t = ![t.val / 16, t.val % 16, 0] := by decide +kernel

theorem win_x (t : Fin cfg0.N) (y : S1x256x1024.Idx) : iblk m c 0 t y = (inOf m c).x (t.val / 16) (256 * (t.val % 16) + (y 1).val) (y 2).val := by
  blk_simp [iblk]
  rw [V_main_arg0]
  show m _ _ = m _ _
  congr 1
  have := index0 t
  blk_ext [this]
  all_goals (simp only [Fin.val_ofNat]; omega)

theorem win_mt (t : Fin cfg0.N) (y : S16x1024.Idx) : iblk m c 1 t y = (inOf m c).mt (y 0).val (y 1).val := by
  have hi : ∀ t : Fin grid0.N, win0_1.index t = ![0, 0] := by decide +kernel
  have he : ((cfg0.win 1).blk t).view.emb y = y := by blk_ext [hi t]
  blk_simp [iblk]
  rw [V_main_arg1]
  rw [show ((View.whole main_arg1).slice (win0_1.rect t)).emb y = y from he]
  clear he
  obtain ⟨i, j, rfl⟩ : ∃ (i : Fin 16) (j : Fin 1024), y = ix2 i j := ⟨y 0, y 1, eq_ix2 y⟩
  show m _ _ = m _ _
  congr 1
  ext a
  fin_cases a <;> simp [Fin.val_ofNat] <;> omega

theorem win_ng (t : Fin cfg0.N) (y : S1x1024.Idx) : iblk m c 2 t y = (inOf m c).ng (y 1).val := by
  have hi : ∀ t : Fin grid0.N, win0_2.index t = ![0, 0] := by decide +kernel
  have he : ((cfg0.win 2).blk t).view.emb y = y := by blk_ext [hi t]
  blk_simp [iblk]
  entry_read
  rw [show ((View.whole main_v1).slice (win0_2.rect t)).emb y = y from he]
  clear he
  obtain ⟨i, j, rfl⟩ : ∃ (i : Fin 1) (j : Fin 1024), y = ix2 i j := ⟨y 0, y 1, eq_ix2 y⟩
  pointwise
  show m _ _ = m _ _
  congr 1
  ext a
  fin_cases a <;> simp [Fin.val_ofNat] <;> omega

theorem win_win (t : Fin cfg0.N) (y : S1024x9216.Idx) : iblk m c 3 t y = (inOf m c).win (y 0).val (y 1).val := by
  have hi : ∀ t : Fin grid0.N, win0_3.index t = ![0, 0] := by decide +kernel
  have he : ((cfg0.win 3).blk t).view.emb y = y := by blk_ext [hi t]
  blk_simp [iblk]
  entry_read
  rw [show ((View.whole main_v3).slice (win0_3.rect t)).emb y = y from he]
  clear he
  obtain ⟨i, j, rfl⟩ : ∃ (i : Fin 1024) (j : Fin 9216), y = ix2 i j := ⟨y 0, y 1, eq_ix2 y⟩
  pointwise
  show m _ _ = m _ _
  congr 1
  ext a
  fin_cases a <;> simp [Fin.val_ofNat] <;> omega

theorem win_wa (t : Fin cfg0.N) (y : S31x8x1024.Idx) : iblk m c 4 t y = (inOf m c).wa (y 0).val (y 2).val := by
  have hi : ∀ t : Fin grid0.N, win0_4.index t = ![0, 0, 0] := by decide +kernel
  have he : ((cfg0.win 4).blk t).view.emb y = y := by blk_ext [hi t]
  blk_simp [iblk]
  entry_read
  rw [show ((View.whole main_v6).slice (win0_4.rect t)).emb y = y from he]
  clear he
  obtain ⟨i, j, k, rfl⟩ : ∃ (i : Fin 31) (j : Fin 8) (k : Fin 1024), y = ix3 i j k := ⟨y 0, y 1, y 2, eq_ix3 y⟩
  pointwise
  show m _ _ = m _ _
  congr 1
  ext a
  fin_cases a <;> simp [Fin.val_ofNat] <;> omega

theorem win_ba (t : Fin cfg0.N) (y : S8x1024.Idx) : iblk m c 5 t y = (inOf m c).ba (y 1).val := by
  have hi : ∀ t : Fin grid0.N, win0_5.index t = ![0, 0] := by decide +kernel
  have he : ((cfg0.win 5).blk t).view.emb y = y := by blk_ext [hi t]
  blk_simp [iblk]
  entry_read
  rw [show ((View.whole main_v9).slice (win0_5.rect t)).emb y = y from he]
  clear he
  obtain ⟨i, j, rfl⟩ : ∃ (i : Fin 8) (j : Fin 1024), y = ix2 i j := ⟨y 0, y 1, eq_ix2 y⟩
  pointwise
  show m _ _ = m _ _
  congr 1
  ext a
  fin_cases a <;> simp [Fin.val_ofNat] <;> omega

theorem win_lg (t : Fin cfg0.N) (y : S1x1024.Idx) : iblk m c 6 t y = (inOf m c).lg (y 1).val := by
  have hi : ∀ t : Fin grid0.N, win0_6.index t = ![0, 0] := by decide +kernel
  have he : ((cfg0.win 6).blk t).view.emb y = y := by blk_ext [hi t]
  blk_simp [iblk]
  entry_read
  rw [show ((View.whole main_v11).slice (win0_6.rect t)).emb y = y from he]
  clear he
  obtain ⟨i, j, rfl⟩ : ∃ (i : Fin 1) (j : Fin 1024), y = ix2 i j := ⟨y 0, y 1, eq_ix2 y⟩
  pointwise
  show m _ _ = m _ _
  congr 1
  ext a
  fin_cases a <;> simp [Fin.val_ofNat] <;> omega

theorem win_lb (t : Fin cfg0.N) (y : S1x1024.Idx) : iblk m c 7 t y = (inOf m c).lb (y 1).val := by
  have hi : ∀ t : Fin grid0.N, win0_7.index t = ![0, 0] := by decide +kernel
  have he : ((cfg0.win 7).blk t).view.emb y = y := by blk_ext [hi t]
  blk_simp [iblk]
  entry_read
  rw [show ((View.whole main_v13).slice (win0_7.rect t)).emb y = y from he]
  clear he
  obtain ⟨i, j, rfl⟩ : ∃ (i : Fin 1) (j : Fin 1024), y = ix2 i j := ⟨y 0, y 1, eq_ix2 y⟩
  pointwise
  show m _ _ = m _ _
  congr 1
  ext a
  fin_cases a <;> simp [Fin.val_ofNat] <;> omega

theorem win_wao (t : Fin cfg0.N) (y : S1024x1024.Idx) : iblk m c 8 t y = (inOf m c).wao (y 0).val (y 1).val := by
  have hi : ∀ t : Fin grid0.N, win0_8.index t = ![0, 0] := by decide +kernel
  have he : ((cfg0.win 8).blk t).view.emb y = y := by blk_ext [hi t]
  blk_simp [iblk]
  entry_read
  rw [show ((View.whole main_v15).slice (win0_8.rect t)).emb y = y from he]
  clear he
  obtain ⟨i, j, rfl⟩ : ∃ (i : Fin 1024) (j : Fin 1024), y = ix2 i j := ⟨y 0, y 1, eq_ix2 y⟩
  pointwise
  show m _ _ = m _ _
  congr 1
  ext a
  fin_cases a <;> simp [Fin.val_ofNat] <;> omega

theorem win_bao (t : Fin cfg0.N) (y : S1x1024.Idx) : iblk m c 9 t y = (inOf m c).bao (y 1).val := by
  have hi : ∀ t : Fin grid0.N, win0_9.index t = ![0, 0] := by decide +kernel
  have he : ((cfg0.win 9).blk t).view.emb y = y := by blk_ext [hi t]
  blk_simp [iblk]
  entry_read
  rw [show ((View.whole main_v17).slice (win0_9.rect t)).emb y = y from he]
  clear he
  obtain ⟨i, j, rfl⟩ : ∃ (i : Fin 1) (j : Fin 1024), y = ix2 i j := ⟨y 0, y 1, eq_ix2 y⟩
  pointwise
  show m _ _ = m _ _
  congr 1
  ext a
  fin_cases a <;> simp [Fin.val_ofNat] <;> omega

theorem win_wb (t : Fin cfg0.N) (y : S3x8x1024.Idx) : iblk m c 10 t y = (inOf m c).wb (y 0).val (y 2).val := by
  have hi : ∀ t : Fin grid0.N, win0_10.index t = ![0, 0, 0] := by decide +kernel
  have he : ((cfg0.win 10).blk t).view.emb y = y := by blk_ext [hi t]
  blk_simp [iblk]
  entry_read
  rw [show ((View.whole main_v20).slice (win0_10.rect t)).emb y = y from he]
  clear he
  obtain ⟨i, j, k, rfl⟩ : ∃ (i : Fin 3) (j : Fin 8) (k : Fin 1024), y = ix3 i j k := ⟨y 0, y 1, y 2, eq_ix3 y⟩
  pointwise
  show m _ _ = m _ _
  congr 1
  ext a
  fin_cases a <;> simp [Fin.val_ofNat] <;> omega

theorem win_wbo (t : Fin cfg0.N) (y : S1024x1024.Idx) : iblk m c 11 t y = (inOf m c).wbo (y 0).val (y 1).val := by
  have hi : ∀ t : Fin grid0.N, win0_11.index t = ![0, 0] := by decide +kernel
  have he : ((cfg0.win 11).blk t).view.emb y = y := by blk_ext [hi t]
  blk_simp [iblk]
  entry_read
  rw [show ((View.whole main_v22).slice (win0_11.rect t)).emb y = y from he]
  clear he
  obtain ⟨i, j, rfl⟩ : ∃ (i : Fin 1024) (j : Fin 1024), y = ix2 i j := ⟨y 0, y 1, eq_ix2 y⟩
  pointwise
  show m _ _ = m _ _
  congr 1
  ext a
  fin_cases a <;> simp [Fin.val_ofNat] <;> omega

theorem win_wo (t : Fin cfg0.N) (y : S1024x1024.Idx) : iblk m c 12 t y = (inOf m c).wo (y 0).val (y 1).val := by
  have hi : ∀ t : Fin grid0.N, win0_12.index t = ![0, 0] := by decide +kernel
  have he : ((cfg0.win 12).blk t).view.emb y = y := by blk_ext [hi t]
  blk_simp [iblk]
  entry_read
  rw [show ((View.whole main_v24).slice (win0_12.rect t)).emb y = y from he]
  clear he
  obtain ⟨i, j, rfl⟩ : ∃ (i : Fin 1024) (j : Fin 1024), y = ix2 i j := ⟨y 0, y 1, eq_ix2 y⟩
  pointwise
  show m _ _ = m _ _
  congr 1
  ext a
  fin_cases a <;> simp [Fin.val_ofNat] <;> omega

theorem win_fg (t : Fin cfg0.N) (y : S1x1024.Idx) : iblk m c 13 t y = (inOf m c).fg (y 1).val := by
  have hi : ∀ t : Fin grid0.N, win0_13.index t = ![0, 0] := by decide +kernel
  have he : ((cfg0.win 13).blk t).view.emb y = y := by blk_ext [hi t]
  blk_simp [iblk]
  entry_read
  rw [show ((View.whole main_v25).slice (win0_13.rect t)).emb y = y from he]
  clear he
  obtain ⟨i, j, rfl⟩ : ∃ (i : Fin 1) (j : Fin 1024), y = ix2 i j := ⟨y 0, y 1, eq_ix2 y⟩
  pointwise
  show m _ _ = m _ _
  congr 1
  ext a
  fin_cases a <;> simp [Fin.val_ofNat] <;> omega

end Cert.KernelIdeal.Hand
-- ==== Proof.KI.V.Frame.lean ====
/- The run with its values: the pipeline's proof data with the output window at the result's tiles, and the result array at the end. -/
module

public import proofs.«01_k».proof.Proof.KI.Frame
public import proofs.«01_k».proof.Proof.KI.V.Body
public import proofs.«01_k».proof.Proof.KI.V.Inputs
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the frame kit. -/
local notation "𝕄" => MT nD τ sig Unit (Elt Ideal) ℕ (UR sig nD τ) ℕ

variable (m : (ℓ : Loc nD τ sig) → Buf (Elt Ideal) ℓ) (ρ : Dev nD → PrngReg)

/-- Between the points: the scratch buffers, and after the first point the rows kept for the next. -/
def PhiV (c : Dev nD) (n : ℕ) : sProp 𝕄 :=
  iprop(iprop(∃ (x17 : Vec Ideal S256x1024 .bf16) (x18 : Vec Ideal S288x1024 .f32) (x19 : Vec Ideal S256x1024 .f32) (x20 : Vec Ideal S264x1024 .f32) (x21 : Vec Ideal S256x256 .f32) (x22 : Vec Ideal S256x1024 .bf16) (x23 : Vec Ideal S256x1024 .bf16) (x24 : Vec Ideal S256x1024 .bf16) (x25 : Vec Ideal S32x1024 .f32) (x26 : Vec Ideal S8x1024 .f32),
    ⌜n ≠ 0 → Carry (inOf m c) ((n - 1) / 16) (256 * ((n - 1) % 16)) x18 x20 x25 x26⌝ ∗ owns (c : Thread nD τ) scM0_0 fullShare x17 ∗ owns (c : Thread nD τ) scM0_1 fullShare x18 ∗ owns (c : Thread nD τ) scM0_2 fullShare x19 ∗ owns (c : Thread nD τ) scM0_3 fullShare x20 ∗ owns (c : Thread nD τ) scM0_4 fullShare x21 ∗ owns (c : Thread nD τ) scM0_5 fullShare x22 ∗ owns (c : Thread nD τ) scM0_6 fullShare x23 ∗ owns (c : Thread nD τ) scM0_7 fullShare x24 ∗ owns (c : Thread nD τ) scM0_8 fullShare x25 ∗ owns (c : Thread nD τ) scM0_9 fullShare x26) ∗ (∃ r, prngReg c r))

/-- The result's tile at point `t`. -/
def tileOut (c : Dev nD) (t : Fin cfg0.N) : Vec Ideal S1x256x1024 .f32 :=
  fun y => (inOf m c).out (t.val / 16) (256 * (t.val % 16) + (y 1).val) (y 2).val

/-- The proof data of the pipeline on core `c`: each input's buffer at its block after the body, the output at the result's tile. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => tileOut m c t
  Φ t := PhiV m c t.val
  q _ := fullShare
  owed _ := 0

/-- The proof data's arrays are the region-entry contents. -/
theorem AV_eq (c : Dev nD) (w : Fin cfg0.W) : (datsV m 0 c).A w = V m c (Pipeline.arrRef spec0 w) := by
  dsimp only [datsV]

theorem afterV0_0 (c : Dev nD) (t : Fin cfg0.N) : (datsV m 0 c).after 0 t = iblk m c 0 t := by dsimp only [datsV]
theorem afterV0_1 (c : Dev nD) (t : Fin cfg0.N) : (datsV m 0 c).after 1 t = iblk m c 1 t := by dsimp only [datsV]
theorem afterV0_2 (c : Dev nD) (t : Fin cfg0.N) : (datsV m 0 c).after 2 t = iblk m c 2 t := by dsimp only [datsV]
theorem afterV0_3 (c : Dev nD) (t : Fin cfg0.N) : (datsV m 0 c).after 3 t = iblk m c 3 t := by dsimp only [datsV]
theorem afterV0_4 (c : Dev nD) (t : Fin cfg0.N) : (datsV m 0 c).after 4 t = iblk m c 4 t := by dsimp only [datsV]
theorem afterV0_5 (c : Dev nD) (t : Fin cfg0.N) : (datsV m 0 c).after 5 t = iblk m c 5 t := by dsimp only [datsV]
theorem afterV0_6 (c : Dev nD) (t : Fin cfg0.N) : (datsV m 0 c).after 6 t = iblk m c 6 t := by dsimp only [datsV]
theorem afterV0_7 (c : Dev nD) (t : Fin cfg0.N) : (datsV m 0 c).after 7 t = iblk m c 7 t := by dsimp only [datsV]
theorem afterV0_8 (c : Dev nD) (t : Fin cfg0.N) : (datsV m 0 c).after 8 t = iblk m c 8 t := by dsimp only [datsV]
theorem afterV0_9 (c : Dev nD) (t : Fin cfg0.N) : (datsV m 0 c).after 9 t = iblk m c 9 t := by dsimp only [datsV]
theorem afterV0_10 (c : Dev nD) (t : Fin cfg0.N) : (datsV m 0 c).after 10 t = iblk m c 10 t := by dsimp only [datsV]
theorem afterV0_11 (c : Dev nD) (t : Fin cfg0.N) : (datsV m 0 c).after 11 t = iblk m c 11 t := by dsimp only [datsV]
theorem afterV0_12 (c : Dev nD) (t : Fin cfg0.N) : (datsV m 0 c).after 12 t = iblk m c 12 t := by dsimp only [datsV]
theorem afterV0_13 (c : Dev nD) (t : Fin cfg0.N) : (datsV m 0 c).after 13 t = iblk m c 13 t := by dsimp only [datsV]
theorem beforeV0_0 (c : Dev nD) (t : Fin cfg0.N) (d) : (datsV m 0 c).before 0 t d = iblk m c 0 t :=
  before0_0_of m (datsV m 0 c) (AV_eq m c 0) (afterV0_0 m c) t d
theorem beforeV0_1 (c : Dev nD) (t : Fin cfg0.N) (d) : (datsV m 0 c).before 1 t d = iblk m c 1 t :=
  before0_1_of m (datsV m 0 c) (AV_eq m c 1) (afterV0_1 m c) t d
theorem beforeV0_2 (c : Dev nD) (t : Fin cfg0.N) (d) : (datsV m 0 c).before 2 t d = iblk m c 2 t :=
  before0_2_of m (datsV m 0 c) (AV_eq m c 2) (afterV0_2 m c) t d
theorem beforeV0_3 (c : Dev nD) (t : Fin cfg0.N) (d) : (datsV m 0 c).before 3 t d = iblk m c 3 t :=
  before0_3_of m (datsV m 0 c) (AV_eq m c 3) (afterV0_3 m c) t d
theorem beforeV0_4 (c : Dev nD) (t : Fin cfg0.N) (d) : (datsV m 0 c).before 4 t d = iblk m c 4 t :=
  before0_4_of m (datsV m 0 c) (AV_eq m c 4) (afterV0_4 m c) t d
theorem beforeV0_5 (c : Dev nD) (t : Fin cfg0.N) (d) : (datsV m 0 c).before 5 t d = iblk m c 5 t :=
  before0_5_of m (datsV m 0 c) (AV_eq m c 5) (afterV0_5 m c) t d
theorem beforeV0_6 (c : Dev nD) (t : Fin cfg0.N) (d) : (datsV m 0 c).before 6 t d = iblk m c 6 t :=
  before0_6_of m (datsV m 0 c) (AV_eq m c 6) (afterV0_6 m c) t d
theorem beforeV0_7 (c : Dev nD) (t : Fin cfg0.N) (d) : (datsV m 0 c).before 7 t d = iblk m c 7 t :=
  before0_7_of m (datsV m 0 c) (AV_eq m c 7) (afterV0_7 m c) t d
theorem beforeV0_8 (c : Dev nD) (t : Fin cfg0.N) (d) : (datsV m 0 c).before 8 t d = iblk m c 8 t :=
  before0_8_of m (datsV m 0 c) (AV_eq m c 8) (afterV0_8 m c) t d
theorem beforeV0_9 (c : Dev nD) (t : Fin cfg0.N) (d) : (datsV m 0 c).before 9 t d = iblk m c 9 t :=
  before0_9_of m (datsV m 0 c) (AV_eq m c 9) (afterV0_9 m c) t d
theorem beforeV0_10 (c : Dev nD) (t : Fin cfg0.N) (d) : (datsV m 0 c).before 10 t d = iblk m c 10 t :=
  before0_10_of m (datsV m 0 c) (AV_eq m c 10) (afterV0_10 m c) t d
theorem beforeV0_11 (c : Dev nD) (t : Fin cfg0.N) (d) : (datsV m 0 c).before 11 t d = iblk m c 11 t :=
  before0_11_of m (datsV m 0 c) (AV_eq m c 11) (afterV0_11 m c) t d
theorem beforeV0_12 (c : Dev nD) (t : Fin cfg0.N) (d) : (datsV m 0 c).before 12 t d = iblk m c 12 t :=
  before0_12_of m (datsV m 0 c) (AV_eq m c 12) (afterV0_12 m c) t d
theorem beforeV0_13 (c : Dev nD) (t : Fin cfg0.N) (d) : (datsV m 0 c).before 13 t d = iblk m c 13 t :=
  before0_13_of m (datsV m 0 c) (AV_eq m c 13) (afterV0_13 m c) t d

theorem afterV0_14 (c : Dev nD) (t : Fin cfg0.N) : (datsV m 0 c).after 14 t = tileOut m c t := by dsimp only [datsV]
/-- The windows of the weights hold the inputs. -/
theorem paramsV (c : Dev nD) (t : Fin cfg0.N) : Params (inOf m c) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) :=
  ⟨win_ng m c t, win_win m c t, win_wa m c t, win_ba m c t, win_lg m c t, win_lb m c t, win_wao m c t, win_bao m c t, win_wb m c t,
    win_wbo m c t, win_wo m c t, win_fg m c t⟩

/-! ## The body obligation -/

/-- What the body is called with at point `t`, -/
def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d))
    ∗ (∃ d, owns (c : Thread nD τ) (ms0_8 t) fullShare ((datsV m 0 c).before 8 t d))
    ∗ (∃ d, owns (c : Thread nD τ) (ms0_9 t) fullShare ((datsV m 0 c).before 9 t d))
    ∗ (∃ d, owns (c : Thread nD τ) (ms0_10 t) fullShare ((datsV m 0 c).before 10 t d))
    ∗ (∃ d, owns (c : Thread nD τ) (ms0_11 t) fullShare ((datsV m 0 c).before 11 t d))
    ∗ (∃ d, owns (c : Thread nD τ) (ms0_12 t) fullShare ((datsV m 0 c).before 12 t d))
    ∗ (∃ d, owns (c : Thread nD τ) (ms0_13 t) fullShare ((datsV m 0 c).before 13 t d))
    ∗ (∃ d, owns (c : Thread nD τ) (ms0_14 t) fullShare ((datsV m 0 c).before 14 t d)))

/-- and what it returns. -/
def bodyPostV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t)
    ∗ owns (c : Thread nD τ) (ms0_7 t) fullShare ((datsV m 0 c).after 7 t)
    ∗ owns (c : Thread nD τ) (ms0_8 t) fullShare ((datsV m 0 c).after 8 t)
    ∗ owns (c : Thread nD τ) (ms0_9 t) fullShare ((datsV m 0 c).after 9 t)
    ∗ owns (c : Thread nD τ) (ms0_10 t) fullShare ((datsV m 0 c).after 10 t)
    ∗ owns (c : Thread nD τ) (ms0_11 t) fullShare ((datsV m 0 c).after 11 t)
    ∗ owns (c : Thread nD τ) (ms0_12 t) fullShare ((datsV m 0 c).after 12 t)
    ∗ owns (c : Thread nD τ) (ms0_13 t) fullShare ((datsV m 0 c).after 13 t)
    ∗ owns (c : Thread nD τ) (ms0_14 t) fullShare ((datsV m 0 c).after 14 t))

set_option maxHeartbeats 4000000 in
/-- The body at any point. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV
  simp only [beforeV0_0, beforeV0_1, beforeV0_2, beforeV0_3, beforeV0_4, beforeV0_5, beforeV0_6, beforeV0_7, beforeV0_8, beforeV0_9, beforeV0_10, beforeV0_11, beforeV0_12, beforeV0_13]
  rw [show (datsV m 0 c).owesAt () t.succ = (datsV m 0 c).owesAt () t.castSucc from rfl,
    afterV0_0, afterV0_1, afterV0_2, afterV0_3, afterV0_4, afterV0_5, afterV0_6, afterV0_7, afterV0_8, afterV0_9, afterV0_10, afterV0_11, afterV0_12, afterV0_13, afterV0_14]
  rw [show (datsV m 0 c).Φ t.succ = PhiV m c (t.val + 1) from rfl, show (datsV m 0 c).Φ t.castSucc = PhiV m c t.val from rfl]
  unfold PhiV
  iintro ⟨⟨⟨%x17, %x18, %x19, %x20, %x21, %x22, %x23, %x24, %x25, %x26, %hk, S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave H0 := (owns_out c (ms0_0 t) (hs0_0 t) _) $$ H0
  ihave H1 := (owns_out c (ms0_1 t) (hs0_1 t) _) $$ H1
  ihave H2 := (owns_out c (ms0_2 t) (hs0_2 t) _) $$ H2
  ihave H3 := (owns_out c (ms0_3 t) (hs0_3 t) _) $$ H3
  ihave H4 := (owns_out c (ms0_4 t) (hs0_4 t) _) $$ H4
  ihave H5 := (owns_out c (ms0_5 t) (hs0_5 t) _) $$ H5
  ihave H6 := (owns_out c (ms0_6 t) (hs0_6 t) _) $$ H6
  ihave H7 := (owns_out c (ms0_7 t) (hs0_7 t) _) $$ H7
  ihave H8 := (owns_out c (ms0_8 t) (hs0_8 t) _) $$ H8
  ihave H9 := (owns_out c (ms0_9 t) (hs0_9 t) _) $$ H9
  ihave H10 := (owns_out c (ms0_10 t) (hs0_10 t) _) $$ H10
  ihave H11 := (owns_out c (ms0_11 t) (hs0_11 t) _) $$ H11
  ihave H12 := (owns_out c (ms0_12 t) (hs0_12 t) _) $$ H12
  ihave H13 := (owns_out c (ms0_13 t) (hs0_13 t) _) $$ H13
  ihave H14 := (owns_out c (ms0_14 t) (hs0_14 t) _) $$ H14
  ihave S0 := (owns_out c scM0_0 scH0_0 _) $$ S0
  ihave S1 := (owns_out c scM0_1 scH0_1 _) $$ S1
  ihave S2 := (owns_out c scM0_2 scH0_2 _) $$ S2
  ihave S3 := (owns_out c scM0_3 scH0_3 _) $$ S3
  ihave S4 := (owns_out c scM0_4 scH0_4 _) $$ S4
  ihave S5 := (owns_out c scM0_5 scH0_5 _) $$ S5
  ihave S6 := (owns_out c scM0_6 scH0_6 _) $$ S6
  ihave S7 := (owns_out c scM0_7 scH0_7 _) $$ S7
  ihave S8 := (owns_out c scM0_8 scH0_8 _) $$ S8
  ihave S9 := (owns_out c scM0_9 scH0_9 _) $$ S9
  iapply (wp_wand_r frame (wpE (defs₀ (F := Ideal)) Variants.none c none) (Q := fun _ => iprop(∃ g16 g17 g18 g19 g20 g21 g22 g23 g24 g25 g26, ⌜(∀ y, (ms0_14 t).view.read (Elt Ideal) g16 y = tileOut m c t y)
    ∧ Carry (inOf m c) (t.val / 16) (256 * (t.val % 16)) (scM0_1.view.read (Elt Ideal) g18) (scM0_3.view.read (Elt Ideal) g20) (scM0_8.view.read (Elt Ideal) g25) (scM0_9.view.read (Elt Ideal) g26)⌝ ∗ Held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) scM0_0 scM0_1 scM0_2 scM0_3 scM0_4 scM0_5 scM0_6 scM0_7 scM0_8 scM0_9 ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_8 t).unread (iblk m c 8 t)) ((hs0_9 t).unread (iblk m c 9 t)) ((hs0_10 t).unread (iblk m c 10 t)) ((hs0_11 t).unread (iblk m c 11 t)) ((hs0_12 t).unread (iblk m c 12 t)) ((hs0_13 t).unread (iblk m c 13 t)) g16 g17 g18 g19 g20 g21 g22 g23 g24 g25 g26)))
  isplitl [H0 H1 H2 H3 H4 H5 H6 H7 H8 H9 H10 H11 H12 H13 H14 S0 S1 S2 S3 S4 S5 S6 S7 S8 S9]
  · iapply (body_val c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 scH0_0 scM0_1 scH0_1 scM0_2 scH0_2 scM0_3 scH0_3 scM0_4 scH0_4 scM0_5 scH0_5 scM0_6 scH0_6 scM0_7 scH0_7 scM0_8 scH0_8 scM0_9 scH0_9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((datsV m 0 c).before 14 t d14) x17 x18 x19 x20 x21 x22 x23 x24 x25 x26 (paramsV m c t) (win_x m c t) (win_mt m c t) hk)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro %_ ⟨%g16, %g17, %g18, %g19, %g20, %g21, %g22, %g23, %g24, %g25, %g26, %hf, H0, H1, H2, H3, H4, H5, H6, H7, H8, H9, H10, H11, H12, H13, H14, S0, S1, S2, S3, S4, S5, S6, S7, S8, S9⟩
  isplitl [S0 S1 S2 S3 S4 S5 S6 S7 S8 S9 Hg]
  · isplitl [S0 S1 S2 S3 S4 S5 S6 S7 S8 S9]
    · iexists (scM0_0.view.read (Elt Ideal) g17); iexists (scM0_1.view.read (Elt Ideal) g18); iexists (scM0_2.view.read (Elt Ideal) g19); iexists (scM0_3.view.read (Elt Ideal) g20); iexists (scM0_4.view.read (Elt Ideal) g21); iexists (scM0_5.view.read (Elt Ideal) g22); iexists (scM0_6.view.read (Elt Ideal) g23); iexists (scM0_7.view.read (Elt Ideal) g24); iexists (scM0_8.view.read (Elt Ideal) g25); iexists (scM0_9.view.read (Elt Ideal) g26)
      isplitr; · ipureintro; exact fun _ => hf.2
      isplitl [S0]; · iapply (owns_in c scM0_0 rfl) $$ S0
      isplitl [S1]; · iapply (owns_in c scM0_1 rfl) $$ S1
      isplitl [S2]; · iapply (owns_in c scM0_2 rfl) $$ S2
      isplitl [S3]; · iapply (owns_in c scM0_3 rfl) $$ S3
      isplitl [S4]; · iapply (owns_in c scM0_4 rfl) $$ S4
      isplitl [S5]; · iapply (owns_in c scM0_5 rfl) $$ S5
      isplitl [S6]; · iapply (owns_in c scM0_6 rfl) $$ S6
      isplitl [S7]; · iapply (owns_in c scM0_7 rfl) $$ S7
      isplitl [S8]; · iapply (owns_in c scM0_8 rfl) $$ S8
      iapply (owns_in c scM0_9 rfl) $$ S9
    iexact Hg
  isplitl [Ho]; · iexact Ho
  isplitl [H0]; · iapply (owns_in c (ms0_0 t) ((hs0_0 t).read_unread _)) $$ H0
  isplitl [H1]; · iapply (owns_in c (ms0_1 t) ((hs0_1 t).read_unread _)) $$ H1
  isplitl [H2]; · iapply (owns_in c (ms0_2 t) ((hs0_2 t).read_unread _)) $$ H2
  isplitl [H3]; · iapply (owns_in c (ms0_3 t) ((hs0_3 t).read_unread _)) $$ H3
  isplitl [H4]; · iapply (owns_in c (ms0_4 t) ((hs0_4 t).read_unread _)) $$ H4
  isplitl [H5]; · iapply (owns_in c (ms0_5 t) ((hs0_5 t).read_unread _)) $$ H5
  isplitl [H6]; · iapply (owns_in c (ms0_6 t) ((hs0_6 t).read_unread _)) $$ H6
  isplitl [H7]; · iapply (owns_in c (ms0_7 t) ((hs0_7 t).read_unread _)) $$ H7
  isplitl [H8]; · iapply (owns_in c (ms0_8 t) ((hs0_8 t).read_unread _)) $$ H8
  isplitl [H9]; · iapply (owns_in c (ms0_9 t) ((hs0_9 t).read_unread _)) $$ H9
  isplitl [H10]; · iapply (owns_in c (ms0_10 t) ((hs0_10 t).read_unread _)) $$ H10
  isplitl [H11]; · iapply (owns_in c (ms0_11 t) ((hs0_11 t).read_unread _)) $$ H11
  isplitl [H12]; · iapply (owns_in c (ms0_12 t) ((hs0_12 t).read_unread _)) $$ H12
  isplitl [H13]; · iapply (owns_in c (ms0_13 t) ((hs0_13 t).read_unread _)) $$ H13
  iapply (owns_in c (ms0_14 t) (funext hf.1)) $$ H14

/-- The library's body obligation, at every point. -/
theorem body_obligationV (c : Dev nD) : BodyObligation (datsV m 0 c) (defs₀ (F := Ideal)) Variants.none () Set.univ := fun t => by
  rw [bigSep_W0, bigSep_W0, defs₀_row]
  exact triple_restated (sound_bodyV m c t) rfl .rfl fun _ => .rfl

theorem hinV (c : Dev nD) : (Pipeline.ΦA spec0 c : sProp 𝕄) ⊢ (datsV m 0 c).Φ 0 := by
  rw [show (datsV m 0 c).Φ 0 = PhiV m c 0 from rfl, PhiA0_eq]
  unfold PhiV
  iintro ⟨⟨⟨%x17, S0⟩, ⟨%x18, S1⟩, ⟨%x19, S2⟩, ⟨%x20, S3⟩, ⟨%x21, S4⟩, ⟨%x22, S5⟩, ⟨%x23, S6⟩, ⟨%x24, S7⟩, ⟨%x25, S8⟩, ⟨%x26, S9⟩⟩, Hg⟩
  isplitl [S0 S1 S2 S3 S4 S5 S6 S7 S8 S9]
  · iexists x17; iexists x18; iexists x19; iexists x20; iexists x21; iexists x22; iexists x23; iexists x24; iexists x25; iexists x26
    isplitr; · ipureintro; exact fun h => absurd rfl h
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact Hg

theorem houtV (c : Dev nD) : (datsV m 0 c).Φ (Fin.last cfg0.N) ⊢ (Pipeline.ΦA spec0 c : sProp 𝕄) := by
  rw [show (datsV m 0 c).Φ (Fin.last cfg0.N) = PhiV m c cfg0.N from rfl, PhiA0_eq]
  unfold PhiV
  iintro ⟨⟨%x17, %x18, %x19, %x20, %x21, %x22, %x23, %x24, %x25, %x26, %_, S0, S1, S2, S3, S4, S5, S6, S7, S8, S9⟩, Hg⟩
  isplitl [S0 S1 S2 S3 S4 S5 S6 S7 S8 S9]
  · isplitl [S0]; · iexists x17; iexact S0
    isplitl [S1]; · iexists x18; iexact S1
    isplitl [S2]; · iexists x19; iexact S2
    isplitl [S3]; · iexists x20; iexact S3
    isplitl [S4]; · iexists x21; iexact S4
    isplitl [S5]; · iexists x22; iexact S5
    isplitl [S6]; · iexists x23; iexact S6
    isplitl [S7]; · iexists x24; iexact S7
    isplitl [S8]; · iexists x25; iexact S8
    iexists x26; iexact S9
  iexact Hg

/-! ## The run and the result -/

set_option backward.isDefEq.respectTransparency.types false in
/-- The launch, every array at its contents after the last point. -/
theorem run_mainV : θ_run defs (onTc (τ := τ) (main (F := Ideal))) (s₀ m ρ) (Pipeline.FramePost cfgs (datsV m) 0 (V m)) :=
  Pipeline.θ_run_frame_track cfgs (datsV m) (0 : Fin 1) launch0 defs₀ Variants.none m ρ main
    (hbody := fun c => (body_obligationV m c).loose) (hshare := fun c => (datsV m 0 c).share_full fun _ => rfl)
    (howed := fun _ _ => rfl) (V := V m) (hmain := hmain m Variants.none) (hA := AV_eq m) (hin := hinV m) (hout := houtV m)

/-- The result array. -/
def resultOf (c : Dev nD) : Buf (Elt Ideal) ((c.tc : Thread nD τ).loc main_v26) :=
  fun y : S4x4096x1024.Idx => (inOf m c).out (y 0).val (y 1).val (y 2).val

theorem final_out (c : Dev nD) : (datsV m 0 c).arrAt 14 cfg0.N = resultOf m c := by
  refine (datsV m 0 c).arrAt_eq_of_covers 14 _ (by decide +kernel) fun t hf y => ?_
  blk_simp
  rw [afterV0_14]
  have := index14 t
  show (inOf m c).out _ _ _ = (inOf m c).out _ _ _
  have e0 : ((win0_14.blk t).view.emb y 0 : ℕ) = t.val / 16 := by blk_simp [this]; try omega
  have e1 : ((win0_14.blk t).view.emb y 1 : ℕ) = 256 * (t.val % 16) + (y 1).val := by blk_simp [this]; simp; omega
  have e2 : ((win0_14.blk t).view.emb y 2 : ℕ) = (y 2).val := by blk_simp [this]; try simp
  rw [e0, e1, e2]

/-- The kernel's run: the result array, and the argument arrays unchanged. -/
theorem value_run : θ_run defs (onTc (τ := τ) (main (F := Ideal))) ⟨m, fun _ => 0, ρ⟩ (fun r => ∀ c : Dev nD,
      r.2.mem ((c.tc : Thread nD τ).loc main_v26) = resultOf m c) :=
  (θ_run defs _ _).mono (fun _ h c => ((h c).1 14).trans (final_out m c)) (run_mainV m ρ)

end Cert.KernelIdeal.Hand

end
-- ==== Proof.KI.V.Ref.lean ====
/- The reference's stages, each as the layer's function of plain indices. -/
module

public import proofs.«01_k».proof.Proof.KI.V.Inputs
public import proofs.«01_k».proof.Proof.Gen.ReferenceIdeal.Read
public import Idealize.ShloMosaic.Lib.KernelVsHost
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Cert.KernelIdeal.Hand (In nD' nE msum sg rms mean lnorm convA convB tapA)
open Idealize.ShloMosaic Idealize.ShloMosaic.TcCoe Idealize.ShloMosaic.Tactic

/-- The fourteen arrays hold the inputs at plain indices. -/
structure Ins (I : In) (x0 : (⟨S4x4096x1024, .f32⟩ : BufTy).Contents (Elt Ideal)) (x1 : (⟨S16x1024, .f32⟩ : BufTy).Contents (Elt Ideal))
    (x2 : (⟨S1x1024, .f32⟩ : BufTy).Contents (Elt Ideal)) (x3 : (⟨S1x1024x9216, .f32⟩ : BufTy).Contents (Elt Ideal))
    (x4 : (⟨S1x31x1024, .f32⟩ : BufTy).Contents (Elt Ideal)) (x5 x6 x7 : (⟨S1x1024, .f32⟩ : BufTy).Contents (Elt Ideal))
    (x8 : (⟨S1x1024x1024, .f32⟩ : BufTy).Contents (Elt Ideal)) (x9 : (⟨S1x1024, .f32⟩ : BufTy).Contents (Elt Ideal))
    (x10 : (⟨S1x3x1024, .f32⟩ : BufTy).Contents (Elt Ideal)) (x11 x12 : (⟨S1x1024x1024, .f32⟩ : BufTy).Contents (Elt Ideal))
    (x13 : (⟨S1024, .f32⟩ : BufTy).Contents (Elt Ideal)) : Prop where
  f0 : ∀ j, x0 j = I.x (j 0).val (j 1).val (j 2).val
  f1 : ∀ j, x1 j = I.mt (j 0).val (j 1).val
  f2 : ∀ j, x2 j = I.ng (j 1).val
  f3 : ∀ j, x3 j = I.win (j 1).val (j 2).val
  f4 : ∀ j, x4 j = I.wa (j 1).val (j 2).val
  f5 : ∀ j, x5 j = I.ba (j 1).val
  f6 : ∀ j, x6 j = I.lg (j 1).val
  f7 : ∀ j, x7 j = I.lb (j 1).val
  f8 : ∀ j, x8 j = I.wao (j 1).val (j 2).val
  f9 : ∀ j, x9 j = I.bao (j 1).val
  f10 : ∀ j, x10 j = I.wb (j 1).val (j 2).val
  f11 : ∀ j, x11 j = I.wbo (j 1).val (j 2).val
  f12 : ∀ j, x12 j = I.wo (j 1).val (j 2).val
  f13 : ∀ j, x13 j = I.fg (j 0).val

variable {I : In} {x0 : (⟨S4x4096x1024, .f32⟩ : BufTy).Contents (Elt Ideal)} {x1 : (⟨S16x1024, .f32⟩ : BufTy).Contents (Elt Ideal)}
  {x2 : (⟨S1x1024, .f32⟩ : BufTy).Contents (Elt Ideal)} {x3 : (⟨S1x1024x9216, .f32⟩ : BufTy).Contents (Elt Ideal)}
  {x4 : (⟨S1x31x1024, .f32⟩ : BufTy).Contents (Elt Ideal)} {x5 x6 x7 : (⟨S1x1024, .f32⟩ : BufTy).Contents (Elt Ideal)}
  {x8 : (⟨S1x1024x1024, .f32⟩ : BufTy).Contents (Elt Ideal)} {x9 : (⟨S1x1024, .f32⟩ : BufTy).Contents (Elt Ideal)}
  {x10 : (⟨S1x3x1024, .f32⟩ : BufTy).Contents (Elt Ideal)} {x11 x12 : (⟨S1x1024x1024, .f32⟩ : BufTy).Contents (Elt Ideal)}
  {x13 : (⟨S1024, .f32⟩ : BufTy).Contents (Elt Ideal)}
  (hI : Ins I x0 x1 x2 x3 x4 x5 x6 x7 x8 x9 x10 x11 x12 x13)
include hI

/-! ## The weights -/

theorem r3 (i : S1024.Idx) : val_main_v3 (F := Ideal) x2 i = I.ng (i 0).val := by
  rw [val_main_v3_apply, hI.f2]
  exact congrArg I.ng (Nat.mod_eq_of_lt (i 0).isLt)

theorem r17 (i : S1024x9216.Idx) : val_main_v17 (F := Ideal) x3 i = I.win (i 0).val (i 1).val := by
  rw [val_main_v17_apply, hI.f3]
  have h0 : (i 0).val < 1024 := (i 0).isLt
  have h1 : (i 1).val < 9216 := (i 1).isLt
  show I.win (((i 0).val * 9216 + (i 1).val) / 9216 % 1024) (((i 0).val * 9216 + (i 1).val) % 9216) = _
  congr 1 <;> omega

theorem r35 (i : S31x1024.Idx) : val_main_v35 (F := Ideal) x4 i = I.wa (i 0).val (i 1).val := by
  rw [val_main_v35_apply, hI.f4]
  have h0 : (i 0).val < 31 := (i 0).isLt
  have h1 : (i 1).val < 1024 := (i 1).isLt
  show I.wa (((i 0).val * 1024 + (i 1).val) / 1024 % 31) (((i 0).val * 1024 + (i 1).val) % 1024) = _
  congr 1 <;> omega

theorem r255 (i : S1024.Idx) : val_main_v255 (F := Ideal) x5 i = I.ba (i 0).val := by
  rw [val_main_v255_apply, hI.f5]
  exact congrArg I.ba (Nat.mod_eq_of_lt (i 0).isLt)

theorem r259 (i : S1024.Idx) : val_main_v259 (F := Ideal) x6 i = I.lg (i 0).val := by
  rw [val_main_v259_apply, hI.f6]
  exact congrArg I.lg (Nat.mod_eq_of_lt (i 0).isLt)

theorem r260 (i : S1024.Idx) : val_main_v260 (F := Ideal) x7 i = I.lb (i 0).val := by
  rw [val_main_v260_apply, hI.f7]
  exact congrArg I.lb (Nat.mod_eq_of_lt (i 0).isLt)

theorem r288 (i : S1024x1024.Idx) : val_main_v288 (F := Ideal) x8 i = I.wao (i 0).val (i 1).val := by
  rw [val_main_v288_apply, hI.f8]
  have h0 : (i 0).val < 1024 := (i 0).isLt
  have h1 : (i 1).val < 1024 := (i 1).isLt
  show I.wao (((i 0).val * 1024 + (i 1).val) / 1024 % 1024) (((i 0).val * 1024 + (i 1).val) % 1024) = _
  congr 1 <;> omega

theorem r290 (i : S1024.Idx) : val_main_v290 (F := Ideal) x9 i = I.bao (i 0).val := by
  rw [val_main_v290_apply, hI.f9]
  exact congrArg I.bao (Nat.mod_eq_of_lt (i 0).isLt)

theorem r295 (i : S3x1024.Idx) : val_main_v295 (F := Ideal) x10 i = I.wb (i 0).val (i 1).val := by
  rw [val_main_v295_apply, hI.f10]
  have h0 : (i 0).val < 3 := (i 0).isLt
  have h1 : (i 1).val < 1024 := (i 1).isLt
  show I.wb (((i 0).val * 1024 + (i 1).val) / 1024 % 3) (((i 0).val * 1024 + (i 1).val) % 1024) = _
  congr 1 <;> omega

theorem r322 (i : S1024x1024.Idx) : val_main_v322 (F := Ideal) x11 i = I.wbo (i 0).val (i 1).val := by
  rw [val_main_v322_apply, hI.f11]
  have h0 : (i 0).val < 1024 := (i 0).isLt
  have h1 : (i 1).val < 1024 := (i 1).isLt
  show I.wbo (((i 0).val * 1024 + (i 1).val) / 1024 % 1024) (((i 0).val * 1024 + (i 1).val) % 1024) = _
  congr 1 <;> omega

theorem r339 (i : S1024x1024.Idx) : val_main_v339 (F := Ideal) x12 i = I.wo (i 0).val (i 1).val := by
  rw [val_main_v339_apply, hI.f12]
  have h0 : (i 0).val < 1024 := (i 0).isLt
  have h1 : (i 1).val < 1024 := (i 1).isLt
  show I.wo (((i 0).val * 1024 + (i 1).val) / 1024 % 1024) (((i 0).val * 1024 + (i 1).val) % 1024) = _
  congr 1 <;> omega

/-! ## The projection -/

theorem r2 (i : S4x4112x1024.Idx) : val_main_v2 (F := Ideal) x0 x1 i = I.s (i 0).val (i 1).val (i 2).val := by
  unfold val_main_v2 In.s
  have h1 : (i 1).val < 4112 := (i 1).isLt
  split
  · next h =>
    refine (concatenate_pair_apply_left 1 (val_main_v1 (F := Ideal) x1) x0 concatenates_S4x16x1024_S4x4096x1024_S4x4112x1024_d1 i rfl (fun | ⟨0, _⟩ => i 0 | ⟨1, _⟩ => ⟨(i 1).val, h⟩ | ⟨2, _⟩ => i 2 : S4x16x1024.Idx) fun b => by
      fin_cases b <;> rfl).trans ?_
    rw [val_main_v1_apply, val_main_v0_apply, hI.f1]
  · next h =>
    refine (concatenate_pair_apply_right 1 (val_main_v1 (F := Ideal) x1) x0 concatenates_S4x16x1024_S4x4096x1024_S4x4112x1024_d1 i rfl rfl (fun | ⟨0, _⟩ => i 0 | ⟨1, _⟩ => ⟨(i 1).val - 16, by show (i 1).val - 16 < 4096; omega⟩ | ⟨2, _⟩ => i 2 : S4x4096x1024.Idx) (fun b hb => by
      fin_cases b <;> first | rfl | exact absurd rfl hb) (by show (i 1).val - 16 + 16 = _; omega)).trans ?_
    rw [hI.f0]

theorem r16 (i : S4x4112x1024.Idx) : val_main_v16 (F := Ideal) x0 x1 x2 i = I.h (i 0).val (i 1).val (i 2).val := by
  simp only [val_main_v16_apply, val_main_v13_apply, val_main_v12_apply, val_main_v11_apply, val_main_v10_apply, val_main_v9_apply, val_main_v8_apply, val_main_v7_apply, val_main_v6_apply, val_main_v5_apply, val_main_v4_apply, val_main_v15_apply, val_main_v14_apply, val_main_cst_apply, val_main_cst_0_apply, val_main_cst_1_apply, r2 hI, r3 hI]
  simp [In.h, rms, msum, nD', nE]

theorem r18 (i : S4x4112x9216.Idx) : val_main_v18 (F := Ideal) x0 x1 x2 x3 i = I.proj (i 0).val (i 1).val (i 2).val := by
  simp only [val_main_v18_apply, r16 hI, r17 hI]
  rfl

omit hI in
theorem sg_eq (y : EReal) : (FloatOps.hostDivf (F := Ideal) (φ := .f32) (FloatOps.ofBits (F := Ideal) .f32 1065353216#32)
    (FloatOps.addf (F := Ideal) (φ := .f32) (FloatOps.ofBits (F := Ideal) .f32 1065353216#32) (FloatOps.hostUnary (F := Ideal) (φ := .f32) .exp (FloatOps.hostNegf (F := Ideal) (φ := .f32) y)))) = sg y := by
  simp [sg]

theorem r34 (i : S4x4112x1024.Idx) : val_main_v34 (F := Ideal) x0 x1 x2 x3 i = I.ua (i 0).val (i 1).val (i 2).val := by
  simp only [val_main_v28_apply, val_main_v29_apply, val_main_v30_apply, val_main_v31_apply, val_main_v32_apply, val_main_v33_apply, val_main_v34_apply, val_main_v19_apply, val_main_v20_apply, val_main_cst_2_apply, val_main_cst_3_apply, r18 hI, sg_eq]
  rfl

theorem r36 (i : S4x4142x1024.Idx) : val_main_v36 (F := Ideal) x0 x1 x2 x3 i = I.uap (i 0).val ((i 1).val - 14) (i 2).val := by
  unfold val_main_v36 In.uap
  have h1 : (i 1).val < 4142 := (i 1).isLt
  split
  · next h =>
    refine (pad_apply_of_not_inside _ _ _ _ _ _ _ i 1 (fun hh => ?_)).trans ?_
    · have := hh.1
      change 30 ≤ (i 1).val at this
      omega
    · exact sitofp_zero (φ := .f32)
  · next h =>
    refine (pad_apply_of_inside _ _ _ _ _ _ _ i (fun | ⟨0, _⟩ => i 0 | ⟨1, _⟩ => ⟨(i 1).val - 30, by show (i 1).val - 30 < 4112; omega⟩ | ⟨2, _⟩ => i 2 : S4x4112x1024.Idx) (fun a => by
      fin_cases a
      · show (i 0).val = 0 + (i 0).val * (0 + 1); omega
      · show (i 1).val = 30 + ((i 1).val - 30) * (0 + 1); omega
      · show (i 2).val = 0 + (i 2).val * (0 + 1); omega)).trans ?_
    rw [r34 hI]
    show I.ua (i 0).val ((i 1).val - 30) (i 2).val = I.ua (i 0).val ((i 1).val - 14 - 16) (i 2).val
    congr 1

theorem r258 (i : S4x4112x1024.Idx) (Q : ℕ) (hQ : (i 1).val = 16 + Q) : val_main_v258 (F := Ideal) x0 x1 x2 x3 x4 x5 i = I.ca (i 0).val Q (i 2).val := by
  have e0 : 16 + Q - 14 = Q + 2 := by omega
  have e (k : ℕ) : k + (16 + Q) - 14 = Q + (k + 2) := by omega
  simp only [val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_v148_apply, val_main_v149_apply, val_main_v150_apply, val_main_v151_apply, val_main_v152_apply, val_main_v153_apply, val_main_v154_apply, val_main_v155_apply, val_main_v156_apply, val_main_v157_apply, val_main_v158_apply, val_main_v159_apply, val_main_v160_apply, val_main_v161_apply, val_main_v162_apply, val_main_v163_apply, val_main_v164_apply, val_main_v165_apply, val_main_v166_apply, val_main_v167_apply, val_main_v168_apply, val_main_v169_apply, val_main_v170_apply, val_main_v171_apply, val_main_v172_apply, val_main_v173_apply, val_main_v174_apply, val_main_v175_apply, val_main_v176_apply, val_main_v177_apply, val_main_v178_apply, val_main_v179_apply, val_main_v180_apply, val_main_v181_apply, val_main_v182_apply, val_main_v183_apply, val_main_v184_apply, val_main_v185_apply, val_main_v186_apply, val_main_v187_apply, val_main_v188_apply, val_main_v189_apply, val_main_v190_apply, val_main_v191_apply, val_main_v192_apply, val_main_v193_apply, val_main_v194_apply, val_main_v195_apply, val_main_v196_apply, val_main_v197_apply, val_main_v198_apply, val_main_v199_apply, val_main_v200_apply, val_main_v201_apply, val_main_v202_apply, val_main_v203_apply, val_main_v204_apply, val_main_v205_apply, val_main_v206_apply, val_main_v207_apply, val_main_v208_apply, val_main_v209_apply, val_main_v210_apply, val_main_v211_apply, val_main_v212_apply, val_main_v213_apply, val_main_v214_apply, val_main_v215_apply, val_main_v216_apply, val_main_v217_apply, val_main_v218_apply, val_main_v219_apply, val_main_v220_apply, val_main_v221_apply, val_main_v222_apply, val_main_v223_apply, val_main_v224_apply, val_main_v225_apply, val_main_v226_apply, val_main_v227_apply, val_main_v228_apply, val_main_v229_apply, val_main_v230_apply, val_main_v231_apply, val_main_v232_apply, val_main_v233_apply, val_main_v234_apply, val_main_v235_apply, val_main_v236_apply, val_main_v237_apply, val_main_v238_apply, val_main_v239_apply, val_main_v240_apply, val_main_v241_apply, val_main_v242_apply, val_main_v243_apply, val_main_v244_apply, val_main_v245_apply, val_main_v246_apply, val_main_v247_apply, val_main_v248_apply, val_main_v249_apply, val_main_v250_apply, val_main_v251_apply, val_main_v252_apply, val_main_v253_apply, val_main_v254_apply, val_main_v256_apply, val_main_v257_apply, val_main_v258_apply, val_main_cst_4_apply, r36 hI, r35 hI, r255 hI, hQ, e0, e]
  have h2 : (i 2).val % 1024 = (i 2).val := Nat.mod_eq_of_lt (i 2).isLt
  simp only [In.ca, convA, tapA, h2]
  generalize (i 2).val = c
  simp only [Nat.reduceEqDiff, if_true, if_false, Nat.reduceAdd, Nat.reduceSub, Nat.add_zero, Nat.sub_zero, ← mul_comm (I.uap _ _ _)]
  simp only [Ideal.addf_def, Ideal.mulf_def, Ideal.ofBits_def, Ideal.ofBits_zero_f32, zero_add]
  ac_rfl

theorem r258' (i : S4x4112x1024.Idx) (h : 16 ≤ (i 1).val) : val_main_v258 (F := Ideal) x0 x1 x2 x3 x4 x5 i = I.ca (i 0).val ((i 1).val - 16) (i 2).val :=
  r258 hI i _ (by omega)

theorem r284 (i : S4x4112x1024.Idx) (Q : ℕ) (hQ : (i 1).val = 16 + Q) : val_main_v284 (F := Ideal) x0 x1 x2 x3 x4 x5 x6 x7 i = lnorm (I.ca (i 0).val Q) I.lg I.lb (i 2).val := by
  have h16 : 16 ≤ (i 1).val := by omega
  have e : (i 1).val - 16 = Q := by omega
  simp only [val_main_v261_apply, val_main_v262_apply, val_main_v263_apply, val_main_v264_apply, val_main_v265_apply, val_main_v266_apply, val_main_v267_apply, val_main_v268_apply, val_main_v269_apply, val_main_v270_apply, val_main_v271_apply, val_main_v272_apply, val_main_v273_apply, val_main_v274_apply, val_main_v275_apply, val_main_v276_apply, val_main_v277_apply, val_main_v278_apply, val_main_v279_apply, val_main_v280_apply, val_main_v281_apply, val_main_v282_apply, val_main_v283_apply, val_main_v284_apply, val_main_cst_5_apply, val_main_cst_6_apply, val_main_cst_7_apply, val_main_cst_8_apply, val_main_cst_9_apply, r258' hI, h16, e, r259 hI, r260 hI]
  simp [lnorm, mean, msum, nD', nE]

theorem r287 (i : S4x4112x1024.Idx) (Q : ℕ) (hQ : (i 1).val = 16 + Q) : val_main_v287 (F := Ideal) x0 x1 x2 x3 x4 x5 x6 x7 i = I.pa (i 0).val Q (i 2).val := by
  simp only [val_main_v285_apply, val_main_v286_apply, val_main_v287_apply, val_main_v21_apply, val_main_call1_v0_apply, val_main_call1_v1_apply, val_main_call1_v2_apply, val_main_call1_v3_apply, val_main_call1_v4_apply, val_main_call1_v5_apply, val_main_call2_v0_apply, val_main_call2_v1_apply, val_main_call2_v2_apply, val_main_call2_v3_apply, val_main_call2_v4_apply, val_main_call2_v5_apply, val_main_call1_cst_apply, val_main_call1_cst_0_apply, val_main_call2_cst_apply, val_main_call2_cst_0_apply, r284 hI _ Q hQ, r18 hI, sg_eq, hQ]
  rfl

theorem r294 (i : S4x4112x1024.Idx) : val_main_v294 (F := Ideal) x0 x1 x2 x3 i = I.cx (i 0).val (i 1).val (i 2).val := by
  simp only [val_main_v294_apply, val_main_v23_apply, val_main_v24_apply, r18 hI]
  rfl

theorem r296 (j : S4x4114x1024.Idx) (h : 2 ≤ (j 1).val) : val_main_v296 (F := Ideal) x0 x1 x2 x3 j = I.cx (j 0).val ((j 1).val - 2) (j 2).val := by
  unfold val_main_v296
  have h1 : (j 1).val < 4114 := (j 1).isLt
  refine (pad_apply_of_inside _ _ _ _ _ _ _ j (fun | ⟨0, _⟩ => j 0 | ⟨1, _⟩ => ⟨(j 1).val - 2, by show (j 1).val - 2 < 4112; omega⟩ | ⟨2, _⟩ => j 2 : S4x4112x1024.Idx) (fun a => by
    fin_cases a
    · show (j 0).val = 0 + (j 0).val * (0 + 1); omega
    · show (j 1).val = 2 + ((j 1).val - 2) * (0 + 1); omega
    · show (j 2).val = 0 + (j 2).val * (0 + 1); omega)).trans ?_
  rw [r294 hI]

theorem r318 (i : S4x4112x1024.Idx) (Q : ℕ) (hQ : (i 1).val = 16 + Q) : val_main_v318 (F := Ideal) x0 x1 x2 x3 x10 i = I.cvb (i 0).val Q (i 2).val := by
  have g0 := r296 hI (idx_main_v297 i) (by show 2 ≤ (i 1).val; omega)
  have g1 := r296 hI (idx_main_v305 i) (by show 2 ≤ 1 + (i 1).val; omega)
  have g2 := r296 hI (idx_main_v312 i) (by show 2 ≤ 2 + (i 1).val; omega)
  have e0 : 16 + Q - 2 = 8 + Q + 6 := by omega
  have e1 : 1 + (16 + Q) - 2 = 8 + Q + 7 := by omega
  have e2 : 2 + (16 + Q) - 2 = 8 + Q + 8 := by omega
  have h2 : (i 2).val % 1024 = (i 2).val := Nat.mod_eq_of_lt (i 2).isLt
  simp only [hQ, e0, e1, e2] at g0 g1 g2
  simp only [val_main_v297_apply, val_main_v298_apply, val_main_v299_apply, val_main_v300_apply, val_main_v301_apply, val_main_v302_apply, val_main_v303_apply, val_main_v304_apply, val_main_v305_apply, val_main_v306_apply, val_main_v307_apply, val_main_v308_apply, val_main_v309_apply, val_main_v310_apply, val_main_v311_apply, val_main_v312_apply, val_main_v313_apply, val_main_v314_apply, val_main_v315_apply, val_main_v316_apply, val_main_v317_apply, val_main_v318_apply, val_main_cst_11_apply, g0, g1, g2, r295 hI, h2]
  simp only [In.cvb, convB]
  generalize (i 2).val = c
  simp only [Nat.add_zero, ← mul_comm (I.cx _ _ _)]
  simp only [Ideal.addf_def, Ideal.mulf_def, Ideal.ofBits_def, Ideal.ofBits_zero_f32, zero_add]
  ac_rfl

theorem r321 (i : S4x4112x1024.Idx) (Q : ℕ) (hQ : (i 1).val = 16 + Q) : val_main_v321 (F := Ideal) x0 x1 x2 x3 x10 i = I.pb (i 0).val Q (i 2).val := by
  simp only [val_main_v319_apply, val_main_v320_apply, val_main_v321_apply, val_main_v22_apply, val_main_v25_apply, val_main_call4_v0_apply, val_main_call4_v1_apply, val_main_call4_v2_apply, val_main_call4_v3_apply, val_main_call4_v4_apply, val_main_call4_v5_apply, val_main_call4_cst_apply, val_main_call4_cst_0_apply, r318 hI _ Q hQ, r18 hI, sg_eq, hQ]
  rfl

theorem r338 (i : S4x4112x1024.Idx) (Q : ℕ) (hQ : (i 1).val = 16 + Q) : val_main_v338 (F := Ideal) x0 x1 x2 x3 x4 x5 x6 x7 x8 x9 x10 x11 i = I.m (i 0).val Q (i 2).val := by
  have ga : val_main_v289 (F := Ideal) x0 x1 x2 x3 x4 x5 x6 x7 x8 i = msum fun x => I.pa (i 0).val Q x * I.wao x (i 2).val := by
    rw [val_main_v289_apply]
    refine Finset.sum_congr rfl fun k _ => ?_
    rw [r287 hI (lidx_main_v289 i k) Q hQ, r288 hI]
  have gb : val_main_v323 (F := Ideal) x0 x1 x2 x3 x10 x11 i = msum fun x => I.pb (i 0).val Q x * I.wbo x (i 2).val := by
    rw [val_main_v323_apply]
    refine Finset.sum_congr rfl fun k _ => ?_
    rw [r321 hI (lidx_main_v323 i k) Q hQ, r322 hI]
  simp only [val_main_v291_apply, val_main_v292_apply, val_main_v293_apply, val_main_v324_apply, val_main_v325_apply, val_main_v326_apply, val_main_v327_apply, val_main_v328_apply, val_main_v329_apply, val_main_v330_apply, val_main_v331_apply, val_main_v332_apply, val_main_v333_apply, val_main_v334_apply, val_main_v335_apply, val_main_v336_apply, val_main_v337_apply, val_main_v338_apply, val_main_v26_apply, val_main_v27_apply, val_main_cst_12_apply, val_main_cst_13_apply, val_main_cst_14_apply, val_main_cst_15_apply, ga, gb, r290 hI, r18 hI, sg_eq, hQ]
  rfl

theorem r341 (i : S4x4112x1024.Idx) (Q : ℕ) (hQ : (i 1).val = 16 + Q) : val_main_v341 (F := Ideal) x0 x1 x2 x3 x4 x5 x6 x7 x8 x9 x10 x11 x12 i = I.res (i 0).val Q (i 2).val := by
  have g : val_main_v340 (F := Ideal) x0 x1 x2 x3 x4 x5 x6 x7 x8 x9 x10 x11 x12 i = msum fun x => I.m (i 0).val Q x * I.wo x (i 2).val := by
    rw [val_main_v340_apply]
    refine Finset.sum_congr rfl fun k _ => ?_
    rw [r338 hI (lidx_main_v340 i k) Q hQ, r339 hI]
  have gs : I.s (i 0).val (i 1).val (i 2).val = I.x (i 0).val Q (i 2).val := by
    rw [hQ, In.s, if_neg (by omega)]
    congr 1; omega
  rw [val_main_v341_apply, g, r2 hI, gs]
  rfl

theorem r341' (i : S4x4112x1024.Idx) (h : 16 ≤ (i 1).val) : val_main_v341 (F := Ideal) x0 x1 x2 x3 x4 x5 x6 x7 x8 x9 x10 x11 x12 i = I.res (i 0).val ((i 1).val - 16) (i 2).val :=
  r341 hI i _ (by omega)

theorem r354 (i : S4x4112x1024.Idx) (Q : ℕ) (hQ : (i 1).val = 16 + Q) : val_main_v354 (F := Ideal) x0 x1 x2 x3 x4 x5 x6 x7 x8 x9 x10 x11 x12 x13 i = I.out (i 0).val Q (i 2).val := by
  have h16 : 16 ≤ (i 1).val := by omega
  have e : (i 1).val - 16 = Q := by omega
  simp only [val_main_v342_apply, val_main_v343_apply, val_main_v344_apply, val_main_v345_apply, val_main_v346_apply, val_main_v347_apply, val_main_v348_apply, val_main_v349_apply, val_main_v350_apply, val_main_v351_apply, val_main_v352_apply, val_main_v353_apply, val_main_v354_apply, val_main_cst_16_apply, val_main_cst_17_apply, val_main_cst_18_apply, r341' hI, h16, e, hI.f13]
  simp [In.out, rms, msum, nD', nE]

/-- The reference's result is the layer's. -/
theorem r355 (i : S4x4096x1024.Idx) : val_main_v355 (F := Ideal) x0 x1 x2 x3 x4 x5 x6 x7 x8 x9 x10 x11 x12 x13 i = I.out (i 0).val (i 1).val (i 2).val := by
  rw [val_main_v355_apply, r354 hI (idx_main_v355 i) (i 1).val rfl]

omit hI in
/-- The inputs read off the arrays are what the arrays hold. -/
theorem ins_of : Ins (In.of x0 x1 x2 x3 x4 x5 x6 x7 x8 x9 x10 x11 x12 x13) x0 x1 x2 x3 x4 x5 x6 x7 x8 x9 x10 x11 x12 x13 := by
  constructor
  all_goals
    intro j
    refine congrArg _ (funext fun a => Fin.ext ?_)
    fin_cases a <;> first
      | exact (Nat.mod_eq_of_lt (j 0).isLt).symm
      | exact (Nat.mod_eq_of_lt (j 1).isLt).symm
      | exact (Nat.mod_eq_of_lt (j 2).isLt).symm
      | exact Nat.lt_one_iff.mp (j 0).isLt

omit hI in
/-- Whatever equal arrays the reference starts from, its result is the layer's. -/
theorem ref_result {y0 y1 y2 y3 y4 y5 y6 y7 y8 y9 y10 y11 y12 y13}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    val_main_v355 (F := Ideal) x0 x1 x2 x3 x4 x5 x6 x7 x8 x9 x10 x11 x12 x13 = fun i => (In.of y0 y1 y2 y3 y4 y5 y6 y7 y8 y9 y10 y11 y12 y13).out (i 0).val (i 1).val (i 2).val := by
  subst h0 h1 h2 h3 h4 h5 h6 h7 h8 h9 h10 h11 h12 h13
  exact funext fun i => r355 ins_of i

end Cert.ReferenceIdeal.Hand
-- ==== Proof.lean ====
module

public import proofs.«01_k».proof.Defs
public import proofs.«01_k».proof.Proof.K.Frame
public import proofs.«01_k».proof.Proof.KI.Frame
public import proofs.«01_k».proof.Proof.KI.V.Frame
public import proofs.«01_k».proof.Proof.KI.V.Ref
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem

/-- The kernel and the reference end with the layer of the same inputs. -/
theorem same_result : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Hand.resultOf m c, ?_, ?_⟩
  · exact (θ_run _ _ _).mono (fun r h c => ⟨h.1 c, h.2 c⟩)
      (θ_run_and (Cert.KernelIdeal.Hand.value_run m g) (Cert.KernelIdeal.Hand.unchanged m g))
  · refine (θ_run _ _ _).mono (fun r h c => ⟨(h c).1.trans ?_, (h c).2⟩) (Cert.ReferenceIdeal.Value.run m' g')
    obtain ⟨h0, h1, h2, h3, h4, h5, h6, h7, h8, h9, h10, h11, h12, h13⟩ := hagree c
    exact (Cert.ReferenceIdeal.Read.val_main_v355_eq (StableHlo.launchContents m' c)).trans
      (Cert.ReferenceIdeal.Hand.ref_result h0 h1 h2 h3 h4 h5 h6 h7 h8 h9 h10 h11 h12 h13)

theorem claim : Cert.Claim :=
  ⟨Cert.Kernel.Gen.facts, Cert.KernelIdeal.Gen.facts, Cert.ReferenceIdeal.Gen.facts,
   fun m g _ => Cert.Kernel.Hand.frame_run m g,
   fun m g _ => Cert.KernelIdeal.Hand.frame_run m g,
   fun m g _ => (θ_run _ _ _).mono (fun r h => ⟨fun c => (h c).2, sem_eq_zero_of_no_sems (by decide) r.2⟩)
     (Cert.ReferenceIdeal.Value.run m g),
   trivial, same_result⟩

end Cert.Proof

end
